-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Scales (m : (ℓ : Loc Cert.Scales.nD Cert.Scales.τ Cert.Scales.sig) → Buf (Elt Bits) ℓ) : Prop :=
  True

def Pre_ReferenceScales (m : (ℓ : Loc Cert.ReferenceScales.nD Cert.ReferenceScales.τ Cert.ReferenceScales.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0)
      ∧ r.2.mem ((c.tc : Thread Cert.Scales.nD Cert.Scales.τ).loc Cert.Scales.main_arg1) = m ((c.tc : Thread Cert.Scales.nD Cert.Scales.τ).loc Cert.Scales.main_arg1)
      ∧ r.2.mem ((c.tc : Thread Cert.Scales.nD Cert.Scales.τ).loc Cert.Scales.main_arg2) = m ((c.tc : Thread Cert.Scales.nD Cert.Scales.τ).loc Cert.Scales.main_arg2))
      ∧ r.2.sem = fun _ => 0)

def quiescent_ReferenceScales [hReferenceScales : Cert.ReferenceScales.Facts] : Prop :=
  ∀ (m : (ℓ : Loc Cert.ReferenceScales.nD Cert.ReferenceScales.τ Cert.ReferenceScales.sig) → Buf (Elt Bits) ℓ) (g : Dev Cert.ReferenceScales.nD → PrngReg), Pre_ReferenceScales m →
    θ_run (Cert.ReferenceScales.defs (F := Bits)) (onTc (τ := Cert.ReferenceScales.τ) (Cert.ReferenceScales.main (F := Bits))) ⟨m, fun _ => 0, g⟩ (fun r => (∀ c : Dev Cert.ReferenceScales.nD,
      r.2.mem ((c.tc : Thread Cert.ReferenceScales.nD Cert.ReferenceScales.τ).loc Cert.ReferenceScales.main_arg0) = m ((c.tc : Thread Cert.ReferenceScales.nD Cert.ReferenceScales.τ).loc Cert.ReferenceScales.main_arg0)
      ∧ r.2.mem ((c.tc : Thread Cert.ReferenceScales.nD Cert.ReferenceScales.τ).loc Cert.ReferenceScales.main_arg1) = m ((c.tc : Thread Cert.ReferenceScales.nD Cert.ReferenceScales.τ).loc Cert.ReferenceScales.main_arg1)
      ∧ r.2.mem ((c.tc : Thread Cert.ReferenceScales.nD Cert.ReferenceScales.τ).loc Cert.ReferenceScales.main_arg2) = m ((c.tc : Thread Cert.ReferenceScales.nD Cert.ReferenceScales.τ).loc Cert.ReferenceScales.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v22)) (v4 : (c : Dev Cert.KernelIdeal.nD) → Buf (Elt Ideal) ((c.tc : Thread Cert.KernelIdeal.nD Cert.KernelIdeal.τ).loc Cert.KernelIdeal.main_v25)) (v5 : (c : Dev Cert.KernelIdeal.nD) → Buf (Elt Ideal) ((c.tc : Thread Cert.KernelIdeal.nD Cert.KernelIdeal.τ).loc Cert.KernelIdeal.main_v28)) (v6 : (c : Dev Cert.KernelIdeal.nD) → Buf (Elt Ideal) ((c.tc : Thread Cert.KernelIdeal.nD Cert.KernelIdeal.τ).loc Cert.KernelIdeal.main_v29)) (v7 : (c : Dev Cert.KernelIdeal.nD) → Buf (Elt Ideal) ((c.tc : Thread Cert.KernelIdeal.nD Cert.KernelIdeal.τ).loc Cert.KernelIdeal.main_v4_0)) (v8 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_v25) = v4 c
          ∧ r.2.mem ((c.tc : Thread Cert.KernelIdeal.nD Cert.KernelIdeal.τ).loc Cert.KernelIdeal.main_v28) = v5 c
          ∧ r.2.mem ((c.tc : Thread Cert.KernelIdeal.nD Cert.KernelIdeal.τ).loc Cert.KernelIdeal.main_v29) = v6 c
          ∧ r.2.mem ((c.tc : Thread Cert.KernelIdeal.nD Cert.KernelIdeal.τ).loc Cert.KernelIdeal.main_v4_0) = v7 c
          ∧ r.2.mem ((c.tc : Thread Cert.KernelIdeal.nD Cert.KernelIdeal.τ).loc Cert.KernelIdeal.main_v30) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v11_5) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_v30) = v5 c
          ∧ r.2.mem ((c.tc : Thread Cert.ReferenceIdeal.nD Cert.ReferenceIdeal.τ).loc Cert.ReferenceIdeal.main_v31) = v6 c
          ∧ r.2.mem ((c.tc : Thread Cert.ReferenceIdeal.nD Cert.ReferenceIdeal.τ).loc Cert.ReferenceIdeal.main_v11_1) = v7 c
          ∧ r.2.mem ((c.tc : Thread Cert.ReferenceIdeal.nD Cert.ReferenceIdeal.τ).loc Cert.ReferenceIdeal.main_v32) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def bitexact_Scales_ReferenceScales [hScales : Cert.Scales.Facts] [hReferenceScales : Cert.ReferenceScales.Facts] : Prop :=
  ∀ (m : (ℓ : Loc Cert.Scales.nD Cert.Scales.τ Cert.Scales.sig) → Buf (Elt Bits) ℓ) (g : Dev Cert.Scales.nD → PrngReg)
    (m' : (ℓ : Loc Cert.ReferenceScales.nD Cert.ReferenceScales.τ Cert.ReferenceScales.sig) → Buf (Elt Bits) ℓ) (g' : Dev Cert.ReferenceScales.nD → PrngReg), Pre_Scales m →
    (∀ c : Dev Cert.Scales.nD,
      m' ((c.tc : Thread Cert.ReferenceScales.nD Cert.ReferenceScales.τ).loc Cert.ReferenceScales.main_arg0) = m ((c.tc : Thread Cert.Scales.nD Cert.Scales.τ).loc Cert.Scales.main_arg0)
      ∧ m' ((c.tc : Thread Cert.ReferenceScales.nD Cert.ReferenceScales.τ).loc Cert.ReferenceScales.main_arg1) = m ((c.tc : Thread Cert.Scales.nD Cert.Scales.τ).loc Cert.Scales.main_arg1)
      ∧ m' ((c.tc : Thread Cert.ReferenceScales.nD Cert.ReferenceScales.τ).loc Cert.ReferenceScales.main_arg2) = m ((c.tc : Thread Cert.Scales.nD Cert.Scales.τ).loc Cert.Scales.main_arg2)) →
    ∃ (v0 : (c : Dev Cert.Scales.nD) → Buf (Elt Bits) ((c.tc : Thread Cert.Scales.nD Cert.Scales.τ).loc Cert.Scales.main_v15)) (v1 : (c : Dev Cert.Scales.nD) → Buf (Elt Bits) ((c.tc : Thread Cert.Scales.nD Cert.Scales.τ).loc Cert.Scales.main_v16)) (v2 : (c : Dev Cert.Scales.nD) → Buf (Elt Bits) ((c.tc : Thread Cert.Scales.nD Cert.Scales.τ).loc Cert.Scales.main_v17)) (v3 : (c : Dev Cert.Scales.nD) → Buf (Elt Bits) ((c.tc : Thread Cert.Scales.nD Cert.Scales.τ).loc Cert.Scales.main_v19)) (v4 : (c : Dev Cert.Scales.nD) → Buf (Elt Bits) ((c.tc : Thread Cert.Scales.nD Cert.Scales.τ).loc Cert.Scales.main_v21)) (v5 : (c : Dev Cert.Scales.nD) → Buf (Elt Bits) ((c.tc : Thread Cert.Scales.nD Cert.Scales.τ).loc Cert.Scales.main_v23)),
      θ_run (Cert.Scales.defs (F := Bits)) (onTc (τ := Cert.Scales.τ) (Cert.Scales.main (F := Bits))) ⟨m, fun _ => 0, g⟩ (fun r => ∀ c : Dev Cert.Scales.nD,
          r.2.mem ((c.tc : Thread Cert.Scales.nD Cert.Scales.τ).loc Cert.Scales.main_v15) = v0 c
          ∧ r.2.mem ((c.tc : Thread Cert.Scales.nD Cert.Scales.τ).loc Cert.Scales.main_v16) = v1 c
          ∧ r.2.mem ((c.tc : Thread Cert.Scales.nD Cert.Scales.τ).loc Cert.Scales.main_v17) = v2 c
          ∧ r.2.mem ((c.tc : Thread Cert.Scales.nD Cert.Scales.τ).loc Cert.Scales.main_v19) = v3 c
          ∧ r.2.mem ((c.tc : Thread Cert.Scales.nD Cert.Scales.τ).loc Cert.Scales.main_v21) = v4 c
          ∧ r.2.mem ((c.tc : Thread Cert.Scales.nD Cert.Scales.τ).loc Cert.Scales.main_v23) = v5 c
          ∧ r.2.mem ((c.tc : Thread Cert.Scales.nD Cert.Scales.τ).loc Cert.Scales.main_arg0) = m ((c.tc : Thread Cert.Scales.nD Cert.Scales.τ).loc Cert.Scales.main_arg0)
          ∧ r.2.mem ((c.tc : Thread Cert.Scales.nD Cert.Scales.τ).loc Cert.Scales.main_arg1) = m ((c.tc : Thread Cert.Scales.nD Cert.Scales.τ).loc Cert.Scales.main_arg1)
          ∧ r.2.mem ((c.tc : Thread Cert.Scales.nD Cert.Scales.τ).loc Cert.Scales.main_arg2) = m ((c.tc : Thread Cert.Scales.nD Cert.Scales.τ).loc Cert.Scales.main_arg2))
      ∧ θ_run (Cert.ReferenceScales.defs (F := Bits)) (onTc (τ := Cert.ReferenceScales.τ) (Cert.ReferenceScales.main (F := Bits))) ⟨m', fun _ => 0, g'⟩ (fun r => ∀ c : Dev Cert.ReferenceScales.nD,
          r.2.mem ((c.tc : Thread Cert.ReferenceScales.nD Cert.ReferenceScales.τ).loc Cert.ReferenceScales.main_v5) = v0 c
          ∧ r.2.mem ((c.tc : Thread Cert.ReferenceScales.nD Cert.ReferenceScales.τ).loc Cert.ReferenceScales.main_v13) = v1 c
          ∧ r.2.mem ((c.tc : Thread Cert.ReferenceScales.nD Cert.ReferenceScales.τ).loc Cert.ReferenceScales.main_v21) = v2 c
          ∧ r.2.mem ((c.tc : Thread Cert.ReferenceScales.nD Cert.ReferenceScales.τ).loc Cert.ReferenceScales.main_v7) = v3 c
          ∧ r.2.mem ((c.tc : Thread Cert.ReferenceScales.nD Cert.ReferenceScales.τ).loc Cert.ReferenceScales.main_v15) = v4 c
          ∧ r.2.mem ((c.tc : Thread Cert.ReferenceScales.nD Cert.ReferenceScales.τ).loc Cert.ReferenceScales.main_v23) = v5 c
          ∧ r.2.mem ((c.tc : Thread Cert.ReferenceScales.nD Cert.ReferenceScales.τ).loc Cert.ReferenceScales.main_arg0) = m' ((c.tc : Thread Cert.ReferenceScales.nD Cert.ReferenceScales.τ).loc Cert.ReferenceScales.main_arg0)
          ∧ r.2.mem ((c.tc : Thread Cert.ReferenceScales.nD Cert.ReferenceScales.τ).loc Cert.ReferenceScales.main_arg1) = m' ((c.tc : Thread Cert.ReferenceScales.nD Cert.ReferenceScales.τ).loc Cert.ReferenceScales.main_arg1)
          ∧ r.2.mem ((c.tc : Thread Cert.ReferenceScales.nD Cert.ReferenceScales.τ).loc Cert.ReferenceScales.main_arg2) = m' ((c.tc : Thread Cert.ReferenceScales.nD Cert.ReferenceScales.τ).loc Cert.ReferenceScales.main_arg2))

def Claim : Prop :=
  ∃ (hKernel : Cert.Kernel.Facts) (hKernelIdeal : Cert.KernelIdeal.Facts) (hReferenceIdeal : Cert.ReferenceIdeal.Facts) (hScales : Cert.Scales.Facts) (hReferenceScales : Cert.ReferenceScales.Facts),
    quiescent_Kernel (hKernel := hKernel)
    ∧ quiescent_KernelIdeal (hKernelIdeal := hKernelIdeal)
    ∧ quiescent_ReferenceIdeal (hReferenceIdeal := hReferenceIdeal)
    ∧ quiescent_Scales (hScales := hScales)
    ∧ quiescent_ReferenceScales (hReferenceScales := hReferenceScales)
    ∧ preserves_Kernel_KernelIdeal
    ∧ algebraic_KernelIdeal_ReferenceIdeal (hKernelIdeal := hKernelIdeal) (hReferenceIdeal := hReferenceIdeal)
    ∧ bitexact_Scales_ReferenceScales (hScales := hScales) (hReferenceScales := hReferenceScales)
-- ==== Kernel.lean ====
abbrev S2x2048x7040 : Shape := ⟨3, ![2, 2048, 7040]⟩
abbrev S7040x2176 : Shape := ⟨2, ![7040, 2176]⟩
abbrev S2x2048x2176 : Shape := ⟨3, ![2, 2048, 2176]⟩
abbrev S16 : Shape := ⟨1, ![16]⟩
abbrev S_ : Shape := ⟨0, ![]⟩
abbrev S4096x7040 : Shape := ⟨2, ![4096, 7040]⟩
abbrev S1x1 : Shape := ⟨2, ![1, 1]⟩
abbrev S256x7040 : Shape := ⟨2, ![256, 7040]⟩
abbrev S7040 : Shape := ⟨1, ![7040]⟩
abbrev S1x7040 : Shape := ⟨2, ![1, 7040]⟩
abbrev S1x1x7040 : Shape := ⟨3, ![1, 1, 7040]⟩
abbrev S1 : Shape := ⟨1, ![1]⟩
abbrev S1x1x1 : Shape := ⟨3, ![1, 1, 1]⟩
abbrev S320x2176 : Shape := ⟨2, ![320, 2176]⟩
abbrev S2176 : Shape := ⟨1, ![2176]⟩
abbrev S1x2176 : Shape := ⟨2, ![1, 2176]⟩
abbrev S1x1x2176 : Shape := ⟨3, ![1, 1, 2176]⟩
abbrev S4096x2176 : Shape := ⟨2, ![4096, 2176]⟩
abbrev S512x2176 : Shape := ⟨2, ![512, 2176]⟩
abbrev S3 : Shape := ⟨1, ![3]⟩
abbrev S1x3 : Shape := ⟨2, ![1, 3]⟩
abbrev S512x8x2176 : Shape := ⟨3, ![512, 8, 2176]⟩
abbrev S512x8x7040 : Shape := ⟨3, ![512, 8, 7040]⟩
abbrev S256x2176 : Shape := ⟨2, ![256, 2176]⟩
abbrev S32x8x2176 : Shape := ⟨3, ![32, 8, 2176]⟩
abbrev S32x8x7040 : Shape := ⟨3, ![32, 8, 7040]⟩
abbrev S4096x640 : Shape := ⟨2, ![4096, 640]⟩
abbrev S640x2176 : Shape := ⟨2, ![640, 2176]⟩
abbrev S15 : Shape := ⟨1, ![15]⟩

abbrev nBuf : Space → Nat
  | .hbm => 47
  | .vmem => 26
  | .smem => 8
  | _ => 0

abbrev bufTy : (tb : Table) → Fin (tcTables nBuf tb) → BufTy
  | .hbm, ⟨0, _⟩ => ⟨S2x2048x7040, .bf16⟩
  | .hbm, ⟨1, _⟩ => ⟨S7040x2176, .f32⟩
  | .hbm, ⟨2, _⟩ => ⟨S2x2048x2176, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x7040, .bf16⟩
  | .hbm, ⟨13, _⟩ => ⟨S1x1, .f32⟩
  | .hbm, ⟨14, _⟩ => ⟨S4096x7040, .fp8e4m3⟩
  | .hbm, ⟨15, _⟩ => ⟨S1x1, .f32⟩
  | .hbm, ⟨16, _⟩ => ⟨S1x1, .f32⟩
  | .hbm, ⟨17, _⟩ => ⟨S7040x2176, .fp8e4m3⟩
  | .hbm, ⟨18, _⟩ => ⟨S1x1, .f32⟩
  | .hbm, ⟨19, _⟩ => ⟨S4096x2176, .bf16⟩
  | .hbm, ⟨20, _⟩ => ⟨S1x1, .f32⟩
  | .hbm, ⟨21, _⟩ => ⟨S4096x2176, .fp8e5m2⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S1, .f32⟩
  | .hbm, ⟨29, _⟩ => ⟨S3, .f32⟩
  | .hbm, ⟨30, _⟩ => ⟨S1x3, .f32⟩
  | .hbm, ⟨31, _⟩ => ⟨S512x8x2176, .bf16⟩
  | .hbm, ⟨32, _⟩ => ⟨S512x8x7040, .bf16⟩
  | .hbm, ⟨33, _⟩ => ⟨S7040x2176, .f32⟩
  | .hbm, ⟨34, _⟩ => ⟨S2x2048x2176, .bf16⟩
  | .hbm, ⟨35, _⟩ => ⟨S2x2048x7040, .bf16⟩
  | .hbm, ⟨36, _⟩ => ⟨S15, .f32⟩
  | .hbm, ⟨37, _⟩ => ⟨S1, .f32⟩
  | .hbm, ⟨38, _⟩ => ⟨S16, .f32⟩
  | .hbm, ⟨39, _⟩ => ⟨S15, .f32⟩
  | .hbm, ⟨40, _⟩ => ⟨S1, .f32⟩
  | .hbm, ⟨41, _⟩ => ⟨S16, .f32⟩
  | .hbm, ⟨42, _⟩ => ⟨S15, .f32⟩
  | .hbm, ⟨43, _⟩ => ⟨S1, .f32⟩
  | .hbm, ⟨44, _⟩ => ⟨S16, .f32⟩
  | .hbm, ⟨45, _⟩ => ⟨S2x2048x7040, .fp8e4m3⟩
  | .hbm, ⟨46, _⟩ => ⟨S2x2048x2176, .fp8e5m2⟩
  | .local _ .vmem, ⟨0, _⟩ => ⟨S256x7040, .bf16⟩
  | .local _ .vmem, ⟨1, _⟩ => ⟨S256x7040, .bf16⟩
  | .local _ .vmem, ⟨2, _⟩ => ⟨S256x7040, .fp8e4m3⟩
  | .local _ .vmem, ⟨3, _⟩ => ⟨S256x7040, .fp8e4m3⟩
  | .local _ .vmem, ⟨4, _⟩ => ⟨S320x2176, .f32⟩
  | .local _ .vmem, ⟨5, _⟩ => ⟨S320x2176, .f32⟩
  | .local _ .vmem, ⟨6, _⟩ => ⟨S320x2176, .fp8e4m3⟩
  | .local _ .vmem, ⟨7, _⟩ => ⟨S320x2176, .fp8e4m3⟩
  | .local _ .vmem, ⟨8, _⟩ => ⟨S512x2176, .bf16⟩
  | .local _ .vmem, ⟨9, _⟩ => ⟨S512x2176, .bf16⟩
  | .local _ .vmem, ⟨10, _⟩ => ⟨S512x2176, .fp8e5m2⟩
  | .local _ .vmem, ⟨11, _⟩ => ⟨S512x2176, .fp8e5m2⟩
  | .local _ .vmem, ⟨12, _⟩ => ⟨S256x7040, .fp8e4m3⟩
  | .local _ .vmem, ⟨13, _⟩ => ⟨S256x7040, .fp8e4m3⟩
  | .local _ .vmem, ⟨14, _⟩ => ⟨S256x2176, .fp8e5m2⟩
  | .local _ .vmem, ⟨15, _⟩ => ⟨S256x2176, .fp8e5m2⟩
  | .local _ .vmem, ⟨16, _⟩ => ⟨S7040x2176, .fp8e4m3⟩
  | .local _ .vmem, ⟨17, _⟩ => ⟨S32x8x2176, .bf16⟩
  | .local _ .vmem, ⟨18, _⟩ => ⟨S32x8x2176, .bf16⟩
  | .local _ .vmem, ⟨19, _⟩ => ⟨S32x8x7040, .bf16⟩
  | .local _ .vmem, ⟨20, _⟩ => ⟨S32x8x7040, .bf16⟩
  | .local _ .vmem, ⟨21, _⟩ => ⟨S4096x640, .fp8e4m3⟩
  | .local _ .vmem, ⟨22, _⟩ => ⟨S4096x640, .fp8e4m3⟩
  | .local _ .vmem, ⟨23, _⟩ => ⟨S4096x2176, .fp8e5m2⟩
  | .local _ .vmem, ⟨24, _⟩ => ⟨S640x2176, .f32⟩
  | .local _ .vmem, ⟨25, _⟩ => ⟨S640x2176, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | .local _ .smem, ⟨6, _⟩ => ⟨S1x3, .f32⟩
  | .local _ .smem, ⟨7, _⟩ => ⟨S1x3, .f32⟩
  | _, _ => ⟨S2x2048x7040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg2_1 : Ref sig .tc := ⟨.vmem, 15, rfl⟩
abbrev cc3_stg3_0 : Ref sig .tc := ⟨.vmem, 16, rfl⟩
abbrev cc3_stg4_0 : Ref sig .tc := ⟨.vmem, 17, rfl⟩
abbrev cc3_stg4_1 : Ref sig .tc := ⟨.vmem, 18, rfl⟩
abbrev cc3_stg5_0 : Ref sig .tc := ⟨.vmem, 19, rfl⟩
abbrev cc3_stg5_1 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_stg0_0 : Ref sig .tc := ⟨.smem, 0, rfl⟩
abbrev cc0_stg3_0 : Ref sig .tc := ⟨.smem, 1, rfl⟩
abbrev cc1_stg0_0 : Ref sig .tc := ⟨.smem, 2, rfl⟩
abbrev cc1_stg3_0 : Ref sig .tc := ⟨.smem, 3, rfl⟩
abbrev cc2_stg0_0 : Ref sig .tc := ⟨.smem, 4, rfl⟩
abbrev cc2_stg3_0 : Ref sig .tc := ⟨.smem, 5, rfl⟩
abbrev cc3_stg0_0 : Ref sig .tc := ⟨.smem, 6, rfl⟩
abbrev cc4_stg0_0 : Ref sig .tc := ⟨.smem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem4_1 : DmaSem sig := 25
abbrev cc3_sem5_0 : DmaSem sig := 26
abbrev cc3_sem5_1 : DmaSem sig := 27
abbrev cc4_sem0_0 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_8 : BitVec 32 := 0#32
  let v22 : BitVec 1 := Scalar.cmpi .ne v21 c0_i32_8
  v22

def k0_cond2 (i : grid0.Coords) : BitVec 1 :=
  let arg0 : BitVec 32 := BitVec.ofNat 32 (i 0).val
  let c0_i32_9 : BitVec 32 := 0#32
  let v23 : BitVec 1 := Scalar.cmpi .ne arg0 c0_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7040 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x7040 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![22], ![false]⟩

def k1_cond1 (i : grid1.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_8 : BitVec 32 := 0#32
  let v19 : BitVec 1 := Scalar.cmpi .ne v18 c0_i32_8
  v19

def k1_cond2 (i : grid1.Coords) : BitVec 1 :=
  let arg0 : BitVec 32 := BitVec.ofNat 32 (i 0).val
  let c0_i32_9 : BitVec 32 := 0#32
  let v20 : BitVec 1 := Scalar.cmpi .ne arg0 c0_i32_9
  let v21 : BitVec 32 := Scalar.extui v20
  let c0_i32_10 : BitVec 32 := 0#32
  let v22 : BitVec 1 := Scalar.cmpi .ne v21 c0_i32_10
  v22

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S320x2176 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S320x2176 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_8 : BitVec 32 := 0#32
  let v22 : BitVec 1 := Scalar.cmpi .ne v21 c0_i32_8
  v22

def k2_cond2 (i : grid2.Coords) : BitVec 1 :=
  let arg0 : BitVec 32 := BitVec.ofNat 32 (i 0).val
  let c0_i32_9 : BitVec 32 := 0#32
  let v23 : BitVec 1 := Scalar.cmpi .ne arg0 c0_i32_9
  let v24 : BitVec 32 := Scalar.extui v23
  let c0_i32_10 : BitVec 32 := 0#32
  let v25 : BitVec 1 := Scalar.cmpi .ne v24 c0_i32_10
  v25

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x2176 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x2176 .fp8e5m2 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .smem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 1 → Memref sig .tc .smem S1x3 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x7040 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x2176 .fp8e5m2 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S7040x2176 .fp8e4m3 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S32x8x2176 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S32x8x7040 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![11], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .smem S1x3 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S4096x640 .fp8e4m3 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4096x2176 .fp8e5m2 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S640x2176 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== ReferenceIdeal.lean ====
abbrev S2x2048x7040 : Shape := ⟨3, ![2, 2048, 7040]⟩
abbrev S7040x2176 : Shape := ⟨2, ![7040, 2176]⟩
abbrev S2x2048x2176 : Shape := ⟨3, ![2, 2048, 2176]⟩
abbrev S16 : Shape := ⟨1, ![16]⟩
abbrev S_ : Shape := ⟨0, ![]⟩
abbrev S4096x7040 : Shape := ⟨2, ![4096, 7040]⟩
abbrev S4096x2176 : Shape := ⟨2, ![4096, 2176]⟩
abbrev S1x1 : Shape := ⟨2, ![1, 1]⟩
abbrev S15 : Shape := ⟨1, ![15]⟩
abbrev S1 : Shape := ⟨1, ![1]⟩

abbrev nBuf : Space → Nat
  | .hbm => 53
  | .vmem => 15
  | .smem => 0
  | _ => 0

abbrev bufTy : (tb : Table) → Fin (tcTables nBuf tb) → BufTy
  | .hbm, ⟨0, _⟩ => ⟨S2x2048x7040, .bf16⟩
  | .hbm, ⟨1, _⟩ => ⟨S7040x2176, .f32⟩
  | .hbm, ⟨2, _⟩ => ⟨S2x2048x2176, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x7040, .bf16⟩
  | .hbm, ⟨13, _⟩ => ⟨S4096x2176, .bf16⟩
  | .hbm, ⟨14, _⟩ => ⟨S1x1, .f32⟩
  | .hbm, ⟨15, _⟩ => ⟨S1x1, .f32⟩
  | .hbm, ⟨16, _⟩ => ⟨S1x1, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S1x1, .f32⟩
  | .hbm, ⟨23, _⟩ => ⟨S4096x7040, .fp8e4m3⟩
  | .hbm, ⟨24, _⟩ => ⟨S7040x2176, .fp8e4m3⟩
  | .hbm, ⟨25, _⟩ => ⟨S4096x2176, .fp8e5m2⟩
  | .hbm, ⟨26, _⟩ => ⟨S4096x2176, .bf16⟩
  | .hbm, ⟨27, _⟩ => ⟨S4096x7040, .bf16⟩
  | .hbm, ⟨28, _⟩ => ⟨S7040x2176, .f32⟩
  | .hbm, ⟨29, _⟩ => ⟨S2x2048x2176, .bf16⟩
  | .hbm, ⟨30, _⟩ => ⟨S2x2048x7040, .bf16⟩
  | .hbm, ⟨31, _⟩ => ⟨S2x2048x7040, .bf16⟩
  | .hbm, ⟨32, _⟩ => ⟨S_, .bf16⟩
  | .hbm, ⟨33, _⟩ => ⟨S_, .bf16⟩
  | .hbm, ⟨34, _⟩ => ⟨S_, .f32⟩
  | .hbm, ⟨35, _⟩ => ⟨S15, .f32⟩
  | .hbm, ⟨36, _⟩ => ⟨S1, .f32⟩
  | .hbm, ⟨37, _⟩ => ⟨S16, .f32⟩
  | .hbm, ⟨38, _⟩ => ⟨S7040x2176, .f32⟩
  | .hbm, ⟨39, _⟩ => ⟨S_, .f32⟩
  | .hbm, ⟨40, _⟩ => ⟨S_, .f32⟩
  | .hbm, ⟨41, _⟩ => ⟨S15, .f32⟩
  | .hbm, ⟨42, _⟩ => ⟨S1, .f32⟩
  | .hbm, ⟨43, _⟩ => ⟨S16, .f32⟩
  | .hbm, ⟨44, _⟩ => ⟨S2x2048x2176, .bf16⟩
  | .hbm, ⟨45, _⟩ => ⟨S_, .bf16⟩
  | .hbm, ⟨46, _⟩ => ⟨S_, .bf16⟩
  | .hbm, ⟨47, _⟩ => ⟨S_, .f32⟩
  | .hbm, ⟨48, _⟩ => ⟨S15, .f32⟩
  | .hbm, ⟨49, _⟩ => ⟨S1, .f32⟩
  | .hbm, ⟨50, _⟩ => ⟨S16, .f32⟩
  | .hbm, ⟨51, _⟩ => ⟨S2x2048x7040, .fp8e4m3⟩
  | .hbm, ⟨52, _⟩ => ⟨S2x2048x2176, .fp8e5m2⟩
  | .local _ .vmem, ⟨0, _⟩ => ⟨S4096x7040, .bf16⟩
  | .local _ .vmem, ⟨1, _⟩ => ⟨S7040x2176, .f32⟩
  | .local _ .vmem, ⟨2, _⟩ => ⟨S4096x2176, .bf16⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S4096x7040, .fp8e4m3⟩
  | .local _ .vmem, ⟨10, _⟩ => ⟨S7040x2176, .fp8e4m3⟩
  | .local _ .vmem, ⟨11, _⟩ => ⟨S4096x2176, .fp8e5m2⟩
  | .local _ .vmem, ⟨12, _⟩ => ⟨S4096x2176, .bf16⟩
  | .local _ .vmem, ⟨13, _⟩ => ⟨S4096x7040, .bf16⟩
  | .local _ .vmem, ⟨14, _⟩ => ⟨S7040x2176, .f32⟩
  | _, _ => ⟨S2x2048x7040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S4096x7040 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7040x2176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x7040 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7040x2176 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x2176 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x2176 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4096x7040 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S7040x2176 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Scales.lean ====
abbrev S16 : Shape := ⟨1, ![16]⟩
abbrev S_ : Shape := ⟨0, ![]⟩

abbrev nBuf : Space → Nat
  | .hbm => 396
  | .vmem => 0
  | .smem => 0
  | _ => 0

abbrev hbmTy0_0 (i : Nat) : BufTy := match i % 128 with
  | 0 => ⟨S16, .f32⟩
  | 1 => ⟨S16, .f32⟩
  | 2 => ⟨S16, .f32⟩
  | 3 => ⟨S_, .f32⟩
  | 4 => ⟨S_, .f32⟩
  | 5 => ⟨S_, .f32⟩
  | 6 => ⟨S_, .f32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .f32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .f32⟩
  | 41 => ⟨S_, .f32⟩
  | 42 => ⟨S_, .i1⟩
  | 43 => ⟨S_, .i32⟩
  | 44 => ⟨S_, .i32⟩
  | 45 => ⟨S_, .f32⟩
  | 46 => ⟨S_, .f32⟩
  | 47 => ⟨S_, .f32⟩
  | 48 => ⟨S_, .f32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .f32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .f32⟩
  | 83 => ⟨S_, .f32⟩
  | 84 => ⟨S_, .i1⟩
  | 85 => ⟨S_, .i32⟩
  | 86 => ⟨S_, .i32⟩
  | 87 => ⟨S_, .f32⟩
  | 88 => ⟨S_, .f32⟩
  | 89 => ⟨S_, .f32⟩
  | 90 => ⟨S_, .f32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .f32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .f32⟩
  | 125 => ⟨S_, .f32⟩
  | 126 => ⟨S_, .i1⟩
  | 127 => ⟨S_, .i32⟩
  | _ => ⟨S16, .f32⟩

abbrev hbmTy0_1 (i : Nat) : BufTy := match i % 128 with
  | 0 => ⟨S_, .i32⟩
  | 1 => ⟨S_, .f32⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .f32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .f32⟩
  | 45 => ⟨S_, .f32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .f32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .f32⟩
  | 89 => ⟨S_, .f32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .f32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i1⟩
  | _ => ⟨S16, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .f32⟩
  | 5 => ⟨S_, .i32⟩
  | 6 => ⟨S_, .f32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .f32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .f32⟩
  | 50 => ⟨S_, .i32⟩
  | 51 => ⟨S_, .f32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .f32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .f32⟩
  | 95 => ⟨S_, .i32⟩
  | 96 => ⟨S_, .f32⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .f32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S16, .f32⟩

abbrev hbmTy0_3 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .f32⟩
  | _ => ⟨S16, .f32⟩

abbrev hbmTy (i : Nat) : BufTy := match i / 128 with
  | 0 => hbmTy0_0 i
  | 1 => hbmTy0_1 i
  | 2 => hbmTy0_2 i
  | 3 => hbmTy0_3 i
  | _ => ⟨S16, .f32⟩

abbrev bufTy : (tb : Table) → Fin (tcTables nBuf tb) → BufTy
  | .hbm, ⟨i, _⟩ => hbmTy i
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_c_1 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_c_3 : Ref sig .tc := ⟨.hbm, 19, rfl⟩
abbrev main_call0_v8 : Ref sig .tc := ⟨.hbm, 20, rfl⟩
abbrev main_call0_c_4 : Ref sig .tc := ⟨.hbm, 21, rfl⟩
abbrev main_call0_v9 : Ref sig .tc := ⟨.hbm, 22, rfl⟩
abbrev main_call0_c_5 : Ref sig .tc := ⟨.hbm, 23, rfl⟩
abbrev main_call0_v10 : Ref sig .tc := ⟨.hbm, 24, rfl⟩
abbrev main_call0_c_6 : Ref sig .tc := ⟨.hbm, 25, rfl⟩
abbrev main_call0_v11 : Ref sig .tc := ⟨.hbm, 26, rfl⟩
abbrev main_call0_c_7 : Ref sig .tc := ⟨.hbm, 27, rfl⟩
abbrev main_call0_v12 : Ref sig .tc := ⟨.hbm, 28, rfl⟩
abbrev main_call0_c_8 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_c_9 : Ref sig .tc := ⟨.hbm, 36, rfl⟩
abbrev main_call0_v19 : Ref sig .tc := ⟨.hbm, 37, rfl⟩
abbrev main_call0_c_10 : Ref sig .tc := ⟨.hbm, 38, rfl⟩
abbrev main_v2_1 : Ref sig .tc := ⟨.hbm, 39, rfl⟩
abbrev main_v2_0 : Ref sig .tc := ⟨.hbm, 40, rfl⟩
abbrev main_cst_1 : Ref sig .tc := ⟨.hbm, 41, rfl⟩
abbrev main_v3 : Ref sig .tc := ⟨.hbm, 42, rfl⟩
abbrev main_c : Ref sig .tc := ⟨.hbm, 43, rfl⟩
abbrev main_v4 : Ref sig .tc := ⟨.hbm, 44, rfl⟩
abbrev main_cst_2 : Ref sig .tc := ⟨.hbm, 45, rfl⟩
abbrev main_v5 : Ref sig .tc := ⟨.hbm, 46, rfl⟩
abbrev main_cst_3 : Ref sig .tc := ⟨.hbm, 47, rfl⟩
abbrev main_v6 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_c_1 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_c_2 : Ref sig .tc := ⟨.hbm, 59, rfl⟩
abbrev main_call2_v7 : Ref sig .tc := ⟨.hbm, 60, rfl⟩
abbrev main_call2_c_3 : Ref sig .tc := ⟨.hbm, 61, rfl⟩
abbrev main_call2_v8 : Ref sig .tc := ⟨.hbm, 62, rfl⟩
abbrev main_call2_c_4 : Ref sig .tc := ⟨.hbm, 63, rfl⟩
abbrev main_call2_v9 : Ref sig .tc := ⟨.hbm, 64, rfl⟩
abbrev main_call2_c_5 : Ref sig .tc := ⟨.hbm, 65, rfl⟩
abbrev main_call2_v10 : Ref sig .tc := ⟨.hbm, 66, rfl⟩
abbrev main_call2_c_6 : Ref sig .tc := ⟨.hbm, 67, rfl⟩
abbrev main_call2_v11 : Ref sig .tc := ⟨.hbm, 68, rfl⟩
abbrev main_call2_c_7 : Ref sig .tc := ⟨.hbm, 69, rfl⟩
abbrev main_call2_v12 : Ref sig .tc := ⟨.hbm, 70, rfl⟩
abbrev main_call2_c_8 : Ref sig .tc := ⟨.hbm, 71, rfl⟩
abbrev main_call2_v13 : Ref sig .tc := ⟨.hbm, 72, rfl⟩
abbrev main_call2_v14 : Ref sig .tc := ⟨.hbm, 73, rfl⟩
abbrev main_call2_v15 : Ref sig .tc := ⟨.hbm, 74, rfl⟩
abbrev main_call2_v16 : Ref sig .tc := ⟨.hbm, 75, rfl⟩
abbrev main_call2_v17 : Ref sig .tc := ⟨.hbm, 76, rfl⟩
abbrev main_call2_v18 : Ref sig .tc := ⟨.hbm, 77, rfl⟩
abbrev main_call2_c_9 : Ref sig .tc := ⟨.hbm, 78, rfl⟩
abbrev main_call2_v19 : Ref sig .tc := ⟨.hbm, 79, rfl⟩
abbrev main_call2_c_10 : Ref sig .tc := ⟨.hbm, 80, rfl⟩
abbrev main_v7_1 : Ref sig .tc := ⟨.hbm, 81, rfl⟩
abbrev main_v7_0 : Ref sig .tc := ⟨.hbm, 82, rfl⟩
abbrev main_cst_4 : Ref sig .tc := ⟨.hbm, 83, rfl⟩
abbrev main_v8 : Ref sig .tc := ⟨.hbm, 84, rfl⟩
abbrev main_c_5 : Ref sig .tc := ⟨.hbm, 85, rfl⟩
abbrev main_v9 : Ref sig .tc := ⟨.hbm, 86, rfl⟩
abbrev main_cst_6 : Ref sig .tc := ⟨.hbm, 87, rfl⟩
abbrev main_v10 : Ref sig .tc := ⟨.hbm, 88, rfl⟩
abbrev main_cst_7 : Ref sig .tc := ⟨.hbm, 89, rfl⟩
abbrev main_v11 : Ref sig .tc := ⟨.hbm, 90, rfl⟩
abbrev main_call4_v0 : Ref sig .tc := ⟨.hbm, 91, rfl⟩
abbrev main_call4_c : Ref sig .tc := ⟨.hbm, 92, rfl⟩
abbrev main_call4_v1 : Ref sig .tc := ⟨.hbm, 93, rfl⟩
abbrev main_call4_c_0 : Ref sig .tc := ⟨.hbm, 94, rfl⟩
abbrev main_call4_v2 : Ref sig .tc := ⟨.hbm, 95, rfl⟩
abbrev main_call4_c_1 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_v6 : Ref sig .tc := ⟨.hbm, 100, rfl⟩
abbrev main_call4_c_2 : Ref sig .tc := ⟨.hbm, 101, rfl⟩
abbrev main_call4_v7 : Ref sig .tc := ⟨.hbm, 102, rfl⟩
abbrev main_call4_c_3 : Ref sig .tc := ⟨.hbm, 103, rfl⟩
abbrev main_call4_v8 : Ref sig .tc := ⟨.hbm, 104, rfl⟩
abbrev main_call4_c_4 : Ref sig .tc := ⟨.hbm, 105, rfl⟩
abbrev main_call4_v9 : Ref sig .tc := ⟨.hbm, 106, rfl⟩
abbrev main_call4_c_5 : Ref sig .tc := ⟨.hbm, 107, rfl⟩
abbrev main_call4_v10 : Ref sig .tc := ⟨.hbm, 108, rfl⟩
abbrev main_call4_c_6 : Ref sig .tc := ⟨.hbm, 109, rfl⟩
abbrev main_call4_v11 : Ref sig .tc := ⟨.hbm, 110, rfl⟩
abbrev main_call4_c_7 : Ref sig .tc := ⟨.hbm, 111, rfl⟩
abbrev main_call4_v12 : Ref sig .tc := ⟨.hbm, 112, rfl⟩
abbrev main_call4_c_8 : Ref sig .tc := ⟨.hbm, 113, rfl⟩
abbrev main_call4_v13 : Ref sig .tc := ⟨.hbm, 114, rfl⟩
abbrev main_call4_v14 : Ref sig .tc := ⟨.hbm, 115, rfl⟩
abbrev main_call4_v15 : Ref sig .tc := ⟨.hbm, 116, rfl⟩
abbrev main_call4_v16 : Ref sig .tc := ⟨.hbm, 117, rfl⟩
abbrev main_call4_v17 : Ref sig .tc := ⟨.hbm, 118, rfl⟩
abbrev main_call4_v18 : Ref sig .tc := ⟨.hbm, 119, rfl⟩
abbrev main_call4_c_9 : Ref sig .tc := ⟨.hbm, 120, rfl⟩
abbrev main_call4_v19 : Ref sig .tc := ⟨.hbm, 121, rfl⟩
abbrev main_call4_c_10 : Ref sig .tc := ⟨.hbm, 122, rfl⟩
abbrev main_v12_1 : Ref sig .tc := ⟨.hbm, 123, rfl⟩
abbrev main_v12_0 : Ref sig .tc := ⟨.hbm, 124, rfl⟩
abbrev main_cst_8 : Ref sig .tc := ⟨.hbm, 125, rfl⟩
abbrev main_v13 : Ref sig .tc := ⟨.hbm, 126, rfl⟩
abbrev main_c_9 : Ref sig .tc := ⟨.hbm, 127, rfl⟩
abbrev main_v14 : Ref sig .tc := ⟨.hbm, 128, rfl⟩
abbrev main_cst_10 : Ref sig .tc := ⟨.hbm, 129, rfl⟩
abbrev main_call6_v0 : Ref sig .tc := ⟨.hbm, 130, rfl⟩
abbrev main_call6_c : Ref sig .tc := ⟨.hbm, 131, rfl⟩
abbrev main_call6_v1 : Ref sig .tc := ⟨.hbm, 132, rfl⟩
abbrev main_call6_c_0 : Ref sig .tc := ⟨.hbm, 133, rfl⟩
abbrev main_call6_v2 : Ref sig .tc := ⟨.hbm, 134, rfl⟩
abbrev main_call6_c_1 : Ref sig .tc := ⟨.hbm, 135, rfl⟩
abbrev main_call6_v3 : Ref sig .tc := ⟨.hbm, 136, rfl⟩
abbrev main_call6_v4 : Ref sig .tc := ⟨.hbm, 137, rfl⟩
abbrev main_call6_v5 : Ref sig .tc := ⟨.hbm, 138, rfl⟩
abbrev main_call6_v6 : Ref sig .tc := ⟨.hbm, 139, rfl⟩
abbrev main_call6_c_2 : Ref sig .tc := ⟨.hbm, 140, rfl⟩
abbrev main_call6_v7 : Ref sig .tc := ⟨.hbm, 141, rfl⟩
abbrev main_call6_c_3 : Ref sig .tc := ⟨.hbm, 142, rfl⟩
abbrev main_call6_v8 : Ref sig .tc := ⟨.hbm, 143, rfl⟩
abbrev main_call6_c_4 : Ref sig .tc := ⟨.hbm, 144, rfl⟩
abbrev main_call6_v9 : Ref sig .tc := ⟨.hbm, 145, rfl⟩
abbrev main_call6_c_5 : Ref sig .tc := ⟨.hbm, 146, rfl⟩
abbrev main_call6_v10 : Ref sig .tc := ⟨.hbm, 147, rfl⟩
abbrev main_call6_c_6 : Ref sig .tc := ⟨.hbm, 148, rfl⟩
abbrev main_call6_v11 : Ref sig .tc := ⟨.hbm, 149, rfl⟩
abbrev main_call6_c_7 : Ref sig .tc := ⟨.hbm, 150, rfl⟩
abbrev main_call6_v12 : Ref sig .tc := ⟨.hbm, 151, rfl⟩
abbrev main_call6_c_8 : Ref sig .tc := ⟨.hbm, 152, rfl⟩
abbrev main_call6_c_9 : Ref sig .tc := ⟨.hbm, 153, rfl⟩
abbrev main_call6_v13 : Ref sig .tc := ⟨.hbm, 154, rfl⟩
abbrev main_call6_v14 : Ref sig .tc := ⟨.hbm, 155, rfl⟩
abbrev main_call6_v15 : Ref sig .tc := ⟨.hbm, 156, rfl⟩
abbrev main_call6_c_10 : Ref sig .tc := ⟨.hbm, 157, rfl⟩
abbrev main_call6_v16 : Ref sig .tc := ⟨.hbm, 158, rfl⟩
abbrev main_call6_v17 : Ref sig .tc := ⟨.hbm, 159, rfl⟩
abbrev main_call6_c_11 : Ref sig .tc := ⟨.hbm, 160, rfl⟩
abbrev main_call6_v18 : Ref sig .tc := ⟨.hbm, 161, rfl⟩
abbrev main_call6_v19 : Ref sig .tc := ⟨.hbm, 162, rfl⟩
abbrev main_call6_v20 : Ref sig .tc := ⟨.hbm, 163, rfl⟩
abbrev main_call6_c_12 : Ref sig .tc := ⟨.hbm, 164, rfl⟩
abbrev main_call6_v21 : Ref sig .tc := ⟨.hbm, 165, rfl⟩
abbrev main_call6_c_13 : Ref sig .tc := ⟨.hbm, 166, rfl⟩
abbrev main_call6_v22 : Ref sig .tc := ⟨.hbm, 167, rfl⟩
abbrev main_call6_v23 : Ref sig .tc := ⟨.hbm, 168, rfl⟩
abbrev main_call6_v24 : Ref sig .tc := ⟨.hbm, 169, rfl⟩
abbrev main_call6_v25 : Ref sig .tc := ⟨.hbm, 170, rfl⟩
abbrev main_call6_v26 : Ref sig .tc := ⟨.hbm, 171, rfl⟩
abbrev main_v15 : Ref sig .tc := ⟨.hbm, 172, rfl⟩
abbrev main_cst_11 : Ref sig .tc := ⟨.hbm, 173, rfl⟩
abbrev main_call7_v0 : Ref sig .tc := ⟨.hbm, 174, rfl⟩
abbrev main_call7_c : Ref sig .tc := ⟨.hbm, 175, rfl⟩
abbrev main_call7_v1 : Ref sig .tc := ⟨.hbm, 176, rfl⟩
abbrev main_call7_c_0 : Ref sig .tc := ⟨.hbm, 177, rfl⟩
abbrev main_call7_v2 : Ref sig .tc := ⟨.hbm, 178, rfl⟩
abbrev main_call7_c_1 : Ref sig .tc := ⟨.hbm, 179, rfl⟩
abbrev main_call7_v3 : Ref sig .tc := ⟨.hbm, 180, rfl⟩
abbrev main_call7_v4 : Ref sig .tc := ⟨.hbm, 181, rfl⟩
abbrev main_call7_v5 : Ref sig .tc := ⟨.hbm, 182, rfl⟩
abbrev main_call7_v6 : Ref sig .tc := ⟨.hbm, 183, rfl⟩
abbrev main_call7_c_2 : Ref sig .tc := ⟨.hbm, 184, rfl⟩
abbrev main_call7_v7 : Ref sig .tc := ⟨.hbm, 185, rfl⟩
abbrev main_call7_c_3 : Ref sig .tc := ⟨.hbm, 186, rfl⟩
abbrev main_call7_v8 : Ref sig .tc := ⟨.hbm, 187, rfl⟩
abbrev main_call7_c_4 : Ref sig .tc := ⟨.hbm, 188, rfl⟩
abbrev main_call7_v9 : Ref sig .tc := ⟨.hbm, 189, rfl⟩
abbrev main_call7_c_5 : Ref sig .tc := ⟨.hbm, 190, rfl⟩
abbrev main_call7_v10 : Ref sig .tc := ⟨.hbm, 191, rfl⟩
abbrev main_call7_c_6 : Ref sig .tc := ⟨.hbm, 192, rfl⟩
abbrev main_call7_v11 : Ref sig .tc := ⟨.hbm, 193, rfl⟩
abbrev main_call7_c_7 : Ref sig .tc := ⟨.hbm, 194, rfl⟩
abbrev main_call7_v12 : Ref sig .tc := ⟨.hbm, 195, rfl⟩
abbrev main_call7_c_8 : Ref sig .tc := ⟨.hbm, 196, rfl⟩
abbrev main_call7_c_9 : Ref sig .tc := ⟨.hbm, 197, rfl⟩
abbrev main_call7_v13 : Ref sig .tc := ⟨.hbm, 198, rfl⟩
abbrev main_call7_v14 : Ref sig .tc := ⟨.hbm, 199, rfl⟩
abbrev main_call7_v15 : Ref sig .tc := ⟨.hbm, 200, rfl⟩
abbrev main_call7_c_10 : Ref sig .tc := ⟨.hbm, 201, rfl⟩
abbrev main_call7_v16 : Ref sig .tc := ⟨.hbm, 202, rfl⟩
abbrev main_call7_v17 : Ref sig .tc := ⟨.hbm, 203, rfl⟩
abbrev main_call7_c_11 : Ref sig .tc := ⟨.hbm, 204, rfl⟩
abbrev main_call7_v18 : Ref sig .tc := ⟨.hbm, 205, rfl⟩
abbrev main_call7_v19 : Ref sig .tc := ⟨.hbm, 206, rfl⟩
abbrev main_call7_v20 : Ref sig .tc := ⟨.hbm, 207, rfl⟩
abbrev main_call7_c_12 : Ref sig .tc := ⟨.hbm, 208, rfl⟩
abbrev main_call7_v21 : Ref sig .tc := ⟨.hbm, 209, rfl⟩
abbrev main_call7_c_13 : Ref sig .tc := ⟨.hbm, 210, rfl⟩
abbrev main_call7_v22 : Ref sig .tc := ⟨.hbm, 211, rfl⟩
abbrev main_call7_v23 : Ref sig .tc := ⟨.hbm, 212, rfl⟩
abbrev main_call7_v24 : Ref sig .tc := ⟨.hbm, 213, rfl⟩
abbrev main_call7_v25 : Ref sig .tc := ⟨.hbm, 214, rfl⟩
abbrev main_call7_v26 : Ref sig .tc := ⟨.hbm, 215, rfl⟩
abbrev main_v16 : Ref sig .tc := ⟨.hbm, 216, rfl⟩
abbrev main_cst_12 : Ref sig .tc := ⟨.hbm, 217, rfl⟩
abbrev main_call8_v0 : Ref sig .tc := ⟨.hbm, 218, rfl⟩
abbrev main_call8_c : Ref sig .tc := ⟨.hbm, 219, rfl⟩
abbrev main_call8_v1 : Ref sig .tc := ⟨.hbm, 220, rfl⟩
abbrev main_call8_c_0 : Ref sig .tc := ⟨.hbm, 221, rfl⟩
abbrev main_call8_v2 : Ref sig .tc := ⟨.hbm, 222, rfl⟩
abbrev main_call8_c_1 : Ref sig .tc := ⟨.hbm, 223, rfl⟩
abbrev main_call8_v3 : Ref sig .tc := ⟨.hbm, 224, rfl⟩
abbrev main_call8_v4 : Ref sig .tc := ⟨.hbm, 225, rfl⟩
abbrev main_call8_v5 : Ref sig .tc := ⟨.hbm, 226, rfl⟩
abbrev main_call8_v6 : Ref sig .tc := ⟨.hbm, 227, rfl⟩
abbrev main_call8_c_2 : Ref sig .tc := ⟨.hbm, 228, rfl⟩
abbrev main_call8_v7 : Ref sig .tc := ⟨.hbm, 229, rfl⟩
abbrev main_call8_c_3 : Ref sig .tc := ⟨.hbm, 230, rfl⟩
abbrev main_call8_v8 : Ref sig .tc := ⟨.hbm, 231, rfl⟩
abbrev main_call8_c_4 : Ref sig .tc := ⟨.hbm, 232, rfl⟩
abbrev main_call8_v9 : Ref sig .tc := ⟨.hbm, 233, rfl⟩
abbrev main_call8_c_5 : Ref sig .tc := ⟨.hbm, 234, rfl⟩
abbrev main_call8_v10 : Ref sig .tc := ⟨.hbm, 235, rfl⟩
abbrev main_call8_c_6 : Ref sig .tc := ⟨.hbm, 236, rfl⟩
abbrev main_call8_v11 : Ref sig .tc := ⟨.hbm, 237, rfl⟩
abbrev main_call8_c_7 : Ref sig .tc := ⟨.hbm, 238, rfl⟩
abbrev main_call8_v12 : Ref sig .tc := ⟨.hbm, 239, rfl⟩
abbrev main_call8_c_8 : Ref sig .tc := ⟨.hbm, 240, rfl⟩
abbrev main_call8_c_9 : Ref sig .tc := ⟨.hbm, 241, rfl⟩
abbrev main_call8_v13 : Ref sig .tc := ⟨.hbm, 242, rfl⟩
abbrev main_call8_v14 : Ref sig .tc := ⟨.hbm, 243, rfl⟩
abbrev main_call8_v15 : Ref sig .tc := ⟨.hbm, 244, rfl⟩
abbrev main_call8_c_10 : Ref sig .tc := ⟨.hbm, 245, rfl⟩
abbrev main_call8_v16 : Ref sig .tc := ⟨.hbm, 246, rfl⟩
abbrev main_call8_v17 : Ref sig .tc := ⟨.hbm, 247, rfl⟩
abbrev main_call8_c_11 : Ref sig .tc := ⟨.hbm, 248, rfl⟩
abbrev main_call8_v18 : Ref sig .tc := ⟨.hbm, 249, rfl⟩
abbrev main_call8_v19 : Ref sig .tc := ⟨.hbm, 250, rfl⟩
abbrev main_call8_v20 : Ref sig .tc := ⟨.hbm, 251, rfl⟩
abbrev main_call8_c_12 : Ref sig .tc := ⟨.hbm, 252, rfl⟩
abbrev main_call8_v21 : Ref sig .tc := ⟨.hbm, 253, rfl⟩
abbrev main_call8_c_13 : Ref sig .tc := ⟨.hbm, 254, rfl⟩
abbrev main_call8_v22 : Ref sig .tc := ⟨.hbm, 255, rfl⟩
abbrev main_call8_v23 : Ref sig .tc := ⟨.hbm, 256, rfl⟩
abbrev main_call8_v24 : Ref sig .tc := ⟨.hbm, 257, rfl⟩
abbrev main_call8_v25 : Ref sig .tc := ⟨.hbm, 258, rfl⟩
abbrev main_call8_v26 : Ref sig .tc := ⟨.hbm, 259, rfl⟩
abbrev main_v17 : Ref sig .tc := ⟨.hbm, 260, rfl⟩
abbrev main_v18 : Ref sig .tc := ⟨.hbm, 261, rfl⟩
abbrev main_cst_13 : Ref sig .tc := ⟨.hbm, 262, rfl⟩
abbrev main_call9_v0 : Ref sig .tc := ⟨.hbm, 263, rfl⟩
abbrev main_call9_c : Ref sig .tc := ⟨.hbm, 264, rfl⟩
abbrev main_call9_v1 : Ref sig .tc := ⟨.hbm, 265, rfl⟩
abbrev main_call9_c_0 : Ref sig .tc := ⟨.hbm, 266, rfl⟩
abbrev main_call9_v2 : Ref sig .tc := ⟨.hbm, 267, rfl⟩
abbrev main_call9_c_1 : Ref sig .tc := ⟨.hbm, 268, rfl⟩
abbrev main_call9_v3 : Ref sig .tc := ⟨.hbm, 269, rfl⟩
abbrev main_call9_v4 : Ref sig .tc := ⟨.hbm, 270, rfl⟩
abbrev main_call9_v5 : Ref sig .tc := ⟨.hbm, 271, rfl⟩
abbrev main_call9_v6 : Ref sig .tc := ⟨.hbm, 272, rfl⟩
abbrev main_call9_c_2 : Ref sig .tc := ⟨.hbm, 273, rfl⟩
abbrev main_call9_v7 : Ref sig .tc := ⟨.hbm, 274, rfl⟩
abbrev main_call9_c_3 : Ref sig .tc := ⟨.hbm, 275, rfl⟩
abbrev main_call9_v8 : Ref sig .tc := ⟨.hbm, 276, rfl⟩
abbrev main_call9_c_4 : Ref sig .tc := ⟨.hbm, 277, rfl⟩
abbrev main_call9_v9 : Ref sig .tc := ⟨.hbm, 278, rfl⟩
abbrev main_call9_c_5 : Ref sig .tc := ⟨.hbm, 279, rfl⟩
abbrev main_call9_v10 : Ref sig .tc := ⟨.hbm, 280, rfl⟩
abbrev main_call9_c_6 : Ref sig .tc := ⟨.hbm, 281, rfl⟩
abbrev main_call9_v11 : Ref sig .tc := ⟨.hbm, 282, rfl⟩
abbrev main_call9_c_7 : Ref sig .tc := ⟨.hbm, 283, rfl⟩
abbrev main_call9_v12 : Ref sig .tc := ⟨.hbm, 284, rfl⟩
abbrev main_call9_c_8 : Ref sig .tc := ⟨.hbm, 285, rfl⟩
abbrev main_call9_c_9 : Ref sig .tc := ⟨.hbm, 286, rfl⟩
abbrev main_call9_v13 : Ref sig .tc := ⟨.hbm, 287, rfl⟩
abbrev main_call9_v14 : Ref sig .tc := ⟨.hbm, 288, rfl⟩
abbrev main_call9_v15 : Ref sig .tc := ⟨.hbm, 289, rfl⟩
abbrev main_call9_c_10 : Ref sig .tc := ⟨.hbm, 290, rfl⟩
abbrev main_call9_v16 : Ref sig .tc := ⟨.hbm, 291, rfl⟩
abbrev main_call9_v17 : Ref sig .tc := ⟨.hbm, 292, rfl⟩
abbrev main_call9_c_11 : Ref sig .tc := ⟨.hbm, 293, rfl⟩
abbrev main_call9_v18 : Ref sig .tc := ⟨.hbm, 294, rfl⟩
abbrev main_call9_v19 : Ref sig .tc := ⟨.hbm, 295, rfl⟩
abbrev main_call9_v20 : Ref sig .tc := ⟨.hbm, 296, rfl⟩
abbrev main_call9_c_12 : Ref sig .tc := ⟨.hbm, 297, rfl⟩
abbrev main_call9_v21 : Ref sig .tc := ⟨.hbm, 298, rfl⟩
abbrev main_call9_c_13 : Ref sig .tc := ⟨.hbm, 299, rfl⟩
abbrev main_call9_v22 : Ref sig .tc := ⟨.hbm, 300, rfl⟩
abbrev main_call9_v23 : Ref sig .tc := ⟨.hbm, 301, rfl⟩
abbrev main_call9_v24 : Ref sig .tc := ⟨.hbm, 302, rfl⟩
abbrev main_call9_v25 : Ref sig .tc := ⟨.hbm, 303, rfl⟩
abbrev main_call9_v26 : Ref sig .tc := ⟨.hbm, 304, rfl⟩
abbrev main_v19 : Ref sig .tc := ⟨.hbm, 305, rfl⟩
abbrev main_v20 : Ref sig .tc := ⟨.hbm, 306, rfl⟩
abbrev main_cst_14 : Ref sig .tc := ⟨.hbm, 307, rfl⟩
abbrev main_call10_v0 : Ref sig .tc := ⟨.hbm, 308, rfl⟩
abbrev main_call10_c : Ref sig .tc := ⟨.hbm, 309, rfl⟩
abbrev main_call10_v1 : Ref sig .tc := ⟨.hbm, 310, rfl⟩
abbrev main_call10_c_0 : Ref sig .tc := ⟨.hbm, 311, rfl⟩
abbrev main_call10_v2 : Ref sig .tc := ⟨.hbm, 312, rfl⟩
abbrev main_call10_c_1 : Ref sig .tc := ⟨.hbm, 313, rfl⟩
abbrev main_call10_v3 : Ref sig .tc := ⟨.hbm, 314, rfl⟩
abbrev main_call10_v4 : Ref sig .tc := ⟨.hbm, 315, rfl⟩
abbrev main_call10_v5 : Ref sig .tc := ⟨.hbm, 316, rfl⟩
abbrev main_call10_v6 : Ref sig .tc := ⟨.hbm, 317, rfl⟩
abbrev main_call10_c_2 : Ref sig .tc := ⟨.hbm, 318, rfl⟩
abbrev main_call10_v7 : Ref sig .tc := ⟨.hbm, 319, rfl⟩
abbrev main_call10_c_3 : Ref sig .tc := ⟨.hbm, 320, rfl⟩
abbrev main_call10_v8 : Ref sig .tc := ⟨.hbm, 321, rfl⟩
abbrev main_call10_c_4 : Ref sig .tc := ⟨.hbm, 322, rfl⟩
abbrev main_call10_v9 : Ref sig .tc := ⟨.hbm, 323, rfl⟩
abbrev main_call10_c_5 : Ref sig .tc := ⟨.hbm, 324, rfl⟩
abbrev main_call10_v10 : Ref sig .tc := ⟨.hbm, 325, rfl⟩
abbrev main_call10_c_6 : Ref sig .tc := ⟨.hbm, 326, rfl⟩
abbrev main_call10_v11 : Ref sig .tc := ⟨.hbm, 327, rfl⟩
abbrev main_call10_c_7 : Ref sig .tc := ⟨.hbm, 328, rfl⟩
abbrev main_call10_v12 : Ref sig .tc := ⟨.hbm, 329, rfl⟩
abbrev main_call10_c_8 : Ref sig .tc := ⟨.hbm, 330, rfl⟩
abbrev main_call10_c_9 : Ref sig .tc := ⟨.hbm, 331, rfl⟩
abbrev main_call10_v13 : Ref sig .tc := ⟨.hbm, 332, rfl⟩
abbrev main_call10_v14 : Ref sig .tc := ⟨.hbm, 333, rfl⟩
abbrev main_call10_v15 : Ref sig .tc := ⟨.hbm, 334, rfl⟩
abbrev main_call10_c_10 : Ref sig .tc := ⟨.hbm, 335, rfl⟩
abbrev main_call10_v16 : Ref sig .tc := ⟨.hbm, 336, rfl⟩
abbrev main_call10_v17 : Ref sig .tc := ⟨.hbm, 337, rfl⟩
abbrev main_call10_c_11 : Ref sig .tc := ⟨.hbm, 338, rfl⟩
abbrev main_call10_v18 : Ref sig .tc := ⟨.hbm, 339, rfl⟩
abbrev main_call10_v19 : Ref sig .tc := ⟨.hbm, 340, rfl⟩
abbrev main_call10_v20 : Ref sig .tc := ⟨.hbm, 341, rfl⟩
abbrev main_call10_c_12 : Ref sig .tc := ⟨.hbm, 342, rfl⟩
abbrev main_call10_v21 : Ref sig .tc := ⟨.hbm, 343, rfl⟩
abbrev main_call10_c_13 : Ref sig .tc := ⟨.hbm, 344, rfl⟩
abbrev main_call10_v22 : Ref sig .tc := ⟨.hbm, 345, rfl⟩
abbrev main_call10_v23 : Ref sig .tc := ⟨.hbm, 346, rfl⟩
abbrev main_call10_v24 : Ref sig .tc := ⟨.hbm, 347, rfl⟩
abbrev main_call10_v25 : Ref sig .tc := ⟨.hbm, 348, rfl⟩
abbrev main_call10_v26 : Ref sig .tc := ⟨.hbm, 349, rfl⟩
abbrev main_v21 : Ref sig .tc := ⟨.hbm, 350, rfl⟩
abbrev main_v22 : Ref sig .tc := ⟨.hbm, 351, rfl⟩
abbrev main_cst_15 : Ref sig .tc := ⟨.hbm, 352, rfl⟩
abbrev main_call11_v0 : Ref sig .tc := ⟨.hbm, 353, rfl⟩
abbrev main_call11_c : Ref sig .tc := ⟨.hbm, 354, rfl⟩
abbrev main_call11_v1 : Ref sig .tc := ⟨.hbm, 355, rfl⟩
abbrev main_call11_c_0 : Ref sig .tc := ⟨.hbm, 356, rfl⟩
abbrev main_call11_v2 : Ref sig .tc := ⟨.hbm, 357, rfl⟩
abbrev main_call11_c_1 : Ref sig .tc := ⟨.hbm, 358, rfl⟩
abbrev main_call11_v3 : Ref sig .tc := ⟨.hbm, 359, rfl⟩
abbrev main_call11_v4 : Ref sig .tc := ⟨.hbm, 360, rfl⟩
abbrev main_call11_v5 : Ref sig .tc := ⟨.hbm, 361, rfl⟩
abbrev main_call11_v6 : Ref sig .tc := ⟨.hbm, 362, rfl⟩
abbrev main_call11_c_2 : Ref sig .tc := ⟨.hbm, 363, rfl⟩
abbrev main_call11_v7 : Ref sig .tc := ⟨.hbm, 364, rfl⟩
abbrev main_call11_c_3 : Ref sig .tc := ⟨.hbm, 365, rfl⟩
abbrev main_call11_v8 : Ref sig .tc := ⟨.hbm, 366, rfl⟩
abbrev main_call11_c_4 : Ref sig .tc := ⟨.hbm, 367, rfl⟩
abbrev main_call11_v9 : Ref sig .tc := ⟨.hbm, 368, rfl⟩
abbrev main_call11_c_5 : Ref sig .tc := ⟨.hbm, 369, rfl⟩
abbrev main_call11_v10 : Ref sig .tc := ⟨.hbm, 370, rfl⟩
abbrev main_call11_c_6 : Ref sig .tc := ⟨.hbm, 371, rfl⟩
abbrev main_call11_v11 : Ref sig .tc := ⟨.hbm, 372, rfl⟩
abbrev main_call11_c_7 : Ref sig .tc := ⟨.hbm, 373, rfl⟩
abbrev main_call11_v12 : Ref sig .tc := ⟨.hbm, 374, rfl⟩
abbrev main_call11_c_8 : Ref sig .tc := ⟨.hbm, 375, rfl⟩
abbrev main_call11_c_9 : Ref sig .tc := ⟨.hbm, 376, rfl⟩
abbrev main_call11_v13 : Ref sig .tc := ⟨.hbm, 377, rfl⟩
abbrev main_call11_v14 : Ref sig .tc := ⟨.hbm, 378, rfl⟩
abbrev main_call11_v15 : Ref sig .tc := ⟨.hbm, 379, rfl⟩
abbrev main_call11_c_10 : Ref sig .tc := ⟨.hbm, 380, rfl⟩
abbrev main_call11_v16 : Ref sig .tc := ⟨.hbm, 381, rfl⟩
abbrev main_call11_v17 : Ref sig .tc := ⟨.hbm, 382, rfl⟩
abbrev main_call11_c_11 : Ref sig .tc := ⟨.hbm, 383, rfl⟩
abbrev main_call11_v18 : Ref sig .tc := ⟨.hbm, 384, rfl⟩
abbrev main_call11_v19 : Ref sig .tc := ⟨.hbm, 385, rfl⟩
abbrev main_call11_v20 : Ref sig .tc := ⟨.hbm, 386, rfl⟩
abbrev main_call11_c_12 : Ref sig .tc := ⟨.hbm, 387, rfl⟩
abbrev main_call11_v21 : Ref sig .tc := ⟨.hbm, 388, rfl⟩
abbrev main_call11_c_13 : Ref sig .tc := ⟨.hbm, 389, rfl⟩
abbrev main_call11_v22 : Ref sig .tc := ⟨.hbm, 390, rfl⟩
abbrev main_call11_v23 : Ref sig .tc := ⟨.hbm, 391, rfl⟩
abbrev main_call11_v24 : Ref sig .tc := ⟨.hbm, 392, rfl⟩
abbrev main_call11_v25 : Ref sig .tc := ⟨.hbm, 393, rfl⟩
abbrev main_call11_v26 : Ref sig .tc := ⟨.hbm, 394, rfl⟩
abbrev main_v23 : Ref sig .tc := ⟨.hbm, 395, rfl⟩

abbrev nD : Nat := 1
abbrev τ : Topo := Topo.v7x

variable {F : FTy → Type} [BitOps F]
-- ==== ReferenceScales.lean ====
abbrev S16 : Shape := ⟨1, ![16]⟩
abbrev S_ : Shape := ⟨0, ![]⟩

abbrev nBuf : Space → Nat
  | .hbm => 396
  | .vmem => 0
  | .smem => 0
  | _ => 0

abbrev hbmTy0_0 (i : Nat) : BufTy := match i % 128 with
  | 0 => ⟨S16, .f32⟩
  | 1 => ⟨S16, .f32⟩
  | 2 => ⟨S16, .f32⟩
  | 3 => ⟨S_, .f32⟩
  | 4 => ⟨S_, .f32⟩
  | 5 => ⟨S_, .f32⟩
  | 6 => ⟨S_, .f32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .f32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .f32⟩
  | 41 => ⟨S_, .f32⟩
  | 42 => ⟨S_, .i1⟩
  | 43 => ⟨S_, .i32⟩
  | 44 => ⟨S_, .i32⟩
  | 45 => ⟨S_, .f32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .f32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .f32⟩
  | 89 => ⟨S_, .i32⟩
  | 90 => ⟨S_, .f32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .f32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i1⟩
  | 127 => ⟨S_, .i32⟩
  | _ => ⟨S16, .f32⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .f32⟩
  | 6 => ⟨S_, .f32⟩
  | 7 => ⟨S_, .f32⟩
  | 8 => ⟨S_, .f32⟩
  | 9 => ⟨S_, .f32⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .f32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .f32⟩
  | 44 => ⟨S_, .f32⟩
  | 45 => ⟨S_, .i1⟩
  | 46 => ⟨S_, .i32⟩
  | 47 => ⟨S_, .i32⟩
  | 48 => ⟨S_, .f32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .f32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .f32⟩
  | 92 => ⟨S_, .i32⟩
  | 93 => ⟨S_, .f32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .f32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S16, .f32⟩

abbrev hbmTy0_2 (i : Nat) : BufTy := match i % 128 with
  | 0 => ⟨S_, .i32⟩
  | 1 => ⟨S_, .i1⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .f32⟩
  | 9 => ⟨S_, .f32⟩
  | 10 => ⟨S_, .f32⟩
  | 11 => ⟨S_, .f32⟩
  | 12 => ⟨S_, .f32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .f32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .f32⟩
  | 47 => ⟨S_, .f32⟩
  | 48 => ⟨S_, .i1⟩
  | 49 => ⟨S_, .i32⟩
  | 50 => ⟨S_, .i32⟩
  | 51 => ⟨S_, .f32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .f32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .f32⟩
  | 95 => ⟨S_, .i32⟩
  | 96 => ⟨S_, .f32⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .f32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S16, .f32⟩

abbrev hbmTy0_3 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .f32⟩
  | _ => ⟨S16, .f32⟩

abbrev hbmTy (i : Nat) : BufTy := match i / 128 with
  | 0 => hbmTy0_0 i
  | 1 => hbmTy0_1 i
  | 2 => hbmTy0_2 i
  | 3 => hbmTy0_3 i
  | _ => ⟨S16, .f32⟩

abbrev bufTy : (tb : Table) → Fin (tcTables nBuf tb) → BufTy
  | .hbm, ⟨i, _⟩ => hbmTy i
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_c_1 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_c_3 : Ref sig .tc := ⟨.hbm, 19, rfl⟩
abbrev main_call0_v8 : Ref sig .tc := ⟨.hbm, 20, rfl⟩
abbrev main_call0_c_4 : Ref sig .tc := ⟨.hbm, 21, rfl⟩
abbrev main_call0_v9 : Ref sig .tc := ⟨.hbm, 22, rfl⟩
abbrev main_call0_c_5 : Ref sig .tc := ⟨.hbm, 23, rfl⟩
abbrev main_call0_v10 : Ref sig .tc := ⟨.hbm, 24, rfl⟩
abbrev main_call0_c_6 : Ref sig .tc := ⟨.hbm, 25, rfl⟩
abbrev main_call0_v11 : Ref sig .tc := ⟨.hbm, 26, rfl⟩
abbrev main_call0_c_7 : Ref sig .tc := ⟨.hbm, 27, rfl⟩
abbrev main_call0_v12 : Ref sig .tc := ⟨.hbm, 28, rfl⟩
abbrev main_call0_c_8 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_c_9 : Ref sig .tc := ⟨.hbm, 36, rfl⟩
abbrev main_call0_v19 : Ref sig .tc := ⟨.hbm, 37, rfl⟩
abbrev main_call0_c_10 : Ref sig .tc := ⟨.hbm, 38, rfl⟩
abbrev main_v2_1 : Ref sig .tc := ⟨.hbm, 39, rfl⟩
abbrev main_v2_0 : Ref sig .tc := ⟨.hbm, 40, rfl⟩
abbrev main_cst_1 : Ref sig .tc := ⟨.hbm, 41, rfl⟩
abbrev main_v3 : Ref sig .tc := ⟨.hbm, 42, rfl⟩
abbrev main_c : Ref sig .tc := ⟨.hbm, 43, rfl⟩
abbrev main_v4 : Ref sig .tc := ⟨.hbm, 44, rfl⟩
abbrev main_cst_2 : Ref sig .tc := ⟨.hbm, 45, rfl⟩
abbrev main_call2_v0 : Ref sig .tc := ⟨.hbm, 46, rfl⟩
abbrev main_call2_c : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_c_1 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_c_2 : Ref sig .tc := ⟨.hbm, 56, rfl⟩
abbrev main_call2_v7 : Ref sig .tc := ⟨.hbm, 57, rfl⟩
abbrev main_call2_c_3 : Ref sig .tc := ⟨.hbm, 58, rfl⟩
abbrev main_call2_v8 : Ref sig .tc := ⟨.hbm, 59, rfl⟩
abbrev main_call2_c_4 : Ref sig .tc := ⟨.hbm, 60, rfl⟩
abbrev main_call2_v9 : Ref sig .tc := ⟨.hbm, 61, rfl⟩
abbrev main_call2_c_5 : Ref sig .tc := ⟨.hbm, 62, rfl⟩
abbrev main_call2_v10 : Ref sig .tc := ⟨.hbm, 63, rfl⟩
abbrev main_call2_c_6 : Ref sig .tc := ⟨.hbm, 64, rfl⟩
abbrev main_call2_v11 : Ref sig .tc := ⟨.hbm, 65, rfl⟩
abbrev main_call2_c_7 : Ref sig .tc := ⟨.hbm, 66, rfl⟩
abbrev main_call2_v12 : Ref sig .tc := ⟨.hbm, 67, rfl⟩
abbrev main_call2_c_8 : Ref sig .tc := ⟨.hbm, 68, rfl⟩
abbrev main_call2_c_9 : Ref sig .tc := ⟨.hbm, 69, rfl⟩
abbrev main_call2_v13 : Ref sig .tc := ⟨.hbm, 70, rfl⟩
abbrev main_call2_v14 : Ref sig .tc := ⟨.hbm, 71, rfl⟩
abbrev main_call2_v15 : Ref sig .tc := ⟨.hbm, 72, rfl⟩
abbrev main_call2_c_10 : Ref sig .tc := ⟨.hbm, 73, rfl⟩
abbrev main_call2_v16 : Ref sig .tc := ⟨.hbm, 74, rfl⟩
abbrev main_call2_v17 : Ref sig .tc := ⟨.hbm, 75, rfl⟩
abbrev main_call2_c_11 : Ref sig .tc := ⟨.hbm, 76, rfl⟩
abbrev main_call2_v18 : Ref sig .tc := ⟨.hbm, 77, rfl⟩
abbrev main_call2_v19 : Ref sig .tc := ⟨.hbm, 78, rfl⟩
abbrev main_call2_v20 : Ref sig .tc := ⟨.hbm, 79, rfl⟩
abbrev main_call2_c_12 : Ref sig .tc := ⟨.hbm, 80, rfl⟩
abbrev main_call2_v21 : Ref sig .tc := ⟨.hbm, 81, rfl⟩
abbrev main_call2_c_13 : Ref sig .tc := ⟨.hbm, 82, rfl⟩
abbrev main_call2_v22 : Ref sig .tc := ⟨.hbm, 83, rfl⟩
abbrev main_call2_v23 : Ref sig .tc := ⟨.hbm, 84, rfl⟩
abbrev main_call2_v24 : Ref sig .tc := ⟨.hbm, 85, rfl⟩
abbrev main_call2_v25 : Ref sig .tc := ⟨.hbm, 86, rfl⟩
abbrev main_call2_v26 : Ref sig .tc := ⟨.hbm, 87, rfl⟩
abbrev main_v5 : Ref sig .tc := ⟨.hbm, 88, rfl⟩
abbrev main_v6 : Ref sig .tc := ⟨.hbm, 89, rfl⟩
abbrev main_cst_3 : Ref sig .tc := ⟨.hbm, 90, rfl⟩
abbrev main_call3_v0 : Ref sig .tc := ⟨.hbm, 91, rfl⟩
abbrev main_call3_c : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_c_1 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_c_2 : Ref sig .tc := ⟨.hbm, 101, rfl⟩
abbrev main_call3_v7 : Ref sig .tc := ⟨.hbm, 102, rfl⟩
abbrev main_call3_c_3 : Ref sig .tc := ⟨.hbm, 103, rfl⟩
abbrev main_call3_v8 : Ref sig .tc := ⟨.hbm, 104, rfl⟩
abbrev main_call3_c_4 : Ref sig .tc := ⟨.hbm, 105, rfl⟩
abbrev main_call3_v9 : Ref sig .tc := ⟨.hbm, 106, rfl⟩
abbrev main_call3_c_5 : Ref sig .tc := ⟨.hbm, 107, rfl⟩
abbrev main_call3_v10 : Ref sig .tc := ⟨.hbm, 108, rfl⟩
abbrev main_call3_c_6 : Ref sig .tc := ⟨.hbm, 109, rfl⟩
abbrev main_call3_v11 : Ref sig .tc := ⟨.hbm, 110, rfl⟩
abbrev main_call3_c_7 : Ref sig .tc := ⟨.hbm, 111, rfl⟩
abbrev main_call3_v12 : Ref sig .tc := ⟨.hbm, 112, rfl⟩
abbrev main_call3_c_8 : Ref sig .tc := ⟨.hbm, 113, rfl⟩
abbrev main_call3_c_9 : Ref sig .tc := ⟨.hbm, 114, rfl⟩
abbrev main_call3_v13 : Ref sig .tc := ⟨.hbm, 115, rfl⟩
abbrev main_call3_v14 : Ref sig .tc := ⟨.hbm, 116, rfl⟩
abbrev main_call3_v15 : Ref sig .tc := ⟨.hbm, 117, rfl⟩
abbrev main_call3_c_10 : Ref sig .tc := ⟨.hbm, 118, rfl⟩
abbrev main_call3_v16 : Ref sig .tc := ⟨.hbm, 119, rfl⟩
abbrev main_call3_v17 : Ref sig .tc := ⟨.hbm, 120, rfl⟩
abbrev main_call3_c_11 : Ref sig .tc := ⟨.hbm, 121, rfl⟩
abbrev main_call3_v18 : Ref sig .tc := ⟨.hbm, 122, rfl⟩
abbrev main_call3_v19 : Ref sig .tc := ⟨.hbm, 123, rfl⟩
abbrev main_call3_v20 : Ref sig .tc := ⟨.hbm, 124, rfl⟩
abbrev main_call3_c_12 : Ref sig .tc := ⟨.hbm, 125, rfl⟩
abbrev main_call3_v21 : Ref sig .tc := ⟨.hbm, 126, rfl⟩
abbrev main_call3_c_13 : Ref sig .tc := ⟨.hbm, 127, rfl⟩
abbrev main_call3_v22 : Ref sig .tc := ⟨.hbm, 128, rfl⟩
abbrev main_call3_v23 : Ref sig .tc := ⟨.hbm, 129, rfl⟩
abbrev main_call3_v24 : Ref sig .tc := ⟨.hbm, 130, rfl⟩
abbrev main_call3_v25 : Ref sig .tc := ⟨.hbm, 131, rfl⟩
abbrev main_call3_v26 : Ref sig .tc := ⟨.hbm, 132, rfl⟩
abbrev main_v7 : Ref sig .tc := ⟨.hbm, 133, rfl⟩
abbrev main_cst_4 : Ref sig .tc := ⟨.hbm, 134, rfl⟩
abbrev main_v8 : Ref sig .tc := ⟨.hbm, 135, rfl⟩
abbrev main_cst_5 : Ref sig .tc := ⟨.hbm, 136, rfl⟩
abbrev main_v9 : Ref sig .tc := ⟨.hbm, 137, rfl⟩
abbrev main_call4_v0 : Ref sig .tc := ⟨.hbm, 138, rfl⟩
abbrev main_call4_c : Ref sig .tc := ⟨.hbm, 139, rfl⟩
abbrev main_call4_v1 : Ref sig .tc := ⟨.hbm, 140, rfl⟩
abbrev main_call4_c_0 : Ref sig .tc := ⟨.hbm, 141, rfl⟩
abbrev main_call4_v2 : Ref sig .tc := ⟨.hbm, 142, rfl⟩
abbrev main_call4_c_1 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_v6 : Ref sig .tc := ⟨.hbm, 147, rfl⟩
abbrev main_call4_c_2 : Ref sig .tc := ⟨.hbm, 148, rfl⟩
abbrev main_call4_v7 : Ref sig .tc := ⟨.hbm, 149, rfl⟩
abbrev main_call4_c_3 : Ref sig .tc := ⟨.hbm, 150, rfl⟩
abbrev main_call4_v8 : Ref sig .tc := ⟨.hbm, 151, rfl⟩
abbrev main_call4_c_4 : Ref sig .tc := ⟨.hbm, 152, rfl⟩
abbrev main_call4_v9 : Ref sig .tc := ⟨.hbm, 153, rfl⟩
abbrev main_call4_c_5 : Ref sig .tc := ⟨.hbm, 154, rfl⟩
abbrev main_call4_v10 : Ref sig .tc := ⟨.hbm, 155, rfl⟩
abbrev main_call4_c_6 : Ref sig .tc := ⟨.hbm, 156, rfl⟩
abbrev main_call4_v11 : Ref sig .tc := ⟨.hbm, 157, rfl⟩
abbrev main_call4_c_7 : Ref sig .tc := ⟨.hbm, 158, rfl⟩
abbrev main_call4_v12 : Ref sig .tc := ⟨.hbm, 159, rfl⟩
abbrev main_call4_c_8 : Ref sig .tc := ⟨.hbm, 160, rfl⟩
abbrev main_call4_v13 : Ref sig .tc := ⟨.hbm, 161, rfl⟩
abbrev main_call4_v14 : Ref sig .tc := ⟨.hbm, 162, rfl⟩
abbrev main_call4_v15 : Ref sig .tc := ⟨.hbm, 163, rfl⟩
abbrev main_call4_v16 : Ref sig .tc := ⟨.hbm, 164, rfl⟩
abbrev main_call4_v17 : Ref sig .tc := ⟨.hbm, 165, rfl⟩
abbrev main_call4_v18 : Ref sig .tc := ⟨.hbm, 166, rfl⟩
abbrev main_call4_c_9 : Ref sig .tc := ⟨.hbm, 167, rfl⟩
abbrev main_call4_v19 : Ref sig .tc := ⟨.hbm, 168, rfl⟩
abbrev main_call4_c_10 : Ref sig .tc := ⟨.hbm, 169, rfl⟩
abbrev main_v10_1 : Ref sig .tc := ⟨.hbm, 170, rfl⟩
abbrev main_v10_0 : Ref sig .tc := ⟨.hbm, 171, rfl⟩
abbrev main_cst_6 : Ref sig .tc := ⟨.hbm, 172, rfl⟩
abbrev main_v11 : Ref sig .tc := ⟨.hbm, 173, rfl⟩
abbrev main_c_7 : Ref sig .tc := ⟨.hbm, 174, rfl⟩
abbrev main_v12 : Ref sig .tc := ⟨.hbm, 175, rfl⟩
abbrev main_cst_8 : Ref sig .tc := ⟨.hbm, 176, rfl⟩
abbrev main_call6_v0 : Ref sig .tc := ⟨.hbm, 177, rfl⟩
abbrev main_call6_c : Ref sig .tc := ⟨.hbm, 178, rfl⟩
abbrev main_call6_v1 : Ref sig .tc := ⟨.hbm, 179, rfl⟩
abbrev main_call6_c_0 : Ref sig .tc := ⟨.hbm, 180, rfl⟩
abbrev main_call6_v2 : Ref sig .tc := ⟨.hbm, 181, rfl⟩
abbrev main_call6_c_1 : Ref sig .tc := ⟨.hbm, 182, rfl⟩
abbrev main_call6_v3 : Ref sig .tc := ⟨.hbm, 183, rfl⟩
abbrev main_call6_v4 : Ref sig .tc := ⟨.hbm, 184, rfl⟩
abbrev main_call6_v5 : Ref sig .tc := ⟨.hbm, 185, rfl⟩
abbrev main_call6_v6 : Ref sig .tc := ⟨.hbm, 186, rfl⟩
abbrev main_call6_c_2 : Ref sig .tc := ⟨.hbm, 187, rfl⟩
abbrev main_call6_v7 : Ref sig .tc := ⟨.hbm, 188, rfl⟩
abbrev main_call6_c_3 : Ref sig .tc := ⟨.hbm, 189, rfl⟩
abbrev main_call6_v8 : Ref sig .tc := ⟨.hbm, 190, rfl⟩
abbrev main_call6_c_4 : Ref sig .tc := ⟨.hbm, 191, rfl⟩
abbrev main_call6_v9 : Ref sig .tc := ⟨.hbm, 192, rfl⟩
abbrev main_call6_c_5 : Ref sig .tc := ⟨.hbm, 193, rfl⟩
abbrev main_call6_v10 : Ref sig .tc := ⟨.hbm, 194, rfl⟩
abbrev main_call6_c_6 : Ref sig .tc := ⟨.hbm, 195, rfl⟩
abbrev main_call6_v11 : Ref sig .tc := ⟨.hbm, 196, rfl⟩
abbrev main_call6_c_7 : Ref sig .tc := ⟨.hbm, 197, rfl⟩
abbrev main_call6_v12 : Ref sig .tc := ⟨.hbm, 198, rfl⟩
abbrev main_call6_c_8 : Ref sig .tc := ⟨.hbm, 199, rfl⟩
abbrev main_call6_c_9 : Ref sig .tc := ⟨.hbm, 200, rfl⟩
abbrev main_call6_v13 : Ref sig .tc := ⟨.hbm, 201, rfl⟩
abbrev main_call6_v14 : Ref sig .tc := ⟨.hbm, 202, rfl⟩
abbrev main_call6_v15 : Ref sig .tc := ⟨.hbm, 203, rfl⟩
abbrev main_call6_c_10 : Ref sig .tc := ⟨.hbm, 204, rfl⟩
abbrev main_call6_v16 : Ref sig .tc := ⟨.hbm, 205, rfl⟩
abbrev main_call6_v17 : Ref sig .tc := ⟨.hbm, 206, rfl⟩
abbrev main_call6_c_11 : Ref sig .tc := ⟨.hbm, 207, rfl⟩
abbrev main_call6_v18 : Ref sig .tc := ⟨.hbm, 208, rfl⟩
abbrev main_call6_v19 : Ref sig .tc := ⟨.hbm, 209, rfl⟩
abbrev main_call6_v20 : Ref sig .tc := ⟨.hbm, 210, rfl⟩
abbrev main_call6_c_12 : Ref sig .tc := ⟨.hbm, 211, rfl⟩
abbrev main_call6_v21 : Ref sig .tc := ⟨.hbm, 212, rfl⟩
abbrev main_call6_c_13 : Ref sig .tc := ⟨.hbm, 213, rfl⟩
abbrev main_call6_v22 : Ref sig .tc := ⟨.hbm, 214, rfl⟩
abbrev main_call6_v23 : Ref sig .tc := ⟨.hbm, 215, rfl⟩
abbrev main_call6_v24 : Ref sig .tc := ⟨.hbm, 216, rfl⟩
abbrev main_call6_v25 : Ref sig .tc := ⟨.hbm, 217, rfl⟩
abbrev main_call6_v26 : Ref sig .tc := ⟨.hbm, 218, rfl⟩
abbrev main_v13 : Ref sig .tc := ⟨.hbm, 219, rfl⟩
abbrev main_v14 : Ref sig .tc := ⟨.hbm, 220, rfl⟩
abbrev main_cst_9 : Ref sig .tc := ⟨.hbm, 221, rfl⟩
abbrev main_call7_v0 : Ref sig .tc := ⟨.hbm, 222, rfl⟩
abbrev main_call7_c : Ref sig .tc := ⟨.hbm, 223, rfl⟩
abbrev main_call7_v1 : Ref sig .tc := ⟨.hbm, 224, rfl⟩
abbrev main_call7_c_0 : Ref sig .tc := ⟨.hbm, 225, rfl⟩
abbrev main_call7_v2 : Ref sig .tc := ⟨.hbm, 226, rfl⟩
abbrev main_call7_c_1 : Ref sig .tc := ⟨.hbm, 227, rfl⟩
abbrev main_call7_v3 : Ref sig .tc := ⟨.hbm, 228, rfl⟩
abbrev main_call7_v4 : Ref sig .tc := ⟨.hbm, 229, rfl⟩
abbrev main_call7_v5 : Ref sig .tc := ⟨.hbm, 230, rfl⟩
abbrev main_call7_v6 : Ref sig .tc := ⟨.hbm, 231, rfl⟩
abbrev main_call7_c_2 : Ref sig .tc := ⟨.hbm, 232, rfl⟩
abbrev main_call7_v7 : Ref sig .tc := ⟨.hbm, 233, rfl⟩
abbrev main_call7_c_3 : Ref sig .tc := ⟨.hbm, 234, rfl⟩
abbrev main_call7_v8 : Ref sig .tc := ⟨.hbm, 235, rfl⟩
abbrev main_call7_c_4 : Ref sig .tc := ⟨.hbm, 236, rfl⟩
abbrev main_call7_v9 : Ref sig .tc := ⟨.hbm, 237, rfl⟩
abbrev main_call7_c_5 : Ref sig .tc := ⟨.hbm, 238, rfl⟩
abbrev main_call7_v10 : Ref sig .tc := ⟨.hbm, 239, rfl⟩
abbrev main_call7_c_6 : Ref sig .tc := ⟨.hbm, 240, rfl⟩
abbrev main_call7_v11 : Ref sig .tc := ⟨.hbm, 241, rfl⟩
abbrev main_call7_c_7 : Ref sig .tc := ⟨.hbm, 242, rfl⟩
abbrev main_call7_v12 : Ref sig .tc := ⟨.hbm, 243, rfl⟩
abbrev main_call7_c_8 : Ref sig .tc := ⟨.hbm, 244, rfl⟩
abbrev main_call7_c_9 : Ref sig .tc := ⟨.hbm, 245, rfl⟩
abbrev main_call7_v13 : Ref sig .tc := ⟨.hbm, 246, rfl⟩
abbrev main_call7_v14 : Ref sig .tc := ⟨.hbm, 247, rfl⟩
abbrev main_call7_v15 : Ref sig .tc := ⟨.hbm, 248, rfl⟩
abbrev main_call7_c_10 : Ref sig .tc := ⟨.hbm, 249, rfl⟩
abbrev main_call7_v16 : Ref sig .tc := ⟨.hbm, 250, rfl⟩
abbrev main_call7_v17 : Ref sig .tc := ⟨.hbm, 251, rfl⟩
abbrev main_call7_c_11 : Ref sig .tc := ⟨.hbm, 252, rfl⟩
abbrev main_call7_v18 : Ref sig .tc := ⟨.hbm, 253, rfl⟩
abbrev main_call7_v19 : Ref sig .tc := ⟨.hbm, 254, rfl⟩
abbrev main_call7_v20 : Ref sig .tc := ⟨.hbm, 255, rfl⟩
abbrev main_call7_c_12 : Ref sig .tc := ⟨.hbm, 256, rfl⟩
abbrev main_call7_v21 : Ref sig .tc := ⟨.hbm, 257, rfl⟩
abbrev main_call7_c_13 : Ref sig .tc := ⟨.hbm, 258, rfl⟩
abbrev main_call7_v22 : Ref sig .tc := ⟨.hbm, 259, rfl⟩
abbrev main_call7_v23 : Ref sig .tc := ⟨.hbm, 260, rfl⟩
abbrev main_call7_v24 : Ref sig .tc := ⟨.hbm, 261, rfl⟩
abbrev main_call7_v25 : Ref sig .tc := ⟨.hbm, 262, rfl⟩
abbrev main_call7_v26 : Ref sig .tc := ⟨.hbm, 263, rfl⟩
abbrev main_v15 : Ref sig .tc := ⟨.hbm, 264, rfl⟩
abbrev main_cst_10 : Ref sig .tc := ⟨.hbm, 265, rfl⟩
abbrev main_v16 : Ref sig .tc := ⟨.hbm, 266, rfl⟩
abbrev main_cst_11 : Ref sig .tc := ⟨.hbm, 267, rfl⟩
abbrev main_v17 : Ref sig .tc := ⟨.hbm, 268, rfl⟩
abbrev main_call8_v0 : Ref sig .tc := ⟨.hbm, 269, rfl⟩
abbrev main_call8_c : Ref sig .tc := ⟨.hbm, 270, rfl⟩
abbrev main_call8_v1 : Ref sig .tc := ⟨.hbm, 271, rfl⟩
abbrev main_call8_c_0 : Ref sig .tc := ⟨.hbm, 272, rfl⟩
abbrev main_call8_v2 : Ref sig .tc := ⟨.hbm, 273, rfl⟩
abbrev main_call8_c_1 : Ref sig .tc := ⟨.hbm, 274, rfl⟩
abbrev main_call8_v3 : Ref sig .tc := ⟨.hbm, 275, rfl⟩
abbrev main_call8_v4 : Ref sig .tc := ⟨.hbm, 276, rfl⟩
abbrev main_call8_v5 : Ref sig .tc := ⟨.hbm, 277, rfl⟩
abbrev main_call8_v6 : Ref sig .tc := ⟨.hbm, 278, rfl⟩
abbrev main_call8_c_2 : Ref sig .tc := ⟨.hbm, 279, rfl⟩
abbrev main_call8_v7 : Ref sig .tc := ⟨.hbm, 280, rfl⟩
abbrev main_call8_c_3 : Ref sig .tc := ⟨.hbm, 281, rfl⟩
abbrev main_call8_v8 : Ref sig .tc := ⟨.hbm, 282, rfl⟩
abbrev main_call8_c_4 : Ref sig .tc := ⟨.hbm, 283, rfl⟩
abbrev main_call8_v9 : Ref sig .tc := ⟨.hbm, 284, rfl⟩
abbrev main_call8_c_5 : Ref sig .tc := ⟨.hbm, 285, rfl⟩
abbrev main_call8_v10 : Ref sig .tc := ⟨.hbm, 286, rfl⟩
abbrev main_call8_c_6 : Ref sig .tc := ⟨.hbm, 287, rfl⟩
abbrev main_call8_v11 : Ref sig .tc := ⟨.hbm, 288, rfl⟩
abbrev main_call8_c_7 : Ref sig .tc := ⟨.hbm, 289, rfl⟩
abbrev main_call8_v12 : Ref sig .tc := ⟨.hbm, 290, rfl⟩
abbrev main_call8_c_8 : Ref sig .tc := ⟨.hbm, 291, rfl⟩
abbrev main_call8_v13 : Ref sig .tc := ⟨.hbm, 292, rfl⟩
abbrev main_call8_v14 : Ref sig .tc := ⟨.hbm, 293, rfl⟩
abbrev main_call8_v15 : Ref sig .tc := ⟨.hbm, 294, rfl⟩
abbrev main_call8_v16 : Ref sig .tc := ⟨.hbm, 295, rfl⟩
abbrev main_call8_v17 : Ref sig .tc := ⟨.hbm, 296, rfl⟩
abbrev main_call8_v18 : Ref sig .tc := ⟨.hbm, 297, rfl⟩
abbrev main_call8_c_9 : Ref sig .tc := ⟨.hbm, 298, rfl⟩
abbrev main_call8_v19 : Ref sig .tc := ⟨.hbm, 299, rfl⟩
abbrev main_call8_c_10 : Ref sig .tc := ⟨.hbm, 300, rfl⟩
abbrev main_v18_1 : Ref sig .tc := ⟨.hbm, 301, rfl⟩
abbrev main_v18_0 : Ref sig .tc := ⟨.hbm, 302, rfl⟩
abbrev main_cst_12 : Ref sig .tc := ⟨.hbm, 303, rfl⟩
abbrev main_v19 : Ref sig .tc := ⟨.hbm, 304, rfl⟩
abbrev main_c_13 : Ref sig .tc := ⟨.hbm, 305, rfl⟩
abbrev main_v20 : Ref sig .tc := ⟨.hbm, 306, rfl⟩
abbrev main_cst_14 : Ref sig .tc := ⟨.hbm, 307, rfl⟩
abbrev main_call10_v0 : Ref sig .tc := ⟨.hbm, 308, rfl⟩
abbrev main_call10_c : Ref sig .tc := ⟨.hbm, 309, rfl⟩
abbrev main_call10_v1 : Ref sig .tc := ⟨.hbm, 310, rfl⟩
abbrev main_call10_c_0 : Ref sig .tc := ⟨.hbm, 311, rfl⟩
abbrev main_call10_v2 : Ref sig .tc := ⟨.hbm, 312, rfl⟩
abbrev main_call10_c_1 : Ref sig .tc := ⟨.hbm, 313, rfl⟩
abbrev main_call10_v3 : Ref sig .tc := ⟨.hbm, 314, rfl⟩
abbrev main_call10_v4 : Ref sig .tc := ⟨.hbm, 315, rfl⟩
abbrev main_call10_v5 : Ref sig .tc := ⟨.hbm, 316, rfl⟩
abbrev main_call10_v6 : Ref sig .tc := ⟨.hbm, 317, rfl⟩
abbrev main_call10_c_2 : Ref sig .tc := ⟨.hbm, 318, rfl⟩
abbrev main_call10_v7 : Ref sig .tc := ⟨.hbm, 319, rfl⟩
abbrev main_call10_c_3 : Ref sig .tc := ⟨.hbm, 320, rfl⟩
abbrev main_call10_v8 : Ref sig .tc := ⟨.hbm, 321, rfl⟩
abbrev main_call10_c_4 : Ref sig .tc := ⟨.hbm, 322, rfl⟩
abbrev main_call10_v9 : Ref sig .tc := ⟨.hbm, 323, rfl⟩
abbrev main_call10_c_5 : Ref sig .tc := ⟨.hbm, 324, rfl⟩
abbrev main_call10_v10 : Ref sig .tc := ⟨.hbm, 325, rfl⟩
abbrev main_call10_c_6 : Ref sig .tc := ⟨.hbm, 326, rfl⟩
abbrev main_call10_v11 : Ref sig .tc := ⟨.hbm, 327, rfl⟩
abbrev main_call10_c_7 : Ref sig .tc := ⟨.hbm, 328, rfl⟩
abbrev main_call10_v12 : Ref sig .tc := ⟨.hbm, 329, rfl⟩
abbrev main_call10_c_8 : Ref sig .tc := ⟨.hbm, 330, rfl⟩
abbrev main_call10_c_9 : Ref sig .tc := ⟨.hbm, 331, rfl⟩
abbrev main_call10_v13 : Ref sig .tc := ⟨.hbm, 332, rfl⟩
abbrev main_call10_v14 : Ref sig .tc := ⟨.hbm, 333, rfl⟩
abbrev main_call10_v15 : Ref sig .tc := ⟨.hbm, 334, rfl⟩
abbrev main_call10_c_10 : Ref sig .tc := ⟨.hbm, 335, rfl⟩
abbrev main_call10_v16 : Ref sig .tc := ⟨.hbm, 336, rfl⟩
abbrev main_call10_v17 : Ref sig .tc := ⟨.hbm, 337, rfl⟩
abbrev main_call10_c_11 : Ref sig .tc := ⟨.hbm, 338, rfl⟩
abbrev main_call10_v18 : Ref sig .tc := ⟨.hbm, 339, rfl⟩
abbrev main_call10_v19 : Ref sig .tc := ⟨.hbm, 340, rfl⟩
abbrev main_call10_v20 : Ref sig .tc := ⟨.hbm, 341, rfl⟩
abbrev main_call10_c_12 : Ref sig .tc := ⟨.hbm, 342, rfl⟩
abbrev main_call10_v21 : Ref sig .tc := ⟨.hbm, 343, rfl⟩
abbrev main_call10_c_13 : Ref sig .tc := ⟨.hbm, 344, rfl⟩
abbrev main_call10_v22 : Ref sig .tc := ⟨.hbm, 345, rfl⟩
abbrev main_call10_v23 : Ref sig .tc := ⟨.hbm, 346, rfl⟩
abbrev main_call10_v24 : Ref sig .tc := ⟨.hbm, 347, rfl⟩
abbrev main_call10_v25 : Ref sig .tc := ⟨.hbm, 348, rfl⟩
abbrev main_call10_v26 : Ref sig .tc := ⟨.hbm, 349, rfl⟩
abbrev main_v21 : Ref sig .tc := ⟨.hbm, 350, rfl⟩
abbrev main_v22 : Ref sig .tc := ⟨.hbm, 351, rfl⟩
abbrev main_cst_15 : Ref sig .tc := ⟨.hbm, 352, rfl⟩
abbrev main_call11_v0 : Ref sig .tc := ⟨.hbm, 353, rfl⟩
abbrev main_call11_c : Ref sig .tc := ⟨.hbm, 354, rfl⟩
abbrev main_call11_v1 : Ref sig .tc := ⟨.hbm, 355, rfl⟩
abbrev main_call11_c_0 : Ref sig .tc := ⟨.hbm, 356, rfl⟩
abbrev main_call11_v2 : Ref sig .tc := ⟨.hbm, 357, rfl⟩
abbrev main_call11_c_1 : Ref sig .tc := ⟨.hbm, 358, rfl⟩
abbrev main_call11_v3 : Ref sig .tc := ⟨.hbm, 359, rfl⟩
abbrev main_call11_v4 : Ref sig .tc := ⟨.hbm, 360, rfl⟩
abbrev main_call11_v5 : Ref sig .tc := ⟨.hbm, 361, rfl⟩
abbrev main_call11_v6 : Ref sig .tc := ⟨.hbm, 362, rfl⟩
abbrev main_call11_c_2 : Ref sig .tc := ⟨.hbm, 363, rfl⟩
abbrev main_call11_v7 : Ref sig .tc := ⟨.hbm, 364, rfl⟩
abbrev main_call11_c_3 : Ref sig .tc := ⟨.hbm, 365, rfl⟩
abbrev main_call11_v8 : Ref sig .tc := ⟨.hbm, 366, rfl⟩
abbrev main_call11_c_4 : Ref sig .tc := ⟨.hbm, 367, rfl⟩
abbrev main_call11_v9 : Ref sig .tc := ⟨.hbm, 368, rfl⟩
abbrev main_call11_c_5 : Ref sig .tc := ⟨.hbm, 369, rfl⟩
abbrev main_call11_v10 : Ref sig .tc := ⟨.hbm, 370, rfl⟩
abbrev main_call11_c_6 : Ref sig .tc := ⟨.hbm, 371, rfl⟩
abbrev main_call11_v11 : Ref sig .tc := ⟨.hbm, 372, rfl⟩
abbrev main_call11_c_7 : Ref sig .tc := ⟨.hbm, 373, rfl⟩
abbrev main_call11_v12 : Ref sig .tc := ⟨.hbm, 374, rfl⟩
abbrev main_call11_c_8 : Ref sig .tc := ⟨.hbm, 375, rfl⟩
abbrev main_call11_c_9 : Ref sig .tc := ⟨.hbm, 376, rfl⟩
abbrev main_call11_v13 : Ref sig .tc := ⟨.hbm, 377, rfl⟩
abbrev main_call11_v14 : Ref sig .tc := ⟨.hbm, 378, rfl⟩
abbrev main_call11_v15 : Ref sig .tc := ⟨.hbm, 379, rfl⟩
abbrev main_call11_c_10 : Ref sig .tc := ⟨.hbm, 380, rfl⟩
abbrev main_call11_v16 : Ref sig .tc := ⟨.hbm, 381, rfl⟩
abbrev main_call11_v17 : Ref sig .tc := ⟨.hbm, 382, rfl⟩
abbrev main_call11_c_11 : Ref sig .tc := ⟨.hbm, 383, rfl⟩
abbrev main_call11_v18 : Ref sig .tc := ⟨.hbm, 384, rfl⟩
abbrev main_call11_v19 : Ref sig .tc := ⟨.hbm, 385, rfl⟩
abbrev main_call11_v20 : Ref sig .tc := ⟨.hbm, 386, rfl⟩
abbrev main_call11_c_12 : Ref sig .tc := ⟨.hbm, 387, rfl⟩
abbrev main_call11_v21 : Ref sig .tc := ⟨.hbm, 388, rfl⟩
abbrev main_call11_c_13 : Ref sig .tc := ⟨.hbm, 389, rfl⟩
abbrev main_call11_v22 : Ref sig .tc := ⟨.hbm, 390, rfl⟩
abbrev main_call11_v23 : Ref sig .tc := ⟨.hbm, 391, rfl⟩
abbrev main_call11_v24 : Ref sig .tc := ⟨.hbm, 392, rfl⟩
abbrev main_call11_v25 : Ref sig .tc := ⟨.hbm, 393, rfl⟩
abbrev main_call11_v26 : Ref sig .tc := ⟨.hbm, 394, rfl⟩
abbrev main_v23 : Ref sig .tc := ⟨.hbm, 395, rfl⟩

abbrev nD : Nat := 1
abbrev τ : Topo := Topo.v7x

variable {F : FTy → Type} [BitOps F]
-- ==== Proof.KernelRun.Region0.lean ====
/- `Kernel`, whole program: the pallas_call of region 0, at the contents `V` its arrays have when it is entered: each window's block at a
   point, the kernel body's run per case, what each output's staging buffer holds after it, and the body obligation.
   The comments here are short: the same theorems are explained at length in KernelIdealRun/Region0.lean. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__quant_body` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data whose array is `V`'s. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof data whose array is `V`'s. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Whether output 3's buffer is FRESH at each position `1 ‥ N`. -/
def freshTab0_3 : ℕ → Bool
  | 0 => true
  | n + 1 => (0x8000 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the points of case A the printed configuration (`Cfg.idle`) calls output 3 live: the case stores into it. -/
theorem liveAt0_3_A : ∀ t : Fin cfg0.N, cond0_0 (grid0.coords t) → ¬cond0_1 (grid0.coords t) → cfg0.idle 3 (grid0.coords t) = false := by decide +kernel
/-- At the points of case B the printed configuration (`Cfg.idle`) calls output 3 live: the case stores into it. -/
theorem liveAt0_3_B : ∀ t : Fin cfg0.N, ¬cond0_0 (grid0.coords t) → cond0_1 (grid0.coords t) → cfg0.idle 3 (grid0.coords t) = false := by decide +kernel
/-- At the points of case B, which keeps output 3's prior contents. -/
theorem notFresh0_3_B : ∀ t : Fin cfg0.N, ¬cond0_0 (grid0.coords t) → cond0_1 (grid0.coords t) → cfg0.fresh 3 t.val = false := by
  intro t; rw [fresh0_3_eq t]; revert t; decide +kernel

/-! ## The kernel body on any staging memrefs: a subtype the run finds -/

/-- One staging buffer of output window 2, through which its contents are stated (`View.read_writes_of_cover`: the
    choice does not matter). -/
abbrev VO0_2 : View sig .tc .vmem S256x7040 .fp8e4m3 := (Memref.whole cc0_stg2_0 : Memref sig .tc .vmem S256x7040 .fp8e4m3).view
/-- One staging buffer of output window 3, through which its contents are stated (`View.read_writes_of_cover`: the
    choice does not matter). -/
abbrev VO0_3 : View sig .tc .smem S1x1 .f32 := (Memref.whole cc0_stg3_0 : Memref sig .tc .smem S1x1 .f32).view
/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x7040 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x7040 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x1 .f32 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces. -/
noncomputable def kernelRun0_A (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : cond0_0 i) (hc1 : ¬cond0_1 i)
    (x0 : Vec F S1x1 .f32) (x1 : Vec F S256x7040 .bf16) :
    Σ' (L2 : List (View.Piece (Elt F) S256x7040 .fp8e4m3)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__quant_body i arg1 harg1 arg2 harg2 arg3 harg3 arg4 harg4) K } := by
  refine ⟨?_, ?_, fun E K => ?run⟩
  case run =>
    simp only [cc0__quant_body_eq_skeleton]; unfold cc0__quant_body_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block. -/
theorem cover0_A_2 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : cond0_0 i) (hc1 : ¬cond0_1 i)
    (x0 : Vec F S1x1 .f32) (x1 : Vec F S256x7040 .bf16) (y : S256x7040.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S256x7040.size (by sl_kernel_rfl) y

/-- What case A leaves in output 2's staging buffer: its pieces read back over junk. -/
def out0_A_2 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : cond0_0 i) (hc1 : ¬cond0_1 i)
    (x0 : Vec F S1x1 .f32) (x1 : Vec F S256x7040 .bf16) : Vec F S256x7040 .fp8e4m3 :=
  VO0_2.read (Elt F) (VO0_2.writes (Elt F) VO0_2.junk (kernelRun0_A c i arg1 harg1 arg2 harg2 arg3 harg3 arg4 harg4 hc0 hc1 x0 x1).1)

/-- Case A's pieces for output 3 tile its block. -/
theorem cover0_A_3 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : cond0_0 i) (hc1 : ¬cond0_1 i)
    (x0 : Vec F S1x1 .f32) (x1 : Vec F S256x7040 .bf16) (y : S1x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x1.size (by sl_kernel_rfl) y

/-- What case A leaves in output 3's staging buffer: its pieces read back over junk. -/
def out0_A_3 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : cond0_0 i) (hc1 : ¬cond0_1 i)
    (x0 : Vec F S1x1 .f32) (x1 : Vec F S256x7040 .bf16) : Vec F S1x1 .f32 :=
  VO0_3.read (Elt F) (VO0_3.writes (Elt F) VO0_3.junk (kernelRun0_A c i arg1 harg1 arg2 harg2 arg3 harg3 arg4 harg4 hc0 hc1 x0 x1).2.1)

-- (the run's proof term is large: the definition's epilogue — `abstractNestedProofs` — walks it past the default budget)
set_option maxHeartbeats 1000000 in
/-- What the body's stores leave in each output's staging memref, as pieces. -/
noncomputable def kernelRun0_B (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : ¬cond0_0 i) (hc1 : cond0_1 i)
    (x0 : Vec F S1x1 .f32) (x1 : Vec F S256x7040 .bf16) (xo3 : Vec F S1x1 .f32) :
    Σ' (L2 : List (View.Piece (Elt F) S256x7040 .fp8e4m3)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__quant_body i arg1 harg1 arg2 harg2 arg3 harg3 arg4 harg4) K } := by
  refine ⟨?_, ?_, fun E K => ?run⟩
  case run =>
    simp only [cc0__quant_body_eq_skeleton]; unfold cc0__quant_body_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case B's pieces for output 2 tile its block. -/
theorem cover0_B_2 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : ¬cond0_0 i) (hc1 : cond0_1 i)
    (x0 : Vec F S1x1 .f32) (x1 : Vec F S256x7040 .bf16) (xo3 : Vec F S1x1 .f32) (y : S256x7040.Idx) :
    ∃ pc ∈ (kernelRun0_B c i arg1 harg1 arg2 harg2 arg3 harg3 arg4 harg4 hc0 hc1 x0 x1 xo3).1, y ∈ pc.1.set :=
  View.cover_of_tiledL (kernelRun0_B c i arg1 harg1 arg2 harg2 arg3 harg3 arg4 harg4 hc0 hc1 x0 x1 xo3).1 S256x7040.size (by sl_kernel_rfl) y

/-- What case B leaves in output 2's staging buffer: its pieces read back over junk. -/
def out0_B_2 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : ¬cond0_0 i) (hc1 : cond0_1 i)
    (x0 : Vec F S1x1 .f32) (x1 : Vec F S256x7040 .bf16) (xo3 : Vec F S1x1 .f32) : Vec F S256x7040 .fp8e4m3 :=
  VO0_2.read (Elt F) (VO0_2.writes (Elt F) VO0_2.junk (kernelRun0_B c i arg1 harg1 arg2 harg2 arg3 harg3 arg4 harg4 hc0 hc1 x0 x1 xo3).1)

/-- Case B's pieces for output 3 tile its block. -/
theorem cover0_B_3 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : ¬cond0_0 i) (hc1 : cond0_1 i)
    (x0 : Vec F S1x1 .f32) (x1 : Vec F S256x7040 .bf16) (xo3 : Vec F S1x1 .f32) (y : S1x1.Idx) :
    ∃ pc ∈ (kernelRun0_B c i arg1 harg1 arg2 harg2 arg3 harg3 arg4 harg4 hc0 hc1 x0 x1 xo3).2.1, y ∈ pc.1.set :=
  View.cover_of_tiledL (kernelRun0_B c i arg1 harg1 arg2 harg2 arg3 harg3 arg4 harg4 hc0 hc1 x0 x1 xo3).2.1 S1x1.size (by sl_kernel_rfl) y

/-- What case B leaves in output 3's staging buffer: its pieces read back over junk. -/
def out0_B_3 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : ¬cond0_0 i) (hc1 : cond0_1 i)
    (x0 : Vec F S1x1 .f32) (x1 : Vec F S256x7040 .bf16) (xo3 : Vec F S1x1 .f32) : Vec F S1x1 .f32 :=
  VO0_3.read (Elt F) (VO0_3.writes (Elt F) VO0_3.junk (kernelRun0_B c i arg1 harg1 arg2 harg2 arg3 harg3 arg4 harg4 hc0 hc1 x0 x1 xo3).2.1)

/-! ## What the outputs hold after each point -/

/-- THE ACCUMULATION. What the outputs' staging buffers hold after the body at position `n`. -/
def outsAt0 (c : Dev nD) : (n : ℕ) → n < cfg0.N → Vec F S256x7040 .fp8e4m3 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : 1 ≤ (n + 1) then
        False.elim (by have hN : n + 1 < 16 := lt_of_lt_of_eq hn (show cfg0.N = 16 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : 1 ≤ (n + 1) then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : ¬1 ≤ t.val) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : 1 ≤ t.val) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t) (outsAt0 V c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

/-- The proof data's arrays are the region-entry contents, by projecting the definition. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Output 3's contents CARRY through the points that leave it idle. -/
theorem hcarry0_3 (c : Dev nD) : ∀ (t : Fin cfg0.N) (_ : t.val ≠ 0), cfg0.idle 3 (grid0.coords t) = true → cfg0.fresh 3 t.val = false →
    (dat0 V c).after 3 t = (dat0 V c).after 3 ⟨t.val - 1, by omega⟩ := by
  intro t _ hi _
  have hN : t.val < 16 := lt_of_lt_of_eq t.isLt (show cfg0.N = 16 from N_0)
  rw [after0_3, after0_3]
  by_cases h0 : t.val % 16 = 0
  · by_cases h1 : 1 ≤ t.val
    · exfalso; omega
    · rw [liveAt0_3_A t ((hcond0_0 t).mpr h0) (fun h => h1 ((hcond0_1 t).mp h))] at hi
      exact absurd hi Bool.false_ne_true
  · by_cases h1 : 1 ≤ t.val
    · rw [liveAt0_3_B t (fun h => h0 ((hcond0_0 t).mp h)) ((hcond0_1 t).mpr h1)] at hi
      exact absurd hi Bool.false_ne_true
    · exfalso; omega
/-- At a point of case B output 3's current staging buffer holds what the point before left. -/
theorem before0_3_B (c : Dev nD) (t : Fin cfg0.N) (h0 : ¬t.val % 16 = 0) (h1 : 1 ≤ t.val) (d) :
    (dat0 V c).before 3 t d = (outsAt0 V c (t.val - 1) (Nat.lt_of_le_of_lt (Nat.sub_le _ _) t.isLt)).2 := by
  rw [Dat.before_out_traj _ 3 rfl (fun _ _ => rfl) (hcarry0_3 V c) t.val t rfl d,
    if_neg (by rw [notFresh0_3_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 800000 in
/-- The body at any point: the inputs' memrefs hold their blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  have hN : t.val < 16 := lt_of_lt_of_eq t.isLt (show cfg0.N = 16 from N_0)
  by_cases h0 : t.val % 16 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_A t ((hcond0_0 t).mpr h0) (fun h => h1 ((hcond0_1 t).mp h))], after0_3]
      rw [outsAt0_A V c t h0 h1]
      unfold out0_A_2 out0_A_3; (try dsimp only)
      iintro ⟨HΦ, Ho, ⟨%d0, H0⟩, ⟨%d1, H1⟩, ⟨%d2, H2⟩, ⟨%d3, H3⟩⟩
      iapply ((kernelRun0_A c (grid0.coords t) _ _ _ _ _ _ _ _ ((hcond0_0 t).mpr h0) (fun h => h1 ((hcond0_1 t).mp h)) (iblk0 V c 0 t) (iblk0 V c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _)
      unfold owns; iexists _; isplitr
      swap; · iexact H3
      ipureintro; exact View.read_writes_of_cover _ _ _ _ _ (cover0_A_3 c _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
      rw [outsAt0_B V c t h0 h1]
      simp only [before0_3_B V c t h0 h1]
      unfold out0_B_2 out0_B_3; (try dsimp only)
      iintro ⟨HΦ, Ho, ⟨%d0, H0⟩, ⟨%d1, H1⟩, ⟨%d2, H2⟩, ⟨%d3, H3⟩⟩
      iapply ((kernelRun0_B c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _)
      unfold owns; iexists _; isplitr
      swap; · iexact H3
      ipureintro; exact View.read_writes_of_cover _ _ _ _ _ (cover0_B_3 c _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen

end
-- ==== Proof.KernelRun.Region1.lean ====
/- `Kernel`, whole program: the pallas_call of region 1, at the contents `V` its arrays have when it is entered: each window's block at a
   point, the kernel body's run per case, what each output's staging buffer holds after it, and the body obligation.
   The comments here are short: the same theorems are explained at length in KernelIdealRun/Region0.lean. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__quant_body` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof data whose array is `V`'s. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 22 = 0 :=
  (fun t => by
    have ht : t.val < 22 := Nat.lt_of_lt_of_eq t.isLt N_1
    have e0 : (grid1.coords t 0).val = t.val / 1 % 22 := Pipeline.Grid.coords_val t 0 (by decide) rfl
    simp only [cond1_0, k1_cond1, e0]
    word_cmp
   : ∀ t : Fin grid1.N, cond1_0 (grid1.coords t) ↔ t.val % 22 = 0)

/-- The condition of the body's `scf.if` 1 (`k1_h2`), from the grid coordinates (the skeleton's scalar
    chain substituted). -/
abbrev cond1_1 (i : grid1.Coords) : Prop := k1_cond2 i = 1#1
/-- It holds at the points from point 1 on — by arithmetic of the point. -/
theorem hcond1_1 : ∀ t : Fin cfg1.N, cond1_1 (grid1.coords t) ↔ 1 ≤ t.val :=
  (fun t => by
    have ht : t.val < 22 := Nat.lt_of_lt_of_eq t.isLt N_1
    have e0 : (grid1.coords t 0).val = t.val / 1 % 22 := Pipeline.Grid.coords_val t 0 (by decide) rfl
    simp only [cond1_1, k1_cond2, e0]
    word_cmp
   : ∀ t : Fin grid1.N, cond1_1 (grid1.coords t) ↔ 1 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an output stored at every point, under no condition). -/
theorem liveAt1_2 : ∀ t : Fin cfg1.N, cfg1.idle 2 (grid1.coords t) = false := fun _ => rfl
/-- Whether output 3's buffer is FRESH at each position `1 ‥ N`. -/
def freshTab1_3 : ℕ → Bool
  | 0 => true
  | n + 1 => (0x200000 : ℕ).testBit n
theorem freshTab1_3_step : ∀ t : Fin cfg1.N,
    freshTab1_3 (t.val + 1) = ((cfg1.win 3).flush t || (cfg1.idle 3 (cfg1.grid.coords t) && freshTab1_3 t.val)) := by decide +kernel
theorem fresh1_3_eq (t : Fin cfg1.N) : cfg1.fresh 3 t.val = freshTab1_3 t.val :=
  Pipeline.Cfg.fresh_tab cfg1 3 freshTab1_3 rfl freshTab1_3_step t.val (Nat.le_of_lt t.isLt)
/-- At the points of case A the printed configuration (`Cfg.idle`) calls output 3 live: the case stores into it. -/
theorem liveAt1_3_A : ∀ t : Fin cfg1.N, cond1_0 (grid1.coords t) → ¬cond1_1 (grid1.coords t) → cfg1.idle 3 (grid1.coords t) = false := by decide +kernel
/-- At the points of case B the printed configuration (`Cfg.idle`) calls output 3 live: the case stores into it. -/
theorem liveAt1_3_B : ∀ t : Fin cfg1.N, ¬cond1_0 (grid1.coords t) → cond1_1 (grid1.coords t) → cfg1.idle 3 (grid1.coords t) = false := by decide +kernel
/-- At the points of case B, which keeps output 3's prior contents. -/
theorem notFresh1_3_B : ∀ t : Fin cfg1.N, ¬cond1_0 (grid1.coords t) → cond1_1 (grid1.coords t) → cfg1.fresh 3 t.val = false := by
  intro t; rw [fresh1_3_eq t]; revert t; decide +kernel

/-! ## The kernel body on any staging memrefs: a subtype the run finds -/

/-- One staging buffer of output window 2, through which its contents are stated (`View.read_writes_of_cover`: the
    choice does not matter). -/
abbrev VO1_2 : View sig .tc .vmem S320x2176 .fp8e4m3 := (Memref.whole cc1_stg2_0 : Memref sig .tc .vmem S320x2176 .fp8e4m3).view
/-- One staging buffer of output window 3, through which its contents are stated (`View.read_writes_of_cover`: the
    choice does not matter). -/
abbrev VO1_3 : View sig .tc .smem S1x1 .f32 := (Memref.whole cc1_stg3_0 : Memref sig .tc .smem S1x1 .f32).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S320x2176 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S320x2176 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .smem S1x1 .f32 := win1_3.stage (cfg1.slots t 3)
abbrev hs1_3 (t : Fin cfg1.N) : (ms1_3 t).IsWhole := hstage1_3 ((cfg1.slots t 3).cast nbuf1_3)

-- (the run's proof term is large: the definition's epilogue — `abstractNestedProofs` — walks it past the default budget)
set_option maxHeartbeats 1000000 in
/-- What the body's stores leave in each output's staging memref, as pieces. -/
noncomputable def kernelRun1_A (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : cond1_0 i) (hc1 : ¬cond1_1 i)
    (x0 : Vec F S1x1 .f32) (x1 : Vec F S320x2176 .f32) :
    Σ' (L2 : List (View.Piece (Elt F) S320x2176 .fp8e4m3)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1__quant_body i arg1 harg1 arg2 harg2 arg3 harg3 arg4 harg4) K } := by
  refine ⟨?_, ?_, fun E K => ?run⟩
  case run =>
    simp only [cc1__quant_body_eq_skeleton]; unfold cc1__quant_body_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block. -/
theorem cover1_A_2 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : cond1_0 i) (hc1 : ¬cond1_1 i)
    (x0 : Vec F S1x1 .f32) (x1 : Vec F S320x2176 .f32) (y : S320x2176.Idx) :
    ∃ pc ∈ (kernelRun1_A c i arg1 harg1 arg2 harg2 arg3 harg3 arg4 harg4 hc0 hc1 x0 x1).1, y ∈ pc.1.set :=
  View.cover_of_tiledL (kernelRun1_A c i arg1 harg1 arg2 harg2 arg3 harg3 arg4 harg4 hc0 hc1 x0 x1).1 S320x2176.size (by sl_kernel_rfl) y

/-- What case A leaves in output 2's staging buffer: its pieces read back over junk. -/
def out1_A_2 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : cond1_0 i) (hc1 : ¬cond1_1 i)
    (x0 : Vec F S1x1 .f32) (x1 : Vec F S320x2176 .f32) : Vec F S320x2176 .fp8e4m3 :=
  VO1_2.read (Elt F) (VO1_2.writes (Elt F) VO1_2.junk (kernelRun1_A c i arg1 harg1 arg2 harg2 arg3 harg3 arg4 harg4 hc0 hc1 x0 x1).1)

/-- Case A's pieces for output 3 tile its block. -/
theorem cover1_A_3 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : cond1_0 i) (hc1 : ¬cond1_1 i)
    (x0 : Vec F S1x1 .f32) (x1 : Vec F S320x2176 .f32) (y : S1x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S1x1.size (by sl_kernel_rfl) y

/-- What case A leaves in output 3's staging buffer: its pieces read back over junk. -/
def out1_A_3 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : cond1_0 i) (hc1 : ¬cond1_1 i)
    (x0 : Vec F S1x1 .f32) (x1 : Vec F S320x2176 .f32) : Vec F S1x1 .f32 :=
  VO1_3.read (Elt F) (VO1_3.writes (Elt F) VO1_3.junk (kernelRun1_A c i arg1 harg1 arg2 harg2 arg3 harg3 arg4 harg4 hc0 hc1 x0 x1).2.1)

-- (the run's proof term is large: the definition's epilogue — `abstractNestedProofs` — walks it past the default budget)
set_option maxHeartbeats 1000000 in
/-- What the body's stores leave in each output's staging memref, as pieces. -/
noncomputable def kernelRun1_B (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : ¬cond1_0 i) (hc1 : cond1_1 i)
    (x0 : Vec F S1x1 .f32) (x1 : Vec F S320x2176 .f32) (xo3 : Vec F S1x1 .f32) :
    Σ' (L2 : List (View.Piece (Elt F) S320x2176 .fp8e4m3)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1__quant_body i arg1 harg1 arg2 harg2 arg3 harg3 arg4 harg4) K } := by
  refine ⟨?_, ?_, fun E K => ?run⟩
  case run =>
    simp only [cc1__quant_body_eq_skeleton]; unfold cc1__quant_body_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case B's pieces for output 2 tile its block. -/
theorem cover1_B_2 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : ¬cond1_0 i) (hc1 : cond1_1 i)
    (x0 : Vec F S1x1 .f32) (x1 : Vec F S320x2176 .f32) (xo3 : Vec F S1x1 .f32) (y : S320x2176.Idx) :
    ∃ pc ∈ (kernelRun1_B c i arg1 harg1 arg2 harg2 arg3 harg3 arg4 harg4 hc0 hc1 x0 x1 xo3).1, y ∈ pc.1.set :=
  View.cover_of_tiledL (kernelRun1_B c i arg1 harg1 arg2 harg2 arg3 harg3 arg4 harg4 hc0 hc1 x0 x1 xo3).1 S320x2176.size (by sl_kernel_rfl) y

/-- What case B leaves in output 2's staging buffer: its pieces read back over junk. -/
def out1_B_2 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : ¬cond1_0 i) (hc1 : cond1_1 i)
    (x0 : Vec F S1x1 .f32) (x1 : Vec F S320x2176 .f32) (xo3 : Vec F S1x1 .f32) : Vec F S320x2176 .fp8e4m3 :=
  VO1_2.read (Elt F) (VO1_2.writes (Elt F) VO1_2.junk (kernelRun1_B c i arg1 harg1 arg2 harg2 arg3 harg3 arg4 harg4 hc0 hc1 x0 x1 xo3).1)

/-- Case B's pieces for output 3 tile its block. -/
theorem cover1_B_3 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : ¬cond1_0 i) (hc1 : cond1_1 i)
    (x0 : Vec F S1x1 .f32) (x1 : Vec F S320x2176 .f32) (xo3 : Vec F S1x1 .f32) (y : S1x1.Idx) :
    ∃ pc ∈ (kernelRun1_B c i arg1 harg1 arg2 harg2 arg3 harg3 arg4 harg4 hc0 hc1 x0 x1 xo3).2.1, y ∈ pc.1.set :=
  View.cover_of_tiledL (kernelRun1_B c i arg1 harg1 arg2 harg2 arg3 harg3 arg4 harg4 hc0 hc1 x0 x1 xo3).2.1 S1x1.size (by sl_kernel_rfl) y

/-- What case B leaves in output 3's staging buffer: its pieces read back over junk. -/
def out1_B_3 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : ¬cond1_0 i) (hc1 : cond1_1 i)
    (x0 : Vec F S1x1 .f32) (x1 : Vec F S320x2176 .f32) (xo3 : Vec F S1x1 .f32) : Vec F S1x1 .f32 :=
  VO1_3.read (Elt F) (VO1_3.writes (Elt F) VO1_3.junk (kernelRun1_B c i arg1 harg1 arg2 harg2 arg3 harg3 arg4 harg4 hc0 hc1 x0 x1 xo3).2.1)

/-! ## What the outputs hold after each point -/

/-- THE ACCUMULATION. What the outputs' staging buffers hold after the body at position `n`. -/
def outsAt1 (c : Dev nD) : (n : ℕ) → n < cfg1.N → Vec F S320x2176 .fp8e4m3 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 22 = 0 then
      if h1 : 1 ≤ (n + 1) then
        False.elim (by have hN : n + 1 < 22 := lt_of_lt_of_eq hn (show cfg1.N = 22 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩), out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : 1 ≤ (n + 1) then
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        False.elim (by have hN : n + 1 < 22 := lt_of_lt_of_eq hn (show cfg1.N = 22 from N_1); omega)

/-- `outsAt1` at a point of case A: that case's contents. -/
theorem outsAt1_A (c : Dev nD) (t : Fin cfg1.N) (h0 : t.val % 22 = 0) (h1 : ¬1 ≤ t.val) :
    outsAt1 V c t.val t.isLt = (out1_A_2 c (grid1.coords t) (ms1_0 t) (hs1_0 t) (ms1_1 t) (hs1_1 t) (ms1_2 t) (hs1_2 t) (ms1_3 t) (hs1_3 t) ((hcond1_0 t).mpr h0) (fun h => h1 ((hcond1_1 t).mp h)) (iblk1 V c 0 t) (iblk1 V c 1 t), out1_A_3 c (grid1.coords t) (ms1_0 t) (hs1_0 t) (ms1_1 t) (hs1_1 t) (ms1_2 t) (hs1_2 t) (ms1_3 t) (hs1_3 t) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 22 = 0) (h1 : 1 ≤ t.val) :
    outsAt1 V c t.val t.isLt = (out1_B_2 c (grid1.coords t) (ms1_0 t) (hs1_0 t) (ms1_1 t) (hs1_1 t) (ms1_2 t) (hs1_2 t) (ms1_3 t) (hs1_3 t) (fun h => h0 ((hcond1_0 t).mp h)) ((hcond1_1 t).mpr h1) (iblk1 V c 0 t) (iblk1 V c 1 t) (outsAt1 V c (t.val - 1) (Nat.lt_of_le_of_lt (Nat.sub_le _ _) t.isLt)).2, out1_B_3 c (grid1.coords t) (ms1_0 t) (hs1_0 t) (ms1_1 t) (hs1_1 t) (ms1_2 t) (hs1_2 t) (ms1_3 t) (hs1_3 t) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

/-- The proof data's arrays are the region-entry contents, by projecting the definition. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- Output 3's contents CARRY through the points that leave it idle. -/
theorem hcarry1_3 (c : Dev nD) : ∀ (t : Fin cfg1.N) (_ : t.val ≠ 0), cfg1.idle 3 (grid1.coords t) = true → cfg1.fresh 3 t.val = false →
    (dat1 V c).after 3 t = (dat1 V c).after 3 ⟨t.val - 1, by omega⟩ := by
  intro t _ hi _
  have hN : t.val < 22 := lt_of_lt_of_eq t.isLt (show cfg1.N = 22 from N_1)
  rw [after1_3, after1_3]
  by_cases h0 : t.val % 22 = 0
  · by_cases h1 : 1 ≤ t.val
    · exfalso; omega
    · rw [liveAt1_3_A t ((hcond1_0 t).mpr h0) (fun h => h1 ((hcond1_1 t).mp h))] at hi
      exact absurd hi Bool.false_ne_true
  · by_cases h1 : 1 ≤ t.val
    · rw [liveAt1_3_B t (fun h => h0 ((hcond1_0 t).mp h)) ((hcond1_1 t).mpr h1)] at hi
      exact absurd hi Bool.false_ne_true
    · exfalso; omega
/-- At a point of case B output 3's current staging buffer holds what the point before left. -/
theorem before1_3_B (c : Dev nD) (t : Fin cfg1.N) (h0 : ¬t.val % 22 = 0) (h1 : 1 ≤ t.val) (d) :
    (dat1 V c).before 3 t d = (outsAt1 V c (t.val - 1) (Nat.lt_of_le_of_lt (Nat.sub_le _ _) t.isLt)).2 := by
  rw [Dat.before_out_traj _ 3 rfl (fun _ _ => rfl) (hcarry1_3 V c) t.val t rfl d,
    if_neg (by rw [notFresh1_3_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 800000 in
/-- The body at any point: the inputs' memrefs hold their blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  have hN : t.val < 22 := lt_of_lt_of_eq t.isLt (show cfg1.N = 22 from N_1)
  by_cases h0 : t.val % 22 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_A t ((hcond1_0 t).mpr h0) (fun h => h1 ((hcond1_1 t).mp h))], after1_3]
      rw [outsAt1_A V c t h0 h1]
      unfold out1_A_2 out1_A_3; (try dsimp only)
      iintro ⟨HΦ, Ho, ⟨%d0, H0⟩, ⟨%d1, H1⟩, ⟨%d2, H2⟩, ⟨%d3, H3⟩⟩
      iapply ((kernelRun1_A c (grid1.coords t) _ _ _ _ _ _ _ _ ((hcond1_0 t).mpr h0) (fun h => h1 ((hcond1_1 t).mp h)) (iblk1 V c 0 t) (iblk1 V c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_A_2 c _ _ _ _ _ _ _ _ _ _ _ _ _)
      unfold owns; iexists _; isplitr
      swap; · iexact H3
      ipureintro; exact View.read_writes_of_cover _ _ _ _ _ (cover1_A_3 c _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
      rw [outsAt1_B V c t h0 h1]
      simp only [before1_3_B V c t h0 h1]
      unfold out1_B_2 out1_B_3; (try dsimp only)
      iintro ⟨HΦ, Ho, ⟨%d0, H0⟩, ⟨%d1, H1⟩, ⟨%d2, H2⟩, ⟨%d3, H3⟩⟩
      iapply ((kernelRun1_B c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_B_2 c _ _ _ _ _ _ _ _ _ _ _ _ _ _)
      unfold owns; iexists _; isplitr
      swap; · iexact H3
      ipureintro; exact View.read_writes_of_cover _ _ _ _ _ (cover1_B_3 c _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.KernelRun.Region2.lean ====
/- `Kernel`, whole program: the pallas_call of region 2, at the contents `V` its arrays have when it is entered: each window's block at a
   point, the kernel body's run per case, what each output's staging buffer holds after it, and the body obligation.
   The comments here are short: the same theorems are explained at length in KernelIdealRun/Region0.lean. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__quant_body` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof data whose array is `V`'s. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof data whose array is `V`'s. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the first point only — by arithmetic of the point. -/
theorem hcond2_0 : ∀ t : Fin cfg2.N, cond2_0 (grid2.coords t) ↔ t.val % 8 = 0 :=
  (fun t => by
    have ht : t.val < 8 := Nat.lt_of_lt_of_eq t.isLt N_2
    have e0 : (grid2.coords t 0).val = t.val / 1 % 8 := Pipeline.Grid.coords_val t 0 (by decide) rfl
    simp only [cond2_0, k2_cond1, e0]
    word_cmp
   : ∀ t : Fin grid2.N, cond2_0 (grid2.coords t) ↔ t.val % 8 = 0)

/-- The condition of the body's `scf.if` 1 (`k2_h2`), from the grid coordinates (the skeleton's scalar
    chain substituted). -/
abbrev cond2_1 (i : grid2.Coords) : Prop := k2_cond2 i = 1#1
/-- It holds at the points from point 1 on — by arithmetic of the point. -/
theorem hcond2_1 : ∀ t : Fin cfg2.N, cond2_1 (grid2.coords t) ↔ 1 ≤ t.val :=
  (fun t => by
    have ht : t.val < 8 := Nat.lt_of_lt_of_eq t.isLt N_2
    have e0 : (grid2.coords t 0).val = t.val / 1 % 8 := Pipeline.Grid.coords_val t 0 (by decide) rfl
    simp only [cond2_1, k2_cond2, e0]
    word_cmp
   : ∀ t : Fin grid2.N, cond2_1 (grid2.coords t) ↔ 1 ≤ t.val)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an output stored at every point, under no condition). -/
theorem liveAt2_2 : ∀ t : Fin cfg2.N, cfg2.idle 2 (grid2.coords t) = false := fun _ => rfl
/-- Whether output 3's buffer is FRESH at each position `1 ‥ N`. -/
def freshTab2_3 : ℕ → Bool
  | 0 => true
  | n + 1 => (0x80 : ℕ).testBit n
theorem freshTab2_3_step : ∀ t : Fin cfg2.N,
    freshTab2_3 (t.val + 1) = ((cfg2.win 3).flush t || (cfg2.idle 3 (cfg2.grid.coords t) && freshTab2_3 t.val)) := by decide +kernel
theorem fresh2_3_eq (t : Fin cfg2.N) : cfg2.fresh 3 t.val = freshTab2_3 t.val :=
  Pipeline.Cfg.fresh_tab cfg2 3 freshTab2_3 rfl freshTab2_3_step t.val (Nat.le_of_lt t.isLt)
/-- At the points of case A the printed configuration (`Cfg.idle`) calls output 3 live: the case stores into it. -/
theorem liveAt2_3_A : ∀ t : Fin cfg2.N, cond2_0 (grid2.coords t) → ¬cond2_1 (grid2.coords t) → cfg2.idle 3 (grid2.coords t) = false := by decide +kernel
/-- At the points of case B the printed configuration (`Cfg.idle`) calls output 3 live: the case stores into it. -/
theorem liveAt2_3_B : ∀ t : Fin cfg2.N, ¬cond2_0 (grid2.coords t) → cond2_1 (grid2.coords t) → cfg2.idle 3 (grid2.coords t) = false := by decide +kernel
/-- At the points of case B, which keeps output 3's prior contents. -/
theorem notFresh2_3_B : ∀ t : Fin cfg2.N, ¬cond2_0 (grid2.coords t) → cond2_1 (grid2.coords t) → cfg2.fresh 3 t.val = false := by
  intro t; rw [fresh2_3_eq t]; revert t; decide +kernel

/-! ## The kernel body on any staging memrefs: a subtype the run finds -/

/-- One staging buffer of output window 2, through which its contents are stated (`View.read_writes_of_cover`: the
    choice does not matter). -/
abbrev VO2_2 : View sig .tc .vmem S512x2176 .fp8e5m2 := (Memref.whole cc2_stg2_0 : Memref sig .tc .vmem S512x2176 .fp8e5m2).view
/-- One staging buffer of output window 3, through which its contents are stated (`View.read_writes_of_cover`: the
    choice does not matter). -/
abbrev VO2_3 : View sig .tc .smem S1x1 .f32 := (Memref.whole cc2_stg3_0 : Memref sig .tc .smem S1x1 .f32).view
/-- Each window's current staging memref at point `t`, spelled as the pipeline passes it (`bodyAt2`), and its wholeness. -/
abbrev ms2_0 (t : Fin cfg2.N) : Memref sig .tc .smem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2176 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x2176 .fp8e5m2 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .smem S1x1 .f32 := win2_3.stage (cfg2.slots t 3)
abbrev hs2_3 (t : Fin cfg2.N) : (ms2_3 t).IsWhole := hstage2_3 ((cfg2.slots t 3).cast nbuf2_3)

-- (the run's proof term is large: the definition's epilogue — `abstractNestedProofs` — walks it past the default budget)
set_option maxHeartbeats 1000000 in
/-- What the body's stores leave in each output's staging memref, as pieces. -/
noncomputable def kernelRun2_A (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : cond2_0 i) (hc1 : ¬cond2_1 i)
    (x0 : Vec F S1x1 .f32) (x1 : Vec F S512x2176 .bf16) :
    Σ' (L2 : List (View.Piece (Elt F) S512x2176 .fp8e5m2)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc2__quant_body i arg1 harg1 arg2 harg2 arg3 harg3 arg4 harg4) K } := by
  refine ⟨?_, ?_, fun E K => ?run⟩
  case run =>
    simp only [cc2__quant_body_eq_skeleton]; unfold cc2__quant_body_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block. -/
theorem cover2_A_2 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : cond2_0 i) (hc1 : ¬cond2_1 i)
    (x0 : Vec F S1x1 .f32) (x1 : Vec F S512x2176 .bf16) (y : S512x2176.Idx) :
    ∃ pc ∈ (kernelRun2_A c i arg1 harg1 arg2 harg2 arg3 harg3 arg4 harg4 hc0 hc1 x0 x1).1, y ∈ pc.1.set :=
  View.cover_of_tiledL (kernelRun2_A c i arg1 harg1 arg2 harg2 arg3 harg3 arg4 harg4 hc0 hc1 x0 x1).1 S512x2176.size (by sl_kernel_rfl) y

/-- What case A leaves in output 2's staging buffer: its pieces read back over junk. -/
def out2_A_2 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : cond2_0 i) (hc1 : ¬cond2_1 i)
    (x0 : Vec F S1x1 .f32) (x1 : Vec F S512x2176 .bf16) : Vec F S512x2176 .fp8e5m2 :=
  VO2_2.read (Elt F) (VO2_2.writes (Elt F) VO2_2.junk (kernelRun2_A c i arg1 harg1 arg2 harg2 arg3 harg3 arg4 harg4 hc0 hc1 x0 x1).1)

/-- Case A's pieces for output 3 tile its block. -/
theorem cover2_A_3 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : cond2_0 i) (hc1 : ¬cond2_1 i)
    (x0 : Vec F S1x1 .f32) (x1 : Vec F S512x2176 .bf16) (y : S1x1.Idx) :
    ∃ pc ∈ (kernelRun2_A c i arg1 harg1 arg2 harg2 arg3 harg3 arg4 harg4 hc0 hc1 x0 x1).2.1, y ∈ pc.1.set :=
  View.cover_of_tiledL (kernelRun2_A c i arg1 harg1 arg2 harg2 arg3 harg3 arg4 harg4 hc0 hc1 x0 x1).2.1 S1x1.size (by sl_kernel_rfl) y

/-- What case A leaves in output 3's staging buffer: its pieces read back over junk. -/
def out2_A_3 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : cond2_0 i) (hc1 : ¬cond2_1 i)
    (x0 : Vec F S1x1 .f32) (x1 : Vec F S512x2176 .bf16) : Vec F S1x1 .f32 :=
  VO2_3.read (Elt F) (VO2_3.writes (Elt F) VO2_3.junk (kernelRun2_A c i arg1 harg1 arg2 harg2 arg3 harg3 arg4 harg4 hc0 hc1 x0 x1).2.1)

-- (the run's proof term is large: the definition's epilogue — `abstractNestedProofs` — walks it past the default budget)
set_option maxHeartbeats 1000000 in
/-- What the body's stores leave in each output's staging memref, as pieces. -/
noncomputable def kernelRun2_B (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : ¬cond2_0 i) (hc1 : cond2_1 i)
    (x0 : Vec F S1x1 .f32) (x1 : Vec F S512x2176 .bf16) (xo3 : Vec F S1x1 .f32) :
    Σ' (L2 : List (View.Piece (Elt F) S512x2176 .fp8e5m2)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc2__quant_body i arg1 harg1 arg2 harg2 arg3 harg3 arg4 harg4) K } := by
  refine ⟨?_, ?_, fun E K => ?run⟩
  case run =>
    simp only [cc2__quant_body_eq_skeleton]; unfold cc2__quant_body_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case B's pieces for output 2 tile its block. -/
theorem cover2_B_2 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : ¬cond2_0 i) (hc1 : cond2_1 i)
    (x0 : Vec F S1x1 .f32) (x1 : Vec F S512x2176 .bf16) (xo3 : Vec F S1x1 .f32) (y : S512x2176.Idx) :
    ∃ pc ∈ (kernelRun2_B c i arg1 harg1 arg2 harg2 arg3 harg3 arg4 harg4 hc0 hc1 x0 x1 xo3).1, y ∈ pc.1.set :=
  View.cover_of_tiledL (kernelRun2_B c i arg1 harg1 arg2 harg2 arg3 harg3 arg4 harg4 hc0 hc1 x0 x1 xo3).1 S512x2176.size (by sl_kernel_rfl) y

/-- What case B leaves in output 2's staging buffer: its pieces read back over junk. -/
def out2_B_2 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : ¬cond2_0 i) (hc1 : cond2_1 i)
    (x0 : Vec F S1x1 .f32) (x1 : Vec F S512x2176 .bf16) (xo3 : Vec F S1x1 .f32) : Vec F S512x2176 .fp8e5m2 :=
  VO2_2.read (Elt F) (VO2_2.writes (Elt F) VO2_2.junk (kernelRun2_B c i arg1 harg1 arg2 harg2 arg3 harg3 arg4 harg4 hc0 hc1 x0 x1 xo3).1)

/-- Case B's pieces for output 3 tile its block. -/
theorem cover2_B_3 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : ¬cond2_0 i) (hc1 : cond2_1 i)
    (x0 : Vec F S1x1 .f32) (x1 : Vec F S512x2176 .bf16) (xo3 : Vec F S1x1 .f32) (y : S1x1.Idx) :
    ∃ pc ∈ (kernelRun2_B c i arg1 harg1 arg2 harg2 arg3 harg3 arg4 harg4 hc0 hc1 x0 x1 xo3).2.1, y ∈ pc.1.set :=
  View.cover_of_tiledL (kernelRun2_B c i arg1 harg1 arg2 harg2 arg3 harg3 arg4 harg4 hc0 hc1 x0 x1 xo3).2.1 S1x1.size (by sl_kernel_rfl) y

/-- What case B leaves in output 3's staging buffer: its pieces read back over junk. -/
def out2_B_3 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : ¬cond2_0 i) (hc1 : cond2_1 i)
    (x0 : Vec F S1x1 .f32) (x1 : Vec F S512x2176 .bf16) (xo3 : Vec F S1x1 .f32) : Vec F S1x1 .f32 :=
  VO2_3.read (Elt F) (VO2_3.writes (Elt F) VO2_3.junk (kernelRun2_B c i arg1 harg1 arg2 harg2 arg3 harg3 arg4 harg4 hc0 hc1 x0 x1 xo3).2.1)

/-! ## What the outputs hold after each point -/

/-- THE ACCUMULATION. What the outputs' staging buffers hold after the body at position `n`. -/
def outsAt2 (c : Dev nD) : (n : ℕ) → n < cfg2.N → Vec F S512x2176 .fp8e5m2 × Vec F S1x1 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : 1 ≤ (n + 1) then
        False.elim (by have hN : n + 1 < 8 := lt_of_lt_of_eq hn (show cfg2.N = 8 from N_2); omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩), out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : 1 ≤ (n + 1) then
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        False.elim (by have hN : n + 1 < 8 := lt_of_lt_of_eq hn (show cfg2.N = 8 from N_2); omega)

/-- `outsAt2` at a point of case A: that case's contents. -/
theorem outsAt2_A (c : Dev nD) (t : Fin cfg2.N) (h0 : t.val % 8 = 0) (h1 : ¬1 ≤ t.val) :
    outsAt2 V c t.val t.isLt = (out2_A_2 c (grid2.coords t) (ms2_0 t) (hs2_0 t) (ms2_1 t) (hs2_1 t) (ms2_2 t) (hs2_2 t) (ms2_3 t) (hs2_3 t) ((hcond2_0 t).mpr h0) (fun h => h1 ((hcond2_1 t).mp h)) (iblk2 V c 0 t) (iblk2 V c 1 t), out2_A_3 c (grid2.coords t) (ms2_0 t) (hs2_0 t) (ms2_1 t) (hs2_1 t) (ms2_2 t) (hs2_2 t) (ms2_3 t) (hs2_3 t) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 8 = 0) (h1 : 1 ≤ t.val) :
    outsAt2 V c t.val t.isLt = (out2_B_2 c (grid2.coords t) (ms2_0 t) (hs2_0 t) (ms2_1 t) (hs2_1 t) (ms2_2 t) (hs2_2 t) (ms2_3 t) (hs2_3 t) (fun h => h0 ((hcond2_0 t).mp h)) ((hcond2_1 t).mpr h1) (iblk2 V c 0 t) (iblk2 V c 1 t) (outsAt2 V c (t.val - 1) (Nat.lt_of_le_of_lt (Nat.sub_le _ _) t.isLt)).2, out2_B_3 c (grid2.coords t) (ms2_0 t) (hs2_0 t) (ms2_1 t) (hs2_1 t) (ms2_2 t) (hs2_2 t) (ms2_3 t) (hs2_3 t) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2
  Φ _ := Pipeline.ΦA spec2 c
  q _ := fullShare
  owed _ := 0

/-- The proof data's arrays are the region-entry contents, by projecting the definition. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- Output 3's contents CARRY through the points that leave it idle. -/
theorem hcarry2_3 (c : Dev nD) : ∀ (t : Fin cfg2.N) (_ : t.val ≠ 0), cfg2.idle 3 (grid2.coords t) = true → cfg2.fresh 3 t.val = false →
    (dat2 V c).after 3 t = (dat2 V c).after 3 ⟨t.val - 1, by omega⟩ := by
  intro t _ hi _
  have hN : t.val < 8 := lt_of_lt_of_eq t.isLt (show cfg2.N = 8 from N_2)
  rw [after2_3, after2_3]
  by_cases h0 : t.val % 8 = 0
  · by_cases h1 : 1 ≤ t.val
    · exfalso; omega
    · rw [liveAt2_3_A t ((hcond2_0 t).mpr h0) (fun h => h1 ((hcond2_1 t).mp h))] at hi
      exact absurd hi Bool.false_ne_true
  · by_cases h1 : 1 ≤ t.val
    · rw [liveAt2_3_B t (fun h => h0 ((hcond2_0 t).mp h)) ((hcond2_1 t).mpr h1)] at hi
      exact absurd hi Bool.false_ne_true
    · exfalso; omega
/-- At a point of case B output 3's current staging buffer holds what the point before left. -/
theorem before2_3_B (c : Dev nD) (t : Fin cfg2.N) (h0 : ¬t.val % 8 = 0) (h1 : 1 ≤ t.val) (d) :
    (dat2 V c).before 3 t d = (outsAt2 V c (t.val - 1) (Nat.lt_of_le_of_lt (Nat.sub_le _ _) t.isLt)).2 := by
  rw [Dat.before_out_traj _ 3 rfl (fun _ _ => rfl) (hcarry2_3 V c) t.val t rfl d,
    if_neg (by rw [notFresh2_3_B t (fun h => h0 ((hcond2_0 t).mp h)) ((hcond2_1 t).mpr h1)]; exact Bool.false_ne_true)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 800000 in
/-- The body at any point: the inputs' memrefs hold their blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl]
  have hN : t.val < 8 := lt_of_lt_of_eq t.isLt (show cfg2.N = 8 from N_2)
  by_cases h0 : t.val % 8 = 0
  · by_cases h1 : 1 ≤ t.val
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3_A t ((hcond2_0 t).mpr h0) (fun h => h1 ((hcond2_1 t).mp h))], after2_3]
      rw [outsAt2_A V c t h0 h1]
      unfold out2_A_2 out2_A_3; (try dsimp only)
      iintro ⟨HΦ, Ho, ⟨%d0, H0⟩, ⟨%d1, H1⟩, ⟨%d2, H2⟩, ⟨%d3, H3⟩⟩
      iapply ((kernelRun2_A c (grid2.coords t) _ _ _ _ _ _ _ _ ((hcond2_0 t).mpr h0) (fun h => h1 ((hcond2_1 t).mp h)) (iblk2 V c 0 t) (iblk2 V c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A_2 c _ _ _ _ _ _ _ _ _ _ _ _ _)
      unfold owns; iexists _; isplitr
      swap; · iexact H3
      ipureintro; exact View.read_writes_of_cover _ _ _ _ _ (cover2_A_3 c _ _ _ _ _ _ _ _ _ _ _ _ _)
  · by_cases h1 : 1 ≤ t.val
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3_B t (fun h => h0 ((hcond2_0 t).mp h)) ((hcond2_1 t).mpr h1)], after2_3]
      rw [outsAt2_B V c t h0 h1]
      simp only [before2_3_B V c t h0 h1]
      unfold out2_B_2 out2_B_3; (try dsimp only)
      iintro ⟨HΦ, Ho, ⟨%d0, H0⟩, ⟨%d1, H1⟩, ⟨%d2, H2⟩, ⟨%d3, H3⟩⟩
      iapply ((kernelRun2_B c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B_2 c _ _ _ _ _ _ _ _ _ _ _ _ _ _)
      unfold owns; iexists _; isplitr
      swap; · iexact H3
      ipureintro; exact View.read_writes_of_cover _ _ _ _ _ (cover2_B_3 c _ _ _ _ _ _ _ _ _ _ _ _ _ _)
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Gen

end
-- ==== Proof.KernelRun.Region3.lean ====
/- `Kernel`, whole program: the pallas_call of region 3, at the contents `V` its arrays have when it is entered: each window's block at a
   point, the kernel body's run per case, what each output's staging buffer holds after it, and the body obligation.
   The comments here are short: the same theorems are explained at length in KernelIdealRun/Region3.lean. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3__fwd_dx_body` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof data whose array is `V`'s. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof data whose array is `V`'s. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof data whose array is `V`'s. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof data whose array is `V`'s. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

/-- One staging buffer of output window 4, through which its contents are stated (`View.read_writes_of_cover`: the
    choice does not matter). -/
abbrev VO3_4 : View sig .tc .vmem S32x8x2176 .bf16 := (Memref.whole cc3_stg4_0 : Memref sig .tc .vmem S32x8x2176 .bf16).view
/-- One staging buffer of output window 5, through which its contents are stated (`View.read_writes_of_cover`: the
    choice does not matter). -/
abbrev VO3_5 : View sig .tc .vmem S32x8x7040 .bf16 := (Memref.whole cc3_stg5_0 : Memref sig .tc .vmem S32x8x7040 .bf16).view
/-- Each window's current staging memref at point `t`, spelled as the pipeline passes it (`bodyAt3`), and its wholeness. -/
abbrev ms3_0 (t : Fin cfg3.N) : Memref sig .tc .smem S1x3 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x7040 .fp8e4m3 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x2176 .fp8e5m2 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S7040x2176 .fp8e4m3 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S32x8x2176 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S32x8x7040 .bf16 := win3_5.stage (cfg3.slots t 5)
abbrev hs3_5 (t : Fin cfg3.N) : (ms3_5 t).IsWhole := hstage3_5 ((cfg3.slots t 5).cast nbuf3_5)

-- (the run's proof term is large: the definition's epilogue — `abstractNestedProofs` — walks it past the default budget)
set_option maxHeartbeats 1000000 in
/-- What the body's stores leave in each output's staging memref, as pieces. -/
noncomputable def kernelRun3_A (c : Dev nD) (i : grid3.Coords) (arg1 : Memref sig .tc .smem S1x3 .f32) (harg1 : arg1.IsWhole) (arg2 : Memref sig .tc .vmem S256x7040 .fp8e4m3) (harg2 : arg2.IsWhole) (arg3 : Memref sig .tc .vmem S256x2176 .fp8e5m2) (harg3 : arg3.IsWhole) (arg4 : Memref sig .tc .vmem S7040x2176 .fp8e4m3) (harg4 : arg4.IsWhole) (arg5 : Memref sig .tc .vmem S32x8x2176 .bf16) (harg5 : arg5.IsWhole) (arg6 : Memref sig .tc .vmem S32x8x7040 .bf16) (harg6 : arg6.IsWhole)
    (x0 : Vec F S1x3 .f32) (x1 : Vec F S256x7040 .fp8e4m3) (x2 : Vec F S256x2176 .fp8e5m2) (x3 : Vec F S7040x2176 .fp8e4m3) :
    Σ' (L4 : List (View.Piece (Elt F) S32x8x2176 .bf16)), { L5 : List (View.Piece (Elt F) S32x8x7040 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc3__fwd_dx_body i arg1 harg1 arg2 harg2 arg3 harg3 arg4 harg4 arg5 harg5 arg6 harg6) K } := by
  refine ⟨?_, ?_, fun E K => ?run⟩
  case run =>
    simp only [cc3__fwd_dx_body_eq_skeleton]; unfold cc3__fwd_dx_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

/-- The run's pieces for output 4 tile its block. -/
theorem cover3_A_4 (c : Dev nD) (i : grid3.Coords) (arg1 : Memref sig .tc .smem S1x3 .f32) (harg1 : arg1.IsWhole) (arg2 : Memref sig .tc .vmem S256x7040 .fp8e4m3) (harg2 : arg2.IsWhole) (arg3 : Memref sig .tc .vmem S256x2176 .fp8e5m2) (harg3 : arg3.IsWhole) (arg4 : Memref sig .tc .vmem S7040x2176 .fp8e4m3) (harg4 : arg4.IsWhole) (arg5 : Memref sig .tc .vmem S32x8x2176 .bf16) (harg5 : arg5.IsWhole) (arg6 : Memref sig .tc .vmem S32x8x7040 .bf16) (harg6 : arg6.IsWhole)
    (x0 : Vec F S1x3 .f32) (x1 : Vec F S256x7040 .fp8e4m3) (x2 : Vec F S256x2176 .fp8e5m2) (x3 : Vec F S7040x2176 .fp8e4m3) (y : S32x8x2176.Idx) :
    ∃ pc ∈ (kernelRun3_A c i arg1 harg1 arg2 harg2 arg3 harg3 arg4 harg4 arg5 harg5 arg6 harg6 x0 x1 x2 x3).1, y ∈ pc.1.set :=
  View.cover_of_tiledL (kernelRun3_A c i arg1 harg1 arg2 harg2 arg3 harg3 arg4 harg4 arg5 harg5 arg6 harg6 x0 x1 x2 x3).1 S32x8x2176.size (by sl_kernel_rfl) y

/-- What the run leaves in output 4's staging buffer: its pieces read back over junk. -/
def out3_A_4 (c : Dev nD) (i : grid3.Coords) (arg1 : Memref sig .tc .smem S1x3 .f32) (harg1 : arg1.IsWhole) (arg2 : Memref sig .tc .vmem S256x7040 .fp8e4m3) (harg2 : arg2.IsWhole) (arg3 : Memref sig .tc .vmem S256x2176 .fp8e5m2) (harg3 : arg3.IsWhole) (arg4 : Memref sig .tc .vmem S7040x2176 .fp8e4m3) (harg4 : arg4.IsWhole) (arg5 : Memref sig .tc .vmem S32x8x2176 .bf16) (harg5 : arg5.IsWhole) (arg6 : Memref sig .tc .vmem S32x8x7040 .bf16) (harg6 : arg6.IsWhole)
    (x0 : Vec F S1x3 .f32) (x1 : Vec F S256x7040 .fp8e4m3) (x2 : Vec F S256x2176 .fp8e5m2) (x3 : Vec F S7040x2176 .fp8e4m3) : Vec F S32x8x2176 .bf16 :=
  VO3_4.read (Elt F) (VO3_4.writes (Elt F) VO3_4.junk (kernelRun3_A c i arg1 harg1 arg2 harg2 arg3 harg3 arg4 harg4 arg5 harg5 arg6 harg6 x0 x1 x2 x3).1)

/-- The run's pieces for output 5 tile its block. -/
theorem cover3_A_5 (c : Dev nD) (i : grid3.Coords) (arg1 : Memref sig .tc .smem S1x3 .f32) (harg1 : arg1.IsWhole) (arg2 : Memref sig .tc .vmem S256x7040 .fp8e4m3) (harg2 : arg2.IsWhole) (arg3 : Memref sig .tc .vmem S256x2176 .fp8e5m2) (harg3 : arg3.IsWhole) (arg4 : Memref sig .tc .vmem S7040x2176 .fp8e4m3) (harg4 : arg4.IsWhole) (arg5 : Memref sig .tc .vmem S32x8x2176 .bf16) (harg5 : arg5.IsWhole) (arg6 : Memref sig .tc .vmem S32x8x7040 .bf16) (harg6 : arg6.IsWhole)
    (x0 : Vec F S1x3 .f32) (x1 : Vec F S256x7040 .fp8e4m3) (x2 : Vec F S256x2176 .fp8e5m2) (x3 : Vec F S7040x2176 .fp8e4m3) (y : S32x8x7040.Idx) :
    ∃ pc ∈ (kernelRun3_A c i arg1 harg1 arg2 harg2 arg3 harg3 arg4 harg4 arg5 harg5 arg6 harg6 x0 x1 x2 x3).2.1, y ∈ pc.1.set :=
  View.cover_of_tiledL (kernelRun3_A c i arg1 harg1 arg2 harg2 arg3 harg3 arg4 harg4 arg5 harg5 arg6 harg6 x0 x1 x2 x3).2.1 S32x8x7040.size (by sl_kernel_rfl) y

/-- What the run leaves in output 5's staging buffer: its pieces read back over junk. -/
def out3_A_5 (c : Dev nD) (i : grid3.Coords) (arg1 : Memref sig .tc .smem S1x3 .f32) (harg1 : arg1.IsWhole) (arg2 : Memref sig .tc .vmem S256x7040 .fp8e4m3) (harg2 : arg2.IsWhole) (arg3 : Memref sig .tc .vmem S256x2176 .fp8e5m2) (harg3 : arg3.IsWhole) (arg4 : Memref sig .tc .vmem S7040x2176 .fp8e4m3) (harg4 : arg4.IsWhole) (arg5 : Memref sig .tc .vmem S32x8x2176 .bf16) (harg5 : arg5.IsWhole) (arg6 : Memref sig .tc .vmem S32x8x7040 .bf16) (harg6 : arg6.IsWhole)
    (x0 : Vec F S1x3 .f32) (x1 : Vec F S256x7040 .fp8e4m3) (x2 : Vec F S256x2176 .fp8e5m2) (x3 : Vec F S7040x2176 .fp8e4m3) : Vec F S32x8x7040 .bf16 :=
  VO3_5.read (Elt F) (VO3_5.writes (Elt F) VO3_5.junk (kernelRun3_A c i arg1 harg1 arg2 harg2 arg3 harg3 arg4 harg4 arg5 harg5 arg6 harg6 x0 x1 x2 x3).2.1)

/-! ## What the outputs hold after each point -/

/-- What the outputs' staging buffers hold after the body at point `t` (as a tuple, in window order): the run's contents at
    the point's memrefs and input blocks. -/
def outsAt3 (c : Dev nD) (t : Fin cfg3.N) : Vec F S32x8x2176 .bf16 × Vec F S32x8x7040 .bf16 :=
  (out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) (iblk3 V c 0 t) (iblk3 V c 1 t) (iblk3 V c 2 t) (iblk3 V c 3 t), out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (iblk3 V c 0 t) (iblk3 V c 1 t) (iblk3 V c 2 t) (iblk3 V c 3 t))

/-! ## The pipeline's proof data -/

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t).1
    | ⟨5, _⟩ => (outsAt3 V c t).2
  Φ _ := Pipeline.ΦA spec3 c
  q _ := fullShare
  owed _ := 0

/-- The proof data's arrays are the region-entry contents, by projecting the definition. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t).1 := by dsimp only [dat3]
theorem after3_5 (c : Dev nD) (t : Fin cfg3.N) : (dat3 V c).after 5 t = (outsAt3 V c t).2 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

/-- The body at any point: the inputs' memrefs hold their blocks. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  unfold outsAt3
  unfold out3_A_4 out3_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun3_A c (grid3.coords t) _ _ _ _ _ _ _ _ _ _ _ _ (iblk3 V c 0 t) (iblk3 V c 1 t) (iblk3 V c 2 t) (iblk3 V c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover3_A_4 c _ _ _ _ _ _ _ _ _ _ _ _ _ _ _ _ _)
  unfold owns; iexists _; isplitr
  swap; · iexact H5
  ipureintro; exact View.read_writes_of_cover _ _ _ _ _ (cover3_A_5 c _ _ _ _ _ _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.Kernel.Gen

end
-- ==== Proof.KernelRun.Region4.lean ====
/- `Kernel`, whole program: the pallas_call of region 4, at the contents `V` its arrays have when it is entered: each window's block at a
   point, the kernel body's run per case, what each output's staging buffer holds after it, and the body obligation.
   The comments here are short: the same theorems are explained at length in KernelIdealRun/Region4.lean. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4__dw_body` (pipeline 4), at the entry contents `V` -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof data whose array is `V`'s. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof data whose array is `V`'s. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof data whose array is `V`'s. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The kernel body on any staging memrefs: a subtype the run finds -/

/-- One staging buffer of output window 3, through which its contents are stated (`View.read_writes_of_cover`: the
    choice does not matter). -/
abbrev VO4_3 : View sig .tc .vmem S640x2176 .f32 := (Memref.whole cc4_stg3_0 : Memref sig .tc .vmem S640x2176 .f32).view
/-- Each window's current staging memref at point `t`, spelled as the pipeline passes it (`bodyAt4`), and its wholeness. -/
abbrev ms4_0 (t : Fin cfg4.N) : Memref sig .tc .smem S1x3 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x640 .fp8e4m3 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4096x2176 .fp8e5m2 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S640x2176 .f32 := win4_3.stage (cfg4.slots t 3)
abbrev hs4_3 (t : Fin cfg4.N) : (ms4_3 t).IsWhole := hstage4_3 ((cfg4.slots t 3).cast nbuf4_3)

-- (the run's proof term is large: the definition's epilogue — `abstractNestedProofs` — walks it past the default budget)
set_option maxHeartbeats 1000000 in
/-- What the body's stores leave in each output's staging memref, as pieces. -/
noncomputable def kernelRun4_A (c : Dev nD) (i : grid4.Coords) (arg1 : Memref sig .tc .smem S1x3 .f32) (harg1 : arg1.IsWhole) (arg2 : Memref sig .tc .vmem S4096x640 .fp8e4m3) (harg2 : arg2.IsWhole) (arg3 : Memref sig .tc .vmem S4096x2176 .fp8e5m2) (harg3 : arg3.IsWhole) (arg4 : Memref sig .tc .vmem S640x2176 .f32) (harg4 : arg4.IsWhole)
    (x0 : Vec F S1x3 .f32) (x1 : Vec F S4096x640 .fp8e4m3) (x2 : Vec F S4096x2176 .fp8e5m2) :
    { L3 : List (View.Piece (Elt F) S640x2176 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc4__dw_body i arg1 harg1 arg2 harg2 arg3 harg3 arg4 harg4) K } := by
  refine ⟨?_, fun E K => ?run⟩
  case run =>
    simp only [cc4__dw_body_eq_skeleton]; unfold cc4__dw_body_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block. -/
theorem cover4_A_3 (c : Dev nD) (i : grid4.Coords) (arg1 : Memref sig .tc .smem S1x3 .f32) (harg1 : arg1.IsWhole) (arg2 : Memref sig .tc .vmem S4096x640 .fp8e4m3) (harg2 : arg2.IsWhole) (arg3 : Memref sig .tc .vmem S4096x2176 .fp8e5m2) (harg3 : arg3.IsWhole) (arg4 : Memref sig .tc .vmem S640x2176 .f32) (harg4 : arg4.IsWhole)
    (x0 : Vec F S1x3 .f32) (x1 : Vec F S4096x640 .fp8e4m3) (x2 : Vec F S4096x2176 .fp8e5m2) (y : S640x2176.Idx) :
    ∃ pc ∈ (kernelRun4_A c i arg1 harg1 arg2 harg2 arg3 harg3 arg4 harg4 x0 x1 x2).1, y ∈ pc.1.set :=
  View.cover_of_tiledL (kernelRun4_A c i arg1 harg1 arg2 harg2 arg3 harg3 arg4 harg4 x0 x1 x2).1 S640x2176.size (by sl_kernel_rfl) y

/-- What the run leaves in output 3's staging buffer: its pieces read back over junk. -/
def out4_A_3 (c : Dev nD) (i : grid4.Coords) (arg1 : Memref sig .tc .smem S1x3 .f32) (harg1 : arg1.IsWhole) (arg2 : Memref sig .tc .vmem S4096x640 .fp8e4m3) (harg2 : arg2.IsWhole) (arg3 : Memref sig .tc .vmem S4096x2176 .fp8e5m2) (harg3 : arg3.IsWhole) (arg4 : Memref sig .tc .vmem S640x2176 .f32) (harg4 : arg4.IsWhole)
    (x0 : Vec F S1x3 .f32) (x1 : Vec F S4096x640 .fp8e4m3) (x2 : Vec F S4096x2176 .fp8e5m2) : Vec F S640x2176 .f32 :=
  VO4_3.read (Elt F) (VO4_3.writes (Elt F) VO4_3.junk (kernelRun4_A c i arg1 harg1 arg2 harg2 arg3 harg3 arg4 harg4 x0 x1 x2).1)

/-! ## What the outputs hold after each point -/

/-- What the outputs' staging buffers hold after the body at point `t`: the run's contents at
    the point's memrefs and input blocks. -/
def outsAt4 (c : Dev nD) (t : Fin cfg4.N) : Vec F S640x2176 .f32 :=
  out4_A_3 c (grid4.coords t) (ms4_0 t) (hs4_0 t) (ms4_1 t) (hs4_1 t) (ms4_2 t) (hs4_2 t) (ms4_3 t) (hs4_3 t) (iblk4 V c 0 t) (iblk4 V c 1 t) (iblk4 V c 2 t)

/-! ## The pipeline's proof data -/

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t)
  Φ _ := Pipeline.ΦA spec4 c
  q _ := fullShare
  owed _ := 0

/-- The proof data's arrays are the region-entry contents, by projecting the definition. -/
theorem A_eq4 (c : Dev nD) (w : Fin cfg4.W) : (dat4 V c).A w = V c (Pipeline.arrRef spec4 w) := by
  dsimp only [dat4]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t))

/-- The body at any point: the inputs' memrefs hold their blocks. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  unfold outsAt4
  unfold out4_A_3
  iintro ⟨HΦ, Ho, ⟨%d0, H0⟩, ⟨%d1, H1⟩, ⟨%d2, H2⟩, ⟨%d3, H3⟩⟩
  iapply ((kernelRun4_A c (grid4.coords t) _ _ _ _ _ _ _ _ (iblk4 V c 0 t) (iblk4 V c 1 t) (iblk4 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_A_3 c _ _ _ _ _ _ _ _ _ _ _ _)

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.Kernel.Gen

end
-- ==== Proof.KernelRun.Hosts0.lean ====
/- `Kernel`, whole program: what each stretch of host operations writes, and that it writes no argument. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v8, main_v9, main_v10, main_v11, main_v12, main_v13, main_v14, main_v15]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v18, main_v19, main_v20, main_v21, main_v22, main_v23, main_v24, main_v25, main_v26, main_v27, main_v28, main_v29, main_v30]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

end Cert.Kernel.Gen

end
-- ==== Proof.KernelRun.Fold0.lean ====
/- `Kernel`, whole program: the contents of every buffer at each boundary between the items of @main (`WJ`), a fold from the launch memory,
   and what each item leaves unchanged.
   The comments here are short: the same theorems are explained at length in KernelIdealRun/Fold0.lean. -/
module

public import proofs.«01_k».proof.Proof.KernelRun.Region0
public import proofs.«01_k».proof.Proof.KernelRun.Region1
public import proofs.«01_k».proof.Proof.KernelRun.Region2
public import proofs.«01_k».proof.Proof.KernelRun.Region3
public import proofs.«01_k».proof.Proof.KernelRun.Region4
public import proofs.«01_k».proof.Proof.KernelRun.Hosts0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- At region 4's exit: its arrays at what the pipeline leaves. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- A reference that is none of region 4's OUTPUT arrays keeps its entry contents across it. -/
theorem W9_of (c : Dev nD) (r : Ref sig .tc) (h : ∀ w : Fin cfg4.W, Pipeline.arrRef spec4 w = r → (cfg4.win w).isOut = false) :
    W9 m ρ c (Proc.devRef .tc r) = W8 m ρ c (Proc.devRef .tc r) := by
  by_cases hw : ∃ w : Fin cfg4.W, Pipeline.arrRef spec4 w = r
  · obtain ⟨w, rfl⟩ := hw
    exact (W9_arr m ρ c w).trans (((dat4 (V8 m ρ) c).arrAt_in w (h w rfl) _).trans (A_eq4 (V8 m ρ) c w))
  · exact W9_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn4 a ha)).trans (W8_args m ρ c a ha)
/-- The same read at the TensorCore's references (region 4's exit contents). -/
abbrev V9 : (c : Dev nD) → (b : Ref sig .tc) → Buf (Elt F) ((c : Thread nD τ).loc b) := fun c b => W9 m ρ c b
/-- At region 4's exit each of its arrays holds what the pipeline leaves. -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After `hostOps5`. -/
abbrev W10 : Dev nD → Valuation τ sig (Elt F) := fun c => StableHlo.after hostOps5 (W9 m ρ c)
/-- A reference `hostOps5` does not write keeps its contents across it. -/
theorem W10_of (c : Dev nD) (r : Ref sig .tc) (h : r ∉ hostOps5_W) : W10 m ρ c (Proc.devRef .tc r) = W9 m ρ c (Proc.devRef .tc r) :=
  StableHlo.after_of_writes_sub hostOps5 _ hostOps5_writes h
theorem W10_args (c : Dev nD) : ∀ a ∈ argRefs, W10 m ρ c (Proc.devRef .tc a) = m ((c : Thread nD τ).loc a) :=
  fun a ha => (W10_of m ρ c a (hostOps5_args a ha)).trans (W9_args m ρ c a ha)

/-! ### The arguments end as launched: no host stretch writes one and no region may change one (a region reads it
    through an input window or bypasses it) -/

theorem W10_main_arg0 (c : Dev nD) : W10 m ρ c (Proc.devRef .tc main_arg0) = m ((c : Thread nD τ).loc main_arg0) :=
  W10_args m ρ c main_arg0 (by decide)
theorem W10_main_arg1 (c : Dev nD) : W10 m ρ c (Proc.devRef .tc main_arg1) = m ((c : Thread nD τ).loc main_arg1) :=
  W10_args m ρ c main_arg1 (by decide)
theorem W10_main_arg2 (c : Dev nD) : W10 m ρ c (Proc.devRef .tc main_arg2) = m ((c : Thread nD τ).loc main_arg2) :=
  W10_args m ρ c main_arg2 (by decide)
theorem W10_main_arg3 (c : Dev nD) : W10 m ρ c (Proc.devRef .tc main_arg3) = m ((c : Thread nD τ).loc main_arg3) :=
  W10_args m ρ c main_arg3 (by decide)
theorem W10_main_arg4 (c : Dev nD) : W10 m ρ c (Proc.devRef .tc main_arg4) = m ((c : Thread nD τ).loc main_arg4) :=
  W10_args m ρ c main_arg4 (by decide)
theorem W10_main_arg5 (c : Dev nD) : W10 m ρ c (Proc.devRef .tc main_arg5) = m ((c : Thread nD τ).loc main_arg5) :=
  W10_args m ρ c main_arg5 (by decide)
theorem W10_main_arg6 (c : Dev nD) : W10 m ρ c (Proc.devRef .tc main_arg6) = m ((c : Thread nD τ).loc main_arg6) :=
  W10_args m ρ c main_arg6 (by decide)
theorem W10_main_arg7 (c : Dev nD) : W10 m ρ c (Proc.devRef .tc main_arg7) = m ((c : Thread nD τ).loc main_arg7) :=
  W10_args m ρ c main_arg7 (by decide)
theorem W10_main_arg8 (c : Dev nD) : W10 m ρ c (Proc.devRef .tc main_arg8) = m ((c : Thread nD τ).loc main_arg8) :=
  W10_args m ρ c main_arg8 (by decide)
theorem W10_main_arg9 (c : Dev nD) : W10 m ρ c (Proc.devRef .tc main_arg9) = m ((c : Thread nD τ).loc main_arg9) :=
  W10_args m ρ c main_arg9 (by decide)
theorem W10_main_arg10 (c : Dev nD) : W10 m ρ c (Proc.devRef .tc main_arg10) = m ((c : Thread nD τ).loc main_arg10) :=
  W10_args m ρ c main_arg10 (by decide)
theorem W10_main_arg11 (c : Dev nD) : W10 m ρ c (Proc.devRef .tc main_arg11) = m ((c : Thread nD τ).loc main_arg11) :=
  W10_args m ρ c main_arg11 (by decide)
end Cert.Kernel.Gen

end
-- ==== Proof.KernelRun.State.lean ====
/- `Kernel`, whole program: every pipeline's proof data at its region's entry contents, and the state that rides through the segments. -/
module

public import proofs.«01_k».proof.Proof.KernelRun.Fold0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

end Cert.Kernel.Gen

end
-- ==== Proof.KernelRun.Record0.lean ====
/- `Kernel`, whole program: the pallas_call of region 0 as a segment of @main. -/
module

public import proofs.«01_k».proof.Proof.KernelRun.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.Record1.lean ====
/- `Kernel`, whole program: the pallas_call of region 1 as a segment of @main. -/
module

public import proofs.«01_k».proof.Proof.KernelRun.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.Record2.lean ====
/- `Kernel`, whole program: the pallas_call of region 2 as a segment of @main. -/
module

public import proofs.«01_k».proof.Proof.KernelRun.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.Record3.lean ====
/- `Kernel`, whole program: the pallas_call of region 3 as a segment of @main. -/
module

public import proofs.«01_k».proof.Proof.KernelRun.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.Record4.lean ====
/- `Kernel`, whole program: the pallas_call of region 4 as a segment of @main. -/
module

public import proofs.«01_k».proof.Proof.KernelRun.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W8`, left at `W9`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) (A_eq4 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.Launch.lean ====
/- `Kernel`, whole program: @main as its segments, and the run from the launch: every buffer ends at the last boundary's contents `W34`. -/
module

public import proofs.«01_k».proof.Proof.KernelRun.Record0
public import proofs.«01_k».proof.Proof.KernelRun.Record1
public import proofs.«01_k».proof.Proof.KernelRun.Record2
public import proofs.«01_k».proof.Proof.KernelRun.Record3
public import proofs.«01_k».proof.Proof.KernelRun.Record4

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 10 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ),
    .host (hseg hostOps5 hostOps5_sub hostOps5_fresh (W9 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter at zero: the kit's launch over
    the segments, the last thread state read against the final state (`pointsTo_read_all`), each argument by `W10_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨(h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h => h.1) (frame m ρ)

end Cert.Kernel.Gen

end
-- ==== Proof.KernelIdealRun.Region0.lean ====
/- `KernelIdeal`, whole program: the pallas_call of region 0, at the contents `V` its arrays have when it is entered: each window's block at a
   point, the kernel body's run per case, what each output's staging buffer holds after it, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__quant_body` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab0_3_step` checks it against the configuration's own
    step point by point and Lib/Pipeline/TableIdle.lean `Cfg.fresh_tab` makes it `Cfg.fresh` (`fresh0_3_eq`). -/
def freshTab0_3 : ℕ → Bool
  | 0 => true
  | n + 1 => (0x8000 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the points of case A the printed configuration (`Cfg.idle`) calls output 3 live: the case stores into it. -/
theorem liveAt0_3_A : ∀ t : Fin cfg0.N, cond0_0 (grid0.coords t) → ¬cond0_1 (grid0.coords t) → cfg0.idle 3 (grid0.coords t) = false := by decide +kernel
/-- At the points of case B the printed configuration (`Cfg.idle`) calls output 3 live: the case stores into it. -/
theorem liveAt0_3_B : ∀ t : Fin cfg0.N, ¬cond0_0 (grid0.coords t) → cond0_1 (grid0.coords t) → cfg0.idle 3 (grid0.coords t) = false := by decide +kernel
/-- At the points of case B, which keeps output 3's prior contents (reads it before covering, or covers it in part), the
    window's buffer is not FRESH: something was stored into it since the region's entry or its last write-back, idle points
    between or not (Lib/Pipeline/TableIdle.lean `Cfg.fresh`, by the table `freshTab0_3`). -/
theorem notFresh0_3_B : ∀ t : Fin cfg0.N, ¬cond0_0 (grid0.coords t) → cond0_1 (grid0.coords t) → cfg0.fresh 3 t.val = false := by
  intro t; rw [fresh0_3_eq t]; revert t; decide +kernel

/-! ## The kernel body on any staging memrefs: a subtype the run finds -/

/-- One staging buffer of output window 2, through which its contents are stated (`View.read_writes_of_cover`: the
    choice does not matter). -/
abbrev VO0_2 : View sig .tc .vmem S256x7040 .fp8e4m3 := (Memref.whole cc0_stg2_0 : Memref sig .tc .vmem S256x7040 .fp8e4m3).view
/-- One staging buffer of output window 3, through which its contents are stated (`View.read_writes_of_cover`: the
    choice does not matter). -/
abbrev VO0_3 : View sig .tc .smem S1x1 .f32 := (Memref.whole cc0_stg3_0 : Memref sig .tc .smem S1x1 .f32).view
/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x7040 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x7040 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x1 .f32 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : cond0_0 i) (hc1 : ¬cond0_1 i)
    (x0 : Vec F S1x1 .f32) (x1 : Vec F S256x7040 .bf16) :
    Σ' (L2 : List (View.Piece (Elt F) S256x7040 .fp8e4m3)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__quant_body i arg1 harg1 arg2 harg2 arg3 harg3 arg4 harg4) K } := by
  refine ⟨?_, ?_, fun E K => ?run⟩
  case run =>
    simp only [cc0__quant_body_eq_skeleton]; unfold cc0__quant_body_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block (1 store of `S256x7040`, checked by the kernel's evaluation: Lib/Ring.lean `Piece.tiledL`, linear in the pieces, through a loop's `@[irreducible]` trip theorem too), so they cover it. -/
theorem cover0_A_2 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : cond0_0 i) (hc1 : ¬cond0_1 i)
    (x0 : Vec F S1x1 .f32) (x1 : Vec F S256x7040 .bf16) (y : S256x7040.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S256x7040.size (by sl_kernel_rfl) y

/-- What case A leaves in output 2's staging buffer: its pieces read back over junk. -/
def out0_A_2 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : cond0_0 i) (hc1 : ¬cond0_1 i)
    (x0 : Vec F S1x1 .f32) (x1 : Vec F S256x7040 .bf16) : Vec F S256x7040 .fp8e4m3 :=
  VO0_2.read (Elt F) (VO0_2.writes (Elt F) VO0_2.junk (kernelRun0_A c i arg1 harg1 arg2 harg2 arg3 harg3 arg4 harg4 hc0 hc1 x0 x1).1)

/-- Case A's pieces for output 3 tile its block (1 store of `S1x1`, checked by the kernel's evaluation: Lib/Ring.lean `Piece.tiledL`, linear in the pieces, through a loop's `@[irreducible]` trip theorem too), so they cover it. -/
theorem cover0_A_3 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : cond0_0 i) (hc1 : ¬cond0_1 i)
    (x0 : Vec F S1x1 .f32) (x1 : Vec F S256x7040 .bf16) (y : S1x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x1.size (by sl_kernel_rfl) y

/-- What case A leaves in output 3's staging buffer: its pieces read back over junk. -/
def out0_A_3 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : cond0_0 i) (hc1 : ¬cond0_1 i)
    (x0 : Vec F S1x1 .f32) (x1 : Vec F S256x7040 .bf16) : Vec F S1x1 .f32 :=
  VO0_3.read (Elt F) (VO0_3.writes (Elt F) VO0_3.junk (kernelRun0_A c i arg1 harg1 arg2 harg2 arg3 harg3 arg4 harg4 hc0 hc1 x0 x1).2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 15: 15 of 16), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : ¬cond0_0 i) (hc1 : cond0_1 i)
    (x0 : Vec F S1x1 .f32) (x1 : Vec F S256x7040 .bf16) (xo3 : Vec F S1x1 .f32) :
    Σ' (L2 : List (View.Piece (Elt F) S256x7040 .fp8e4m3)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__quant_body i arg1 harg1 arg2 harg2 arg3 harg3 arg4 harg4) K } := by
  refine ⟨?_, ?_, fun E K => ?run⟩
  case run =>
    simp only [cc0__quant_body_eq_skeleton]; unfold cc0__quant_body_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case B's pieces for output 2 tile its block (1 store of `S256x7040`, checked by the kernel's evaluation: Lib/Ring.lean `Piece.tiledL`, linear in the pieces, through a loop's `@[irreducible]` trip theorem too), so they cover it. -/
theorem cover0_B_2 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : ¬cond0_0 i) (hc1 : cond0_1 i)
    (x0 : Vec F S1x1 .f32) (x1 : Vec F S256x7040 .bf16) (xo3 : Vec F S1x1 .f32) (y : S256x7040.Idx) :
    ∃ pc ∈ (kernelRun0_B c i arg1 harg1 arg2 harg2 arg3 harg3 arg4 harg4 hc0 hc1 x0 x1 xo3).1, y ∈ pc.1.set :=
  View.cover_of_tiledL (kernelRun0_B c i arg1 harg1 arg2 harg2 arg3 harg3 arg4 harg4 hc0 hc1 x0 x1 xo3).1 S256x7040.size (by sl_kernel_rfl) y

/-- What case B leaves in output 2's staging buffer: its pieces read back over junk. -/
def out0_B_2 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : ¬cond0_0 i) (hc1 : cond0_1 i)
    (x0 : Vec F S1x1 .f32) (x1 : Vec F S256x7040 .bf16) (xo3 : Vec F S1x1 .f32) : Vec F S256x7040 .fp8e4m3 :=
  VO0_2.read (Elt F) (VO0_2.writes (Elt F) VO0_2.junk (kernelRun0_B c i arg1 harg1 arg2 harg2 arg3 harg3 arg4 harg4 hc0 hc1 x0 x1 xo3).1)

/-- Case B's pieces for output 3 tile its block (1 store of `S1x1`, checked by the kernel's evaluation: Lib/Ring.lean `Piece.tiledL`, linear in the pieces, through a loop's `@[irreducible]` trip theorem too), so they cover it. -/
theorem cover0_B_3 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : ¬cond0_0 i) (hc1 : cond0_1 i)
    (x0 : Vec F S1x1 .f32) (x1 : Vec F S256x7040 .bf16) (xo3 : Vec F S1x1 .f32) (y : S1x1.Idx) :
    ∃ pc ∈ (kernelRun0_B c i arg1 harg1 arg2 harg2 arg3 harg3 arg4 harg4 hc0 hc1 x0 x1 xo3).2.1, y ∈ pc.1.set :=
  View.cover_of_tiledL (kernelRun0_B c i arg1 harg1 arg2 harg2 arg3 harg3 arg4 harg4 hc0 hc1 x0 x1 xo3).2.1 S1x1.size (by sl_kernel_rfl) y

/-- What case B leaves in output 3's staging buffer: its pieces read back over junk. -/
def out0_B_3 (c : Dev nD) (i : grid0.Coords) (arg1 : Memref sig .tc .smem S1x1 .f32) (harg1 : arg1.IsWhole) (arg2 : Memref sig .tc .vmem S256x7040 .bf16) (harg2 : arg2.IsWhole) (arg3 : Memref sig .tc .vmem S256x7040 .fp8e4m3) (harg3 : arg3.IsWhole) (arg4 : Memref sig .tc .smem S1x1 .f32) (harg4 : arg4.IsWhole) (hc0 : ¬cond0_0 i) (hc1 : cond0_1 i)
    (x0 : Vec F S1x1 .f32) (x1 : Vec F S256x7040 .bf16) (xo3 : Vec F S1x1 .f32) : Vec F S1x1 .f32 :=
  VO0_3.read (Elt F) (VO0_3.writes (Elt F) VO0_3.junk (kernelRun0_B c i arg1 harg1 arg2 harg2 arg3 harg3 arg4 harg4 hc0 hc1 x0 x1 xo3).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x7040 .fp8e4m3 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : 1 ≤ (n + 1) then
        False.elim (by have hN : n + 1 < 16 := lt_of_lt_of_eq hn (show cfg0.N = 16 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : 1 ≤ (n + 1) then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : ¬1 ≤ t.val) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : 1 ≤ t.val) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t) (outsAt0 V c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Output 3's contents CARRY through the points that leave it idle: at such a point, its buffer not fresh, the proof data's
    `after` is the point before's (the case there stores nothing into the window and its term says so; a case that stores
    into it is not idle there by `liveAt0_3_κ`) — the hypothesis of Lib/Pipeline/TableIdle.lean `Dat.before_out_traj`. -/
theorem hcarry0_3 (c : Dev nD) : ∀ (t : Fin cfg0.N) (_ : t.val ≠ 0), cfg0.idle 3 (grid0.coords t) = true → cfg0.fresh 3 t.val = false →
    (dat0 V c).after 3 t = (dat0 V c).after 3 ⟨t.val - 1, by omega⟩ := by
  intro t _ hi _
  have hN : t.val < 16 := lt_of_lt_of_eq t.isLt (show cfg0.N = 16 from N_0)
  rw [after0_3, after0_3]
  by_cases h0 : t.val % 16 = 0
  · by_cases h1 : 1 ≤ t.val
    · exfalso; omega
    · rw [liveAt0_3_A t ((hcond0_0 t).mpr h0) (fun h => h1 ((hcond0_1 t).mp h))] at hi
      exact absurd hi Bool.false_ne_true
  · by_cases h1 : 1 ≤ t.val
    · rw [liveAt0_3_B t (fun h => h0 ((hcond0_0 t).mp h)) ((hcond0_1 t).mpr h1)] at hi
      exact absurd hi Bool.false_ne_true
    · exfalso; omega
/-- At a point of case B output 3's current staging buffer holds what the point before left: the buffer is not fresh
    there (`notFresh0_3_B`: stored into since the region's entry or the last write-back, carried through the points that
    leave it idle by `hcarry0_3`; Lib/Pipeline/TableIdle.lean `Dat.before_out_traj`). -/
theorem before0_3_B (c : Dev nD) (t : Fin cfg0.N) (h0 : ¬t.val % 16 = 0) (h1 : 1 ≤ t.val) (d) :
    (dat0 V c).before 3 t d = (outsAt0 V c (t.val - 1) (Nat.lt_of_le_of_lt (Nat.sub_le _ _) t.isLt)).2 := by
  rw [Dat.before_out_traj _ 3 rfl (fun _ _ => rfl) (hcarry0_3 V c) t.val t rfl d,
    if_neg (by rw [notFresh0_3_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  have hN : t.val < 16 := lt_of_lt_of_eq t.isLt (show cfg0.N = 16 from N_0)
  by_cases h0 : t.val % 16 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_A t ((hcond0_0 t).mpr h0) (fun h => h1 ((hcond0_1 t).mp h))], after0_3]
      rw [outsAt0_A V c t h0 h1]
      unfold out0_A_2 out0_A_3; (try dsimp only)
      iintro ⟨HΦ, Ho, ⟨%d0, H0⟩, ⟨%d1, H1⟩, ⟨%d2, H2⟩, ⟨%d3, H3⟩⟩
      iapply ((kernelRun0_A c (grid0.coords t) _ _ _ _ _ _ _ _ ((hcond0_0 t).mpr h0) (fun h => h1 ((hcond0_1 t).mp h)) (iblk0 V c 0 t) (iblk0 V c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _)
      unfold owns; iexists _; isplitr
      swap; · iexact H3
      ipureintro; exact View.read_writes_of_cover _ _ _ _ _ (cover0_A_3 c _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
      rw [outsAt0_B V c t h0 h1]
      simp only [before0_3_B V c t h0 h1]
      unfold out0_B_2 out0_B_3; (try dsimp only)
      iintro ⟨HΦ, Ho, ⟨%d0, H0⟩, ⟨%d1, H1⟩, ⟨%d2, H2⟩, ⟨%d3, H3⟩⟩
      iapply ((kernelRun0_B c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _)
      unfold owns; iexists _; isplitr
      swap; · iexact H3
      ipureintro; exact View.read_writes_of_cover _ _ _ _ _ (cover0_B_3 c _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdealRun.Region1.lean ====
/- `KernelIdeal`, whole program: the pallas_call of region 1, at the contents `V` its arrays have when it is entered: each window's block at a
   point, the kernel body's run per case, what each output's staging buffer holds after it, and the body obligation.
   The comments here are short: the same theorems are explained at length in KernelIdealRun/Region0.lean. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__quant_body` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof data whose array is `V`'s. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 22 = 0 :=
  (fun t => by
    have ht : t.val < 22 := Nat.lt_of_lt_of_eq t.isLt N_1
    have e0 : (grid1.coords t 0).val = t.val / 1 % 22 := Pipeline.Grid.coords_val t 0 (by decide) rfl
    simp only [cond1_0, k1_cond1, e0]
    word_cmp
   : ∀ t : Fin grid1.N, cond1_0 (grid1.coords t) ↔ t.val % 22 = 0)

/-- The condition of the body's `scf.if` 1 (`k1_h2`), from the grid coordinates (the skeleton's scalar
    chain substituted). -/
abbrev cond1_1 (i : grid1.Coords) : Prop := k1_cond2 i = 1#1
/-- It holds at the points from point 1 on — by arithmetic of the point. -/
theorem hcond1_1 : ∀ t : Fin cfg1.N, cond1_1 (grid1.coords t) ↔ 1 ≤ t.val :=
  (fun t => by
    have ht : t.val < 22 := Nat.lt_of_lt_of_eq t.isLt N_1
    have e0 : (grid1.coords t 0).val = t.val / 1 % 22 := Pipeline.Grid.coords_val t 0 (by decide) rfl
    simp only [cond1_1, k1_cond2, e0]
    word_cmp
   : ∀ t : Fin grid1.N, cond1_1 (grid1.coords t) ↔ 1 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an output stored at every point, under no condition). -/
theorem liveAt1_2 : ∀ t : Fin cfg1.N, cfg1.idle 2 (grid1.coords t) = false := fun _ => rfl
/-- Whether output 3's buffer is FRESH at each position `1 ‥ N`. -/
def freshTab1_3 : ℕ → Bool
  | 0 => true
  | n + 1 => (0x200000 : ℕ).testBit n
theorem freshTab1_3_step : ∀ t : Fin cfg1.N,
    freshTab1_3 (t.val + 1) = ((cfg1.win 3).flush t || (cfg1.idle 3 (cfg1.grid.coords t) && freshTab1_3 t.val)) := by decide +kernel
theorem fresh1_3_eq (t : Fin cfg1.N) : cfg1.fresh 3 t.val = freshTab1_3 t.val :=
  Pipeline.Cfg.fresh_tab cfg1 3 freshTab1_3 rfl freshTab1_3_step t.val (Nat.le_of_lt t.isLt)
/-- At the points of case A the printed configuration (`Cfg.idle`) calls output 3 live: the case stores into it. -/
theorem liveAt1_3_A : ∀ t : Fin cfg1.N, cond1_0 (grid1.coords t) → ¬cond1_1 (grid1.coords t) → cfg1.idle 3 (grid1.coords t) = false := by decide +kernel
/-- At the points of case B the printed configuration (`Cfg.idle`) calls output 3 live: the case stores into it. -/
theorem liveAt1_3_B : ∀ t : Fin cfg1.N, ¬cond1_0 (grid1.coords t) → cond1_1 (grid1.coords t) → cfg1.idle 3 (grid1.coords t) = false := by decide +kernel
/-- At the points of case B, which keeps output 3's prior contents. -/
theorem notFresh1_3_B : ∀ t : Fin cfg1.N, ¬cond1_0 (grid1.coords t) → cond1_1 (grid1.coords t) → cfg1.fresh 3 t.val = false := by
  intro t; rw [fresh1_3_eq t]; revert t; decide +kernel

/-! ## The kernel body on any staging memrefs: a subtype the run finds -/

/-- One staging buffer of output window 2, through which its contents are stated (`View.read_writes_of_cover`: the
    choice does not matter). -/
abbrev VO1_2 : View sig .tc .vmem S320x2176 .fp8e4m3 := (Memref.whole cc1_stg2_0 : Memref sig .tc .vmem S320x2176 .fp8e4m3).view
/-- One staging buffer of output window 3, through which its contents are stated (`View.read_writes_of_cover`: the
    choice does not matter). -/
abbrev VO1_3 : View sig .tc .smem S1x1 .f32 := (Memref.whole cc1_stg3_0 : Memref sig .tc .smem S1x1 .f32).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S320x2176 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S320x2176 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .smem S1x1 .f32 := win1_3.stage (cfg1.slots t 3)
abbrev hs1_3 (t : Fin cfg1.N) : (ms1_3 t).IsWhole := hstage1_3 ((cfg1.slots t 3).cast nbuf1_3)

-- (the run's proof term is large: the definition's epilogue — `abstractNestedProofs` — walks it past the default budget)
set_option maxHeartbeats 1000000 in
/-- What the body's stores leave in each output's staging memref, as pieces. -/
noncomputable def kernelRun1_A (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : cond1_0 i) (hc1 : ¬cond1_1 i)
    (x0 : Vec F S1x1 .f32) (x1 : Vec F S320x2176 .f32) :
    Σ' (L2 : List (View.Piece (Elt F) S320x2176 .fp8e4m3)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1__quant_body i arg1 harg1 arg2 harg2 arg3 harg3 arg4 harg4) K } := by
  refine ⟨?_, ?_, fun E K => ?run⟩
  case run =>
    simp only [cc1__quant_body_eq_skeleton]; unfold cc1__quant_body_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block. -/
theorem cover1_A_2 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : cond1_0 i) (hc1 : ¬cond1_1 i)
    (x0 : Vec F S1x1 .f32) (x1 : Vec F S320x2176 .f32) (y : S320x2176.Idx) :
    ∃ pc ∈ (kernelRun1_A c i arg1 harg1 arg2 harg2 arg3 harg3 arg4 harg4 hc0 hc1 x0 x1).1, y ∈ pc.1.set :=
  View.cover_of_tiledL (kernelRun1_A c i arg1 harg1 arg2 harg2 arg3 harg3 arg4 harg4 hc0 hc1 x0 x1).1 S320x2176.size (by sl_kernel_rfl) y

/-- What case A leaves in output 2's staging buffer: its pieces read back over junk. -/
def out1_A_2 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : cond1_0 i) (hc1 : ¬cond1_1 i)
    (x0 : Vec F S1x1 .f32) (x1 : Vec F S320x2176 .f32) : Vec F S320x2176 .fp8e4m3 :=
  VO1_2.read (Elt F) (VO1_2.writes (Elt F) VO1_2.junk (kernelRun1_A c i arg1 harg1 arg2 harg2 arg3 harg3 arg4 harg4 hc0 hc1 x0 x1).1)

/-- Case A's pieces for output 3 tile its block. -/
theorem cover1_A_3 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : cond1_0 i) (hc1 : ¬cond1_1 i)
    (x0 : Vec F S1x1 .f32) (x1 : Vec F S320x2176 .f32) (y : S1x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S1x1.size (by sl_kernel_rfl) y

/-- What case A leaves in output 3's staging buffer: its pieces read back over junk. -/
def out1_A_3 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : cond1_0 i) (hc1 : ¬cond1_1 i)
    (x0 : Vec F S1x1 .f32) (x1 : Vec F S320x2176 .f32) : Vec F S1x1 .f32 :=
  VO1_3.read (Elt F) (VO1_3.writes (Elt F) VO1_3.junk (kernelRun1_A c i arg1 harg1 arg2 harg2 arg3 harg3 arg4 harg4 hc0 hc1 x0 x1).2.1)

-- (the run's proof term is large: the definition's epilogue — `abstractNestedProofs` — walks it past the default budget)
set_option maxHeartbeats 1000000 in
/-- What the body's stores leave in each output's staging memref, as pieces. -/
noncomputable def kernelRun1_B (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : ¬cond1_0 i) (hc1 : cond1_1 i)
    (x0 : Vec F S1x1 .f32) (x1 : Vec F S320x2176 .f32) (xo3 : Vec F S1x1 .f32) :
    Σ' (L2 : List (View.Piece (Elt F) S320x2176 .fp8e4m3)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1__quant_body i arg1 harg1 arg2 harg2 arg3 harg3 arg4 harg4) K } := by
  refine ⟨?_, ?_, fun E K => ?run⟩
  case run =>
    simp only [cc1__quant_body_eq_skeleton]; unfold cc1__quant_body_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case B's pieces for output 2 tile its block. -/
theorem cover1_B_2 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : ¬cond1_0 i) (hc1 : cond1_1 i)
    (x0 : Vec F S1x1 .f32) (x1 : Vec F S320x2176 .f32) (xo3 : Vec F S1x1 .f32) (y : S320x2176.Idx) :
    ∃ pc ∈ (kernelRun1_B c i arg1 harg1 arg2 harg2 arg3 harg3 arg4 harg4 hc0 hc1 x0 x1 xo3).1, y ∈ pc.1.set :=
  View.cover_of_tiledL (kernelRun1_B c i arg1 harg1 arg2 harg2 arg3 harg3 arg4 harg4 hc0 hc1 x0 x1 xo3).1 S320x2176.size (by sl_kernel_rfl) y

/-- What case B leaves in output 2's staging buffer: its pieces read back over junk. -/
def out1_B_2 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : ¬cond1_0 i) (hc1 : cond1_1 i)
    (x0 : Vec F S1x1 .f32) (x1 : Vec F S320x2176 .f32) (xo3 : Vec F S1x1 .f32) : Vec F S320x2176 .fp8e4m3 :=
  VO1_2.read (Elt F) (VO1_2.writes (Elt F) VO1_2.junk (kernelRun1_B c i arg1 harg1 arg2 harg2 arg3 harg3 arg4 harg4 hc0 hc1 x0 x1 xo3).1)

/-- Case B's pieces for output 3 tile its block. -/
theorem cover1_B_3 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : ¬cond1_0 i) (hc1 : cond1_1 i)
    (x0 : Vec F S1x1 .f32) (x1 : Vec F S320x2176 .f32) (xo3 : Vec F S1x1 .f32) (y : S1x1.Idx) :
    ∃ pc ∈ (kernelRun1_B c i arg1 harg1 arg2 harg2 arg3 harg3 arg4 harg4 hc0 hc1 x0 x1 xo3).2.1, y ∈ pc.1.set :=
  View.cover_of_tiledL (kernelRun1_B c i arg1 harg1 arg2 harg2 arg3 harg3 arg4 harg4 hc0 hc1 x0 x1 xo3).2.1 S1x1.size (by sl_kernel_rfl) y

/-- What case B leaves in output 3's staging buffer: its pieces read back over junk. -/
def out1_B_3 (c : Dev nD) (i : grid1.Coords) (arg1 : Memref sig .tc .smem S1x1 .f32) (harg1 : arg1.IsWhole) (arg2 : Memref sig .tc .vmem S320x2176 .f32) (harg2 : arg2.IsWhole) (arg3 : Memref sig .tc .vmem S320x2176 .fp8e4m3) (harg3 : arg3.IsWhole) (arg4 : Memref sig .tc .smem S1x1 .f32) (harg4 : arg4.IsWhole) (hc0 : ¬cond1_0 i) (hc1 : cond1_1 i)
    (x0 : Vec F S1x1 .f32) (x1 : Vec F S320x2176 .f32) (xo3 : Vec F S1x1 .f32) : Vec F S1x1 .f32 :=
  VO1_3.read (Elt F) (VO1_3.writes (Elt F) VO1_3.junk (kernelRun1_B c i arg1 harg1 arg2 harg2 arg3 harg3 arg4 harg4 hc0 hc1 x0 x1 xo3).2.1)

/-! ## What the outputs hold after each point -/

/-- THE ACCUMULATION. What the outputs' staging buffers hold after the body at position `n`. -/
def outsAt1 (c : Dev nD) : (n : ℕ) → n < cfg1.N → Vec F S320x2176 .fp8e4m3 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 22 = 0 then
      if h1 : 1 ≤ (n + 1) then
        False.elim (by have hN : n + 1 < 22 := lt_of_lt_of_eq hn (show cfg1.N = 22 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩), out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : 1 ≤ (n + 1) then
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        False.elim (by have hN : n + 1 < 22 := lt_of_lt_of_eq hn (show cfg1.N = 22 from N_1); omega)

/-- `outsAt1` at a point of case A: that case's contents. -/
theorem outsAt1_A (c : Dev nD) (t : Fin cfg1.N) (h0 : t.val % 22 = 0) (h1 : ¬1 ≤ t.val) :
    outsAt1 V c t.val t.isLt = (out1_A_2 c (grid1.coords t) (ms1_0 t) (hs1_0 t) (ms1_1 t) (hs1_1 t) (ms1_2 t) (hs1_2 t) (ms1_3 t) (hs1_3 t) ((hcond1_0 t).mpr h0) (fun h => h1 ((hcond1_1 t).mp h)) (iblk1 V c 0 t) (iblk1 V c 1 t), out1_A_3 c (grid1.coords t) (ms1_0 t) (hs1_0 t) (ms1_1 t) (hs1_1 t) (ms1_2 t) (hs1_2 t) (ms1_3 t) (hs1_3 t) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 22 = 0) (h1 : 1 ≤ t.val) :
    outsAt1 V c t.val t.isLt = (out1_B_2 c (grid1.coords t) (ms1_0 t) (hs1_0 t) (ms1_1 t) (hs1_1 t) (ms1_2 t) (hs1_2 t) (ms1_3 t) (hs1_3 t) (fun h => h0 ((hcond1_0 t).mp h)) ((hcond1_1 t).mpr h1) (iblk1 V c 0 t) (iblk1 V c 1 t) (outsAt1 V c (t.val - 1) (Nat.lt_of_le_of_lt (Nat.sub_le _ _) t.isLt)).2, out1_B_3 c (grid1.coords t) (ms1_0 t) (hs1_0 t) (ms1_1 t) (hs1_1 t) (ms1_2 t) (hs1_2 t) (ms1_3 t) (hs1_3 t) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

/-- The proof data's arrays are the region-entry contents, by projecting the definition. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- Output 3's contents CARRY through the points that leave it idle. -/
theorem hcarry1_3 (c : Dev nD) : ∀ (t : Fin cfg1.N) (_ : t.val ≠ 0), cfg1.idle 3 (grid1.coords t) = true → cfg1.fresh 3 t.val = false →
    (dat1 V c).after 3 t = (dat1 V c).after 3 ⟨t.val - 1, by omega⟩ := by
  intro t _ hi _
  have hN : t.val < 22 := lt_of_lt_of_eq t.isLt (show cfg1.N = 22 from N_1)
  rw [after1_3, after1_3]
  by_cases h0 : t.val % 22 = 0
  · by_cases h1 : 1 ≤ t.val
    · exfalso; omega
    · rw [liveAt1_3_A t ((hcond1_0 t).mpr h0) (fun h => h1 ((hcond1_1 t).mp h))] at hi
      exact absurd hi Bool.false_ne_true
  · by_cases h1 : 1 ≤ t.val
    · rw [liveAt1_3_B t (fun h => h0 ((hcond1_0 t).mp h)) ((hcond1_1 t).mpr h1)] at hi
      exact absurd hi Bool.false_ne_true
    · exfalso; omega
/-- At a point of case B output 3's current staging buffer holds what the point before left. -/
theorem before1_3_B (c : Dev nD) (t : Fin cfg1.N) (h0 : ¬t.val % 22 = 0) (h1 : 1 ≤ t.val) (d) :
    (dat1 V c).before 3 t d = (outsAt1 V c (t.val - 1) (Nat.lt_of_le_of_lt (Nat.sub_le _ _) t.isLt)).2 := by
  rw [Dat.before_out_traj _ 3 rfl (fun _ _ => rfl) (hcarry1_3 V c) t.val t rfl d,
    if_neg (by rw [notFresh1_3_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 800000 in
/-- The body at any point: the inputs' memrefs hold their blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  have hN : t.val < 22 := lt_of_lt_of_eq t.isLt (show cfg1.N = 22 from N_1)
  by_cases h0 : t.val % 22 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_A t ((hcond1_0 t).mpr h0) (fun h => h1 ((hcond1_1 t).mp h))], after1_3]
      rw [outsAt1_A V c t h0 h1]
      unfold out1_A_2 out1_A_3; (try dsimp only)
      iintro ⟨HΦ, Ho, ⟨%d0, H0⟩, ⟨%d1, H1⟩, ⟨%d2, H2⟩, ⟨%d3, H3⟩⟩
      iapply ((kernelRun1_A c (grid1.coords t) _ _ _ _ _ _ _ _ ((hcond1_0 t).mpr h0) (fun h => h1 ((hcond1_1 t).mp h)) (iblk1 V c 0 t) (iblk1 V c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_A_2 c _ _ _ _ _ _ _ _ _ _ _ _ _)
      unfold owns; iexists _; isplitr
      swap; · iexact H3
      ipureintro; exact View.read_writes_of_cover _ _ _ _ _ (cover1_A_3 c _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
      rw [outsAt1_B V c t h0 h1]
      simp only [before1_3_B V c t h0 h1]
      unfold out1_B_2 out1_B_3; (try dsimp only)
      iintro ⟨HΦ, Ho, ⟨%d0, H0⟩, ⟨%d1, H1⟩, ⟨%d2, H2⟩, ⟨%d3, H3⟩⟩
      iapply ((kernelRun1_B c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_B_2 c _ _ _ _ _ _ _ _ _ _ _ _ _ _)
      unfold owns; iexists _; isplitr
      swap; · iexact H3
      ipureintro; exact View.read_writes_of_cover _ _ _ _ _ (cover1_B_3 c _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdealRun.Region2.lean ====
/- `KernelIdeal`, whole program: the pallas_call of region 2, at the contents `V` its arrays have when it is entered: each window's block at a
   point, the kernel body's run per case, what each output's staging buffer holds after it, and the body obligation.
   The comments here are short: the same theorems are explained at length in KernelIdealRun/Region0.lean. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__quant_body` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof data whose array is `V`'s. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof data whose array is `V`'s. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the first point only — by arithmetic of the point. -/
theorem hcond2_0 : ∀ t : Fin cfg2.N, cond2_0 (grid2.coords t) ↔ t.val % 8 = 0 :=
  (fun t => by
    have ht : t.val < 8 := Nat.lt_of_lt_of_eq t.isLt N_2
    have e0 : (grid2.coords t 0).val = t.val / 1 % 8 := Pipeline.Grid.coords_val t 0 (by decide) rfl
    simp only [cond2_0, k2_cond1, e0]
    word_cmp
   : ∀ t : Fin grid2.N, cond2_0 (grid2.coords t) ↔ t.val % 8 = 0)

/-- The condition of the body's `scf.if` 1 (`k2_h2`), from the grid coordinates (the skeleton's scalar
    chain substituted). -/
abbrev cond2_1 (i : grid2.Coords) : Prop := k2_cond2 i = 1#1
/-- It holds at the points from point 1 on — by arithmetic of the point. -/
theorem hcond2_1 : ∀ t : Fin cfg2.N, cond2_1 (grid2.coords t) ↔ 1 ≤ t.val :=
  (fun t => by
    have ht : t.val < 8 := Nat.lt_of_lt_of_eq t.isLt N_2
    have e0 : (grid2.coords t 0).val = t.val / 1 % 8 := Pipeline.Grid.coords_val t 0 (by decide) rfl
    simp only [cond2_1, k2_cond2, e0]
    word_cmp
   : ∀ t : Fin grid2.N, cond2_1 (grid2.coords t) ↔ 1 ≤ t.val)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an output stored at every point, under no condition). -/
theorem liveAt2_2 : ∀ t : Fin cfg2.N, cfg2.idle 2 (grid2.coords t) = false := fun _ => rfl
/-- Whether output 3's buffer is FRESH at each position `1 ‥ N`. -/
def freshTab2_3 : ℕ → Bool
  | 0 => true
  | n + 1 => (0x80 : ℕ).testBit n
theorem freshTab2_3_step : ∀ t : Fin cfg2.N,
    freshTab2_3 (t.val + 1) = ((cfg2.win 3).flush t || (cfg2.idle 3 (cfg2.grid.coords t) && freshTab2_3 t.val)) := by decide +kernel
theorem fresh2_3_eq (t : Fin cfg2.N) : cfg2.fresh 3 t.val = freshTab2_3 t.val :=
  Pipeline.Cfg.fresh_tab cfg2 3 freshTab2_3 rfl freshTab2_3_step t.val (Nat.le_of_lt t.isLt)
/-- At the points of case A the printed configuration (`Cfg.idle`) calls output 3 live: the case stores into it. -/
theorem liveAt2_3_A : ∀ t : Fin cfg2.N, cond2_0 (grid2.coords t) → ¬cond2_1 (grid2.coords t) → cfg2.idle 3 (grid2.coords t) = false := by decide +kernel
/-- At the points of case B the printed configuration (`Cfg.idle`) calls output 3 live: the case stores into it. -/
theorem liveAt2_3_B : ∀ t : Fin cfg2.N, ¬cond2_0 (grid2.coords t) → cond2_1 (grid2.coords t) → cfg2.idle 3 (grid2.coords t) = false := by decide +kernel
/-- At the points of case B, which keeps output 3's prior contents. -/
theorem notFresh2_3_B : ∀ t : Fin cfg2.N, ¬cond2_0 (grid2.coords t) → cond2_1 (grid2.coords t) → cfg2.fresh 3 t.val = false := by
  intro t; rw [fresh2_3_eq t]; revert t; decide +kernel

/-! ## The kernel body on any staging memrefs: a subtype the run finds -/

/-- One staging buffer of output window 2, through which its contents are stated (`View.read_writes_of_cover`: the
    choice does not matter). -/
abbrev VO2_2 : View sig .tc .vmem S512x2176 .fp8e5m2 := (Memref.whole cc2_stg2_0 : Memref sig .tc .vmem S512x2176 .fp8e5m2).view
/-- One staging buffer of output window 3, through which its contents are stated (`View.read_writes_of_cover`: the
    choice does not matter). -/
abbrev VO2_3 : View sig .tc .smem S1x1 .f32 := (Memref.whole cc2_stg3_0 : Memref sig .tc .smem S1x1 .f32).view
/-- Each window's current staging memref at point `t`, spelled as the pipeline passes it (`bodyAt2`), and its wholeness. -/
abbrev ms2_0 (t : Fin cfg2.N) : Memref sig .tc .smem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2176 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x2176 .fp8e5m2 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .smem S1x1 .f32 := win2_3.stage (cfg2.slots t 3)
abbrev hs2_3 (t : Fin cfg2.N) : (ms2_3 t).IsWhole := hstage2_3 ((cfg2.slots t 3).cast nbuf2_3)

-- (the run's proof term is large: the definition's epilogue — `abstractNestedProofs` — walks it past the default budget)
set_option maxHeartbeats 1000000 in
/-- What the body's stores leave in each output's staging memref, as pieces. -/
noncomputable def kernelRun2_A (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : cond2_0 i) (hc1 : ¬cond2_1 i)
    (x0 : Vec F S1x1 .f32) (x1 : Vec F S512x2176 .bf16) :
    Σ' (L2 : List (View.Piece (Elt F) S512x2176 .fp8e5m2)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc2__quant_body i arg1 harg1 arg2 harg2 arg3 harg3 arg4 harg4) K } := by
  refine ⟨?_, ?_, fun E K => ?run⟩
  case run =>
    simp only [cc2__quant_body_eq_skeleton]; unfold cc2__quant_body_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block. -/
theorem cover2_A_2 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : cond2_0 i) (hc1 : ¬cond2_1 i)
    (x0 : Vec F S1x1 .f32) (x1 : Vec F S512x2176 .bf16) (y : S512x2176.Idx) :
    ∃ pc ∈ (kernelRun2_A c i arg1 harg1 arg2 harg2 arg3 harg3 arg4 harg4 hc0 hc1 x0 x1).1, y ∈ pc.1.set :=
  View.cover_of_tiledL (kernelRun2_A c i arg1 harg1 arg2 harg2 arg3 harg3 arg4 harg4 hc0 hc1 x0 x1).1 S512x2176.size (by sl_kernel_rfl) y

/-- What case A leaves in output 2's staging buffer: its pieces read back over junk. -/
def out2_A_2 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : cond2_0 i) (hc1 : ¬cond2_1 i)
    (x0 : Vec F S1x1 .f32) (x1 : Vec F S512x2176 .bf16) : Vec F S512x2176 .fp8e5m2 :=
  VO2_2.read (Elt F) (VO2_2.writes (Elt F) VO2_2.junk (kernelRun2_A c i arg1 harg1 arg2 harg2 arg3 harg3 arg4 harg4 hc0 hc1 x0 x1).1)

/-- Case A's pieces for output 3 tile its block. -/
theorem cover2_A_3 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : cond2_0 i) (hc1 : ¬cond2_1 i)
    (x0 : Vec F S1x1 .f32) (x1 : Vec F S512x2176 .bf16) (y : S1x1.Idx) :
    ∃ pc ∈ (kernelRun2_A c i arg1 harg1 arg2 harg2 arg3 harg3 arg4 harg4 hc0 hc1 x0 x1).2.1, y ∈ pc.1.set :=
  View.cover_of_tiledL (kernelRun2_A c i arg1 harg1 arg2 harg2 arg3 harg3 arg4 harg4 hc0 hc1 x0 x1).2.1 S1x1.size (by sl_kernel_rfl) y

/-- What case A leaves in output 3's staging buffer: its pieces read back over junk. -/
def out2_A_3 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : cond2_0 i) (hc1 : ¬cond2_1 i)
    (x0 : Vec F S1x1 .f32) (x1 : Vec F S512x2176 .bf16) : Vec F S1x1 .f32 :=
  VO2_3.read (Elt F) (VO2_3.writes (Elt F) VO2_3.junk (kernelRun2_A c i arg1 harg1 arg2 harg2 arg3 harg3 arg4 harg4 hc0 hc1 x0 x1).2.1)

-- (the run's proof term is large: the definition's epilogue — `abstractNestedProofs` — walks it past the default budget)
set_option maxHeartbeats 1000000 in
/-- What the body's stores leave in each output's staging memref, as pieces. -/
noncomputable def kernelRun2_B (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : ¬cond2_0 i) (hc1 : cond2_1 i)
    (x0 : Vec F S1x1 .f32) (x1 : Vec F S512x2176 .bf16) (xo3 : Vec F S1x1 .f32) :
    Σ' (L2 : List (View.Piece (Elt F) S512x2176 .fp8e5m2)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc2__quant_body i arg1 harg1 arg2 harg2 arg3 harg3 arg4 harg4) K } := by
  refine ⟨?_, ?_, fun E K => ?run⟩
  case run =>
    simp only [cc2__quant_body_eq_skeleton]; unfold cc2__quant_body_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case B's pieces for output 2 tile its block. -/
theorem cover2_B_2 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : ¬cond2_0 i) (hc1 : cond2_1 i)
    (x0 : Vec F S1x1 .f32) (x1 : Vec F S512x2176 .bf16) (xo3 : Vec F S1x1 .f32) (y : S512x2176.Idx) :
    ∃ pc ∈ (kernelRun2_B c i arg1 harg1 arg2 harg2 arg3 harg3 arg4 harg4 hc0 hc1 x0 x1 xo3).1, y ∈ pc.1.set :=
  View.cover_of_tiledL (kernelRun2_B c i arg1 harg1 arg2 harg2 arg3 harg3 arg4 harg4 hc0 hc1 x0 x1 xo3).1 S512x2176.size (by sl_kernel_rfl) y

/-- What case B leaves in output 2's staging buffer: its pieces read back over junk. -/
def out2_B_2 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : ¬cond2_0 i) (hc1 : cond2_1 i)
    (x0 : Vec F S1x1 .f32) (x1 : Vec F S512x2176 .bf16) (xo3 : Vec F S1x1 .f32) : Vec F S512x2176 .fp8e5m2 :=
  VO2_2.read (Elt F) (VO2_2.writes (Elt F) VO2_2.junk (kernelRun2_B c i arg1 harg1 arg2 harg2 arg3 harg3 arg4 harg4 hc0 hc1 x0 x1 xo3).1)

/-- Case B's pieces for output 3 tile its block. -/
theorem cover2_B_3 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : ¬cond2_0 i) (hc1 : cond2_1 i)
    (x0 : Vec F S1x1 .f32) (x1 : Vec F S512x2176 .bf16) (xo3 : Vec F S1x1 .f32) (y : S1x1.Idx) :
    ∃ pc ∈ (kernelRun2_B c i arg1 harg1 arg2 harg2 arg3 harg3 arg4 harg4 hc0 hc1 x0 x1 xo3).2.1, y ∈ pc.1.set :=
  View.cover_of_tiledL (kernelRun2_B c i arg1 harg1 arg2 harg2 arg3 harg3 arg4 harg4 hc0 hc1 x0 x1 xo3).2.1 S1x1.size (by sl_kernel_rfl) y

/-- What case B leaves in output 3's staging buffer: its pieces read back over junk. -/
def out2_B_3 (c : Dev nD) (i : grid2.Coords) (arg1 : Memref sig .tc .smem S1x1 .f32) (harg1 : arg1.IsWhole) (arg2 : Memref sig .tc .vmem S512x2176 .bf16) (harg2 : arg2.IsWhole) (arg3 : Memref sig .tc .vmem S512x2176 .fp8e5m2) (harg3 : arg3.IsWhole) (arg4 : Memref sig .tc .smem S1x1 .f32) (harg4 : arg4.IsWhole) (hc0 : ¬cond2_0 i) (hc1 : cond2_1 i)
    (x0 : Vec F S1x1 .f32) (x1 : Vec F S512x2176 .bf16) (xo3 : Vec F S1x1 .f32) : Vec F S1x1 .f32 :=
  VO2_3.read (Elt F) (VO2_3.writes (Elt F) VO2_3.junk (kernelRun2_B c i arg1 harg1 arg2 harg2 arg3 harg3 arg4 harg4 hc0 hc1 x0 x1 xo3).2.1)

/-! ## What the outputs hold after each point -/

/-- THE ACCUMULATION. What the outputs' staging buffers hold after the body at position `n`. -/
def outsAt2 (c : Dev nD) : (n : ℕ) → n < cfg2.N → Vec F S512x2176 .fp8e5m2 × Vec F S1x1 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : 1 ≤ (n + 1) then
        False.elim (by have hN : n + 1 < 8 := lt_of_lt_of_eq hn (show cfg2.N = 8 from N_2); omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩), out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : 1 ≤ (n + 1) then
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        False.elim (by have hN : n + 1 < 8 := lt_of_lt_of_eq hn (show cfg2.N = 8 from N_2); omega)

/-- `outsAt2` at a point of case A: that case's contents. -/
theorem outsAt2_A (c : Dev nD) (t : Fin cfg2.N) (h0 : t.val % 8 = 0) (h1 : ¬1 ≤ t.val) :
    outsAt2 V c t.val t.isLt = (out2_A_2 c (grid2.coords t) (ms2_0 t) (hs2_0 t) (ms2_1 t) (hs2_1 t) (ms2_2 t) (hs2_2 t) (ms2_3 t) (hs2_3 t) ((hcond2_0 t).mpr h0) (fun h => h1 ((hcond2_1 t).mp h)) (iblk2 V c 0 t) (iblk2 V c 1 t), out2_A_3 c (grid2.coords t) (ms2_0 t) (hs2_0 t) (ms2_1 t) (hs2_1 t) (ms2_2 t) (hs2_2 t) (ms2_3 t) (hs2_3 t) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 8 = 0) (h1 : 1 ≤ t.val) :
    outsAt2 V c t.val t.isLt = (out2_B_2 c (grid2.coords t) (ms2_0 t) (hs2_0 t) (ms2_1 t) (hs2_1 t) (ms2_2 t) (hs2_2 t) (ms2_3 t) (hs2_3 t) (fun h => h0 ((hcond2_0 t).mp h)) ((hcond2_1 t).mpr h1) (iblk2 V c 0 t) (iblk2 V c 1 t) (outsAt2 V c (t.val - 1) (Nat.lt_of_le_of_lt (Nat.sub_le _ _) t.isLt)).2, out2_B_3 c (grid2.coords t) (ms2_0 t) (hs2_0 t) (ms2_1 t) (hs2_1 t) (ms2_2 t) (hs2_2 t) (ms2_3 t) (hs2_3 t) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2
  Φ _ := Pipeline.ΦA spec2 c
  q _ := fullShare
  owed _ := 0

/-- The proof data's arrays are the region-entry contents, by projecting the definition. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- Output 3's contents CARRY through the points that leave it idle. -/
theorem hcarry2_3 (c : Dev nD) : ∀ (t : Fin cfg2.N) (_ : t.val ≠ 0), cfg2.idle 3 (grid2.coords t) = true → cfg2.fresh 3 t.val = false →
    (dat2 V c).after 3 t = (dat2 V c).after 3 ⟨t.val - 1, by omega⟩ := by
  intro t _ hi _
  have hN : t.val < 8 := lt_of_lt_of_eq t.isLt (show cfg2.N = 8 from N_2)
  rw [after2_3, after2_3]
  by_cases h0 : t.val % 8 = 0
  · by_cases h1 : 1 ≤ t.val
    · exfalso; omega
    · rw [liveAt2_3_A t ((hcond2_0 t).mpr h0) (fun h => h1 ((hcond2_1 t).mp h))] at hi
      exact absurd hi Bool.false_ne_true
  · by_cases h1 : 1 ≤ t.val
    · rw [liveAt2_3_B t (fun h => h0 ((hcond2_0 t).mp h)) ((hcond2_1 t).mpr h1)] at hi
      exact absurd hi Bool.false_ne_true
    · exfalso; omega
/-- At a point of case B output 3's current staging buffer holds what the point before left. -/
theorem before2_3_B (c : Dev nD) (t : Fin cfg2.N) (h0 : ¬t.val % 8 = 0) (h1 : 1 ≤ t.val) (d) :
    (dat2 V c).before 3 t d = (outsAt2 V c (t.val - 1) (Nat.lt_of_le_of_lt (Nat.sub_le _ _) t.isLt)).2 := by
  rw [Dat.before_out_traj _ 3 rfl (fun _ _ => rfl) (hcarry2_3 V c) t.val t rfl d,
    if_neg (by rw [notFresh2_3_B t (fun h => h0 ((hcond2_0 t).mp h)) ((hcond2_1 t).mpr h1)]; exact Bool.false_ne_true)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 800000 in
/-- The body at any point: the inputs' memrefs hold their blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl]
  have hN : t.val < 8 := lt_of_lt_of_eq t.isLt (show cfg2.N = 8 from N_2)
  by_cases h0 : t.val % 8 = 0
  · by_cases h1 : 1 ≤ t.val
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3_A t ((hcond2_0 t).mpr h0) (fun h => h1 ((hcond2_1 t).mp h))], after2_3]
      rw [outsAt2_A V c t h0 h1]
      unfold out2_A_2 out2_A_3; (try dsimp only)
      iintro ⟨HΦ, Ho, ⟨%d0, H0⟩, ⟨%d1, H1⟩, ⟨%d2, H2⟩, ⟨%d3, H3⟩⟩
      iapply ((kernelRun2_A c (grid2.coords t) _ _ _ _ _ _ _ _ ((hcond2_0 t).mpr h0) (fun h => h1 ((hcond2_1 t).mp h)) (iblk2 V c 0 t) (iblk2 V c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A_2 c _ _ _ _ _ _ _ _ _ _ _ _ _)
      unfold owns; iexists _; isplitr
      swap; · iexact H3
      ipureintro; exact View.read_writes_of_cover _ _ _ _ _ (cover2_A_3 c _ _ _ _ _ _ _ _ _ _ _ _ _)
  · by_cases h1 : 1 ≤ t.val
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3_B t (fun h => h0 ((hcond2_0 t).mp h)) ((hcond2_1 t).mpr h1)], after2_3]
      rw [outsAt2_B V c t h0 h1]
      simp only [before2_3_B V c t h0 h1]
      unfold out2_B_2 out2_B_3; (try dsimp only)
      iintro ⟨HΦ, Ho, ⟨%d0, H0⟩, ⟨%d1, H1⟩, ⟨%d2, H2⟩, ⟨%d3, H3⟩⟩
      iapply ((kernelRun2_B c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B_2 c _ _ _ _ _ _ _ _ _ _ _ _ _ _)
      unfold owns; iexists _; isplitr
      swap; · iexact H3
      ipureintro; exact View.read_writes_of_cover _ _ _ _ _ (cover2_B_3 c _ _ _ _ _ _ _ _ _ _ _ _ _ _)
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.KernelIdealRun.Region3.lean ====
/- `KernelIdeal`, whole program: the pallas_call of region 3, at the contents `V` its arrays have when it is entered: each window's block at a
   point, the kernel body's run per case, what each output's staging buffer holds after it, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3__fwd_dx_body` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

/-- One staging buffer of output window 4, through which its contents are stated (`View.read_writes_of_cover`: the
    choice does not matter). -/
abbrev VO3_4 : View sig .tc .vmem S32x8x2176 .bf16 := (Memref.whole cc3_stg4_0 : Memref sig .tc .vmem S32x8x2176 .bf16).view
/-- One staging buffer of output window 5, through which its contents are stated (`View.read_writes_of_cover`: the
    choice does not matter). -/
abbrev VO3_5 : View sig .tc .vmem S32x8x7040 .bf16 := (Memref.whole cc3_stg5_0 : Memref sig .tc .vmem S32x8x7040 .bf16).view
/-- Each window's current staging memref at point `t`, spelled as the pipeline passes it (`bodyAt3`), and its wholeness. -/
abbrev ms3_0 (t : Fin cfg3.N) : Memref sig .tc .smem S1x3 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x7040 .fp8e4m3 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x2176 .fp8e5m2 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S7040x2176 .fp8e4m3 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S32x8x2176 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S32x8x7040 .bf16 := win3_5.stage (cfg3.slots t 5)
abbrev hs3_5 (t : Fin cfg3.N) : (ms3_5 t).IsWhole := hstage3_5 ((cfg3.slots t 5).cast nbuf3_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun3_A (c : Dev nD) (i : grid3.Coords) (arg1 : Memref sig .tc .smem S1x3 .f32) (harg1 : arg1.IsWhole) (arg2 : Memref sig .tc .vmem S256x7040 .fp8e4m3) (harg2 : arg2.IsWhole) (arg3 : Memref sig .tc .vmem S256x2176 .fp8e5m2) (harg3 : arg3.IsWhole) (arg4 : Memref sig .tc .vmem S7040x2176 .fp8e4m3) (harg4 : arg4.IsWhole) (arg5 : Memref sig .tc .vmem S32x8x2176 .bf16) (harg5 : arg5.IsWhole) (arg6 : Memref sig .tc .vmem S32x8x7040 .bf16) (harg6 : arg6.IsWhole)
    (x0 : Vec F S1x3 .f32) (x1 : Vec F S256x7040 .fp8e4m3) (x2 : Vec F S256x2176 .fp8e5m2) (x3 : Vec F S7040x2176 .fp8e4m3) :
    Σ' (L4 : List (View.Piece (Elt F) S32x8x2176 .bf16)), { L5 : List (View.Piece (Elt F) S32x8x7040 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc3__fwd_dx_body i arg1 harg1 arg2 harg2 arg3 harg3 arg4 harg4 arg5 harg5 arg6 harg6) K } := by
  refine ⟨?_, ?_, fun E K => ?run⟩
  case run =>
    simp only [cc3__fwd_dx_body_eq_skeleton]; unfold cc3__fwd_dx_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

/-- The run's pieces for output 4 tile its block (1 store of `S32x8x2176`, checked by the kernel's evaluation: Lib/Ring.lean `Piece.tiledL`, linear in the pieces, through a loop's `@[irreducible]` trip theorem too), so they cover it. -/
theorem cover3_A_4 (c : Dev nD) (i : grid3.Coords) (arg1 : Memref sig .tc .smem S1x3 .f32) (harg1 : arg1.IsWhole) (arg2 : Memref sig .tc .vmem S256x7040 .fp8e4m3) (harg2 : arg2.IsWhole) (arg3 : Memref sig .tc .vmem S256x2176 .fp8e5m2) (harg3 : arg3.IsWhole) (arg4 : Memref sig .tc .vmem S7040x2176 .fp8e4m3) (harg4 : arg4.IsWhole) (arg5 : Memref sig .tc .vmem S32x8x2176 .bf16) (harg5 : arg5.IsWhole) (arg6 : Memref sig .tc .vmem S32x8x7040 .bf16) (harg6 : arg6.IsWhole)
    (x0 : Vec F S1x3 .f32) (x1 : Vec F S256x7040 .fp8e4m3) (x2 : Vec F S256x2176 .fp8e5m2) (x3 : Vec F S7040x2176 .fp8e4m3) (y : S32x8x2176.Idx) :
    ∃ pc ∈ (kernelRun3_A c i arg1 harg1 arg2 harg2 arg3 harg3 arg4 harg4 arg5 harg5 arg6 harg6 x0 x1 x2 x3).1, y ∈ pc.1.set :=
  View.cover_of_tiledL (kernelRun3_A c i arg1 harg1 arg2 harg2 arg3 harg3 arg4 harg4 arg5 harg5 arg6 harg6 x0 x1 x2 x3).1 S32x8x2176.size (by sl_kernel_rfl) y

/-- What the run leaves in output 4's staging buffer: its pieces read back over junk. -/
def out3_A_4 (c : Dev nD) (i : grid3.Coords) (arg1 : Memref sig .tc .smem S1x3 .f32) (harg1 : arg1.IsWhole) (arg2 : Memref sig .tc .vmem S256x7040 .fp8e4m3) (harg2 : arg2.IsWhole) (arg3 : Memref sig .tc .vmem S256x2176 .fp8e5m2) (harg3 : arg3.IsWhole) (arg4 : Memref sig .tc .vmem S7040x2176 .fp8e4m3) (harg4 : arg4.IsWhole) (arg5 : Memref sig .tc .vmem S32x8x2176 .bf16) (harg5 : arg5.IsWhole) (arg6 : Memref sig .tc .vmem S32x8x7040 .bf16) (harg6 : arg6.IsWhole)
    (x0 : Vec F S1x3 .f32) (x1 : Vec F S256x7040 .fp8e4m3) (x2 : Vec F S256x2176 .fp8e5m2) (x3 : Vec F S7040x2176 .fp8e4m3) : Vec F S32x8x2176 .bf16 :=
  VO3_4.read (Elt F) (VO3_4.writes (Elt F) VO3_4.junk (kernelRun3_A c i arg1 harg1 arg2 harg2 arg3 harg3 arg4 harg4 arg5 harg5 arg6 harg6 x0 x1 x2 x3).1)

/-- The run's pieces for output 5 tile its block (1 store of `S32x8x7040`, checked by the kernel's evaluation: Lib/Ring.lean `Piece.tiledL`, linear in the pieces, through a loop's `@[irreducible]` trip theorem too), so they cover it. -/
theorem cover3_A_5 (c : Dev nD) (i : grid3.Coords) (arg1 : Memref sig .tc .smem S1x3 .f32) (harg1 : arg1.IsWhole) (arg2 : Memref sig .tc .vmem S256x7040 .fp8e4m3) (harg2 : arg2.IsWhole) (arg3 : Memref sig .tc .vmem S256x2176 .fp8e5m2) (harg3 : arg3.IsWhole) (arg4 : Memref sig .tc .vmem S7040x2176 .fp8e4m3) (harg4 : arg4.IsWhole) (arg5 : Memref sig .tc .vmem S32x8x2176 .bf16) (harg5 : arg5.IsWhole) (arg6 : Memref sig .tc .vmem S32x8x7040 .bf16) (harg6 : arg6.IsWhole)
    (x0 : Vec F S1x3 .f32) (x1 : Vec F S256x7040 .fp8e4m3) (x2 : Vec F S256x2176 .fp8e5m2) (x3 : Vec F S7040x2176 .fp8e4m3) (y : S32x8x7040.Idx) :
    ∃ pc ∈ (kernelRun3_A c i arg1 harg1 arg2 harg2 arg3 harg3 arg4 harg4 arg5 harg5 arg6 harg6 x0 x1 x2 x3).2.1, y ∈ pc.1.set :=
  View.cover_of_tiledL (kernelRun3_A c i arg1 harg1 arg2 harg2 arg3 harg3 arg4 harg4 arg5 harg5 arg6 harg6 x0 x1 x2 x3).2.1 S32x8x7040.size (by sl_kernel_rfl) y

/-- What the run leaves in output 5's staging buffer: its pieces read back over junk. -/
def out3_A_5 (c : Dev nD) (i : grid3.Coords) (arg1 : Memref sig .tc .smem S1x3 .f32) (harg1 : arg1.IsWhole) (arg2 : Memref sig .tc .vmem S256x7040 .fp8e4m3) (harg2 : arg2.IsWhole) (arg3 : Memref sig .tc .vmem S256x2176 .fp8e5m2) (harg3 : arg3.IsWhole) (arg4 : Memref sig .tc .vmem S7040x2176 .fp8e4m3) (harg4 : arg4.IsWhole) (arg5 : Memref sig .tc .vmem S32x8x2176 .bf16) (harg5 : arg5.IsWhole) (arg6 : Memref sig .tc .vmem S32x8x7040 .bf16) (harg6 : arg6.IsWhole)
    (x0 : Vec F S1x3 .f32) (x1 : Vec F S256x7040 .fp8e4m3) (x2 : Vec F S256x2176 .fp8e5m2) (x3 : Vec F S7040x2176 .fp8e4m3) : Vec F S32x8x7040 .bf16 :=
  VO3_5.read (Elt F) (VO3_5.writes (Elt F) VO3_5.junk (kernelRun3_A c i arg1 harg1 arg2 harg2 arg3 harg3 arg4 harg4 arg5 harg5 arg6 harg6 x0 x1 x2 x3).2.1)

/-! ## What the outputs hold after each point -/

/-- What the outputs' staging buffers hold after the body at point `t` (as a tuple, in window order): the run's contents at
    the point's memrefs and input blocks. -/
def outsAt3 (c : Dev nD) (t : Fin cfg3.N) : Vec F S32x8x2176 .bf16 × Vec F S32x8x7040 .bf16 :=
  (out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) (iblk3 V c 0 t) (iblk3 V c 1 t) (iblk3 V c 2 t) (iblk3 V c 3 t), out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (iblk3 V c 0 t) (iblk3 V c 1 t) (iblk3 V c 2 t) (iblk3 V c 3 t))

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t).1
    | ⟨5, _⟩ => (outsAt3 V c t).2
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t).1 := by dsimp only [dat3]
theorem after3_5 (c : Dev nD) (t : Fin cfg3.N) : (dat3 V c).after 5 t = (outsAt3 V c t).2 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

/-- The body at any point: the inputs' memrefs hold their blocks (`before3_W`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  unfold outsAt3
  unfold out3_A_4 out3_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun3_A c (grid3.coords t) _ _ _ _ _ _ _ _ _ _ _ _ (iblk3 V c 0 t) (iblk3 V c 1 t) (iblk3 V c 2 t) (iblk3 V c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover3_A_4 c _ _ _ _ _ _ _ _ _ _ _ _ _ _ _ _ _)
  unfold owns; iexists _; isplitr
  swap; · iexact H5
  ipureintro; exact View.read_writes_of_cover _ _ _ _ _ (cover3_A_5 c _ _ _ _ _ _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.KernelIdealRun.Region4.lean ====
/- `KernelIdeal`, whole program: the pallas_call of region 4, at the contents `V` its arrays have when it is entered: each window's block at a
   point, the kernel body's run per case, what each output's staging buffer holds after it, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4__dw_body` (pipeline 4), at the entry contents `V` -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The kernel body on any staging memrefs: a subtype the run finds -/

/-- One staging buffer of output window 3, through which its contents are stated (`View.read_writes_of_cover`: the
    choice does not matter). -/
abbrev VO4_3 : View sig .tc .vmem S640x2176 .f32 := (Memref.whole cc4_stg3_0 : Memref sig .tc .vmem S640x2176 .f32).view
/-- Each window's current staging memref at point `t`, spelled as the pipeline passes it (`bodyAt4`), and its wholeness. -/
abbrev ms4_0 (t : Fin cfg4.N) : Memref sig .tc .smem S1x3 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x640 .fp8e4m3 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4096x2176 .fp8e5m2 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S640x2176 .f32 := win4_3.stage (cfg4.slots t 3)
abbrev hs4_3 (t : Fin cfg4.N) : (ms4_3 t).IsWhole := hstage4_3 ((cfg4.slots t 3).cast nbuf4_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun4_A (c : Dev nD) (i : grid4.Coords) (arg1 : Memref sig .tc .smem S1x3 .f32) (harg1 : arg1.IsWhole) (arg2 : Memref sig .tc .vmem S4096x640 .fp8e4m3) (harg2 : arg2.IsWhole) (arg3 : Memref sig .tc .vmem S4096x2176 .fp8e5m2) (harg3 : arg3.IsWhole) (arg4 : Memref sig .tc .vmem S640x2176 .f32) (harg4 : arg4.IsWhole)
    (x0 : Vec F S1x3 .f32) (x1 : Vec F S4096x640 .fp8e4m3) (x2 : Vec F S4096x2176 .fp8e5m2) :
    { L3 : List (View.Piece (Elt F) S640x2176 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc4__dw_body i arg1 harg1 arg2 harg2 arg3 harg3 arg4 harg4) K } := by
  refine ⟨?_, fun E K => ?run⟩
  case run =>
    simp only [cc4__dw_body_eq_skeleton]; unfold cc4__dw_body_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block (1 store of `S640x2176`, checked by the kernel's evaluation: Lib/Ring.lean `Piece.tiledL`, linear in the pieces, through a loop's `@[irreducible]` trip theorem too), so they cover it. -/
theorem cover4_A_3 (c : Dev nD) (i : grid4.Coords) (arg1 : Memref sig .tc .smem S1x3 .f32) (harg1 : arg1.IsWhole) (arg2 : Memref sig .tc .vmem S4096x640 .fp8e4m3) (harg2 : arg2.IsWhole) (arg3 : Memref sig .tc .vmem S4096x2176 .fp8e5m2) (harg3 : arg3.IsWhole) (arg4 : Memref sig .tc .vmem S640x2176 .f32) (harg4 : arg4.IsWhole)
    (x0 : Vec F S1x3 .f32) (x1 : Vec F S4096x640 .fp8e4m3) (x2 : Vec F S4096x2176 .fp8e5m2) (y : S640x2176.Idx) :
    ∃ pc ∈ (kernelRun4_A c i arg1 harg1 arg2 harg2 arg3 harg3 arg4 harg4 x0 x1 x2).1, y ∈ pc.1.set :=
  View.cover_of_tiledL (kernelRun4_A c i arg1 harg1 arg2 harg2 arg3 harg3 arg4 harg4 x0 x1 x2).1 S640x2176.size (by sl_kernel_rfl) y

/-- What the run leaves in output 3's staging buffer: its pieces read back over junk. -/
def out4_A_3 (c : Dev nD) (i : grid4.Coords) (arg1 : Memref sig .tc .smem S1x3 .f32) (harg1 : arg1.IsWhole) (arg2 : Memref sig .tc .vmem S4096x640 .fp8e4m3) (harg2 : arg2.IsWhole) (arg3 : Memref sig .tc .vmem S4096x2176 .fp8e5m2) (harg3 : arg3.IsWhole) (arg4 : Memref sig .tc .vmem S640x2176 .f32) (harg4 : arg4.IsWhole)
    (x0 : Vec F S1x3 .f32) (x1 : Vec F S4096x640 .fp8e4m3) (x2 : Vec F S4096x2176 .fp8e5m2) : Vec F S640x2176 .f32 :=
  VO4_3.read (Elt F) (VO4_3.writes (Elt F) VO4_3.junk (kernelRun4_A c i arg1 harg1 arg2 harg2 arg3 harg3 arg4 harg4 x0 x1 x2).1)

/-! ## What the outputs hold after each point -/

/-- What the outputs' staging buffers hold after the body at point `t`: the run's contents at
    the point's memrefs and input blocks. -/
def outsAt4 (c : Dev nD) (t : Fin cfg4.N) : Vec F S640x2176 .f32 :=
  out4_A_3 c (grid4.coords t) (ms4_0 t) (hs4_0 t) (ms4_1 t) (hs4_1 t) (ms4_2 t) (hs4_2 t) (ms4_3 t) (hs4_3 t) (iblk4 V c 0 t) (iblk4 V c 1 t) (iblk4 V c 2 t)

/-! ## The pipeline's proof data -/

/-- The proof data of pipeline 4 on core `c`: the arrays as the region finds them (`V`); after the body at
    point `t` each input's buffer at its block and the outputs' at `outsAt4`; the invariant the class's
    (Lib/Pipeline/Frame.lean `ΦA`: the scoped rest and the generator register); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t)
  Φ _ := Pipeline.ΦA spec4 c
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t))

/-- The body at any point: the inputs' memrefs hold their blocks (`before4_W`); so the
    run applies; the invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  unfold outsAt4
  unfold out4_A_3
  iintro ⟨HΦ, Ho, ⟨%d0, H0⟩, ⟨%d1, H1⟩, ⟨%d2, H2⟩, ⟨%d3, H3⟩⟩
  iapply ((kernelRun4_A c (grid4.coords t) _ _ _ _ _ _ _ _ (iblk4 V c 0 t) (iblk4 V c 1 t) (iblk4 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_A_3 c _ _ _ _ _ _ _ _ _ _ _ _)

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.KernelIdealRun.Hosts0.lean ====
/- `KernelIdeal`, whole program: what each stretch of host operations writes, and that it writes no argument. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v8, main_v9, main_v10, main_v11, main_v12, main_v13, main_v14, main_v15]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v18, main_v19, main_v20, main_v21, main_v22, main_v23, main_v24, main_v25, main_v26, main_v27, main_v28, main_v29, main_v30]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

end Cert.KernelIdeal.Gen

end
-- ==== Proof.KernelIdealRun.Fold0.lean ====
/- `KernelIdeal`, whole program: the contents of every buffer at each boundary between the items of @main (`WJ`), a fold from the launch memory,
   and what each item leaves unchanged. -/
module

public import proofs.«01_k».proof.Proof.KernelIdealRun.Region0
public import proofs.«01_k».proof.Proof.KernelIdealRun.Region1
public import proofs.«01_k».proof.Proof.KernelIdealRun.Region2
public import proofs.«01_k».proof.Proof.KernelIdealRun.Region3
public import proofs.«01_k».proof.Proof.KernelIdealRun.Region4
public import proofs.«01_k».proof.Proof.KernelIdealRun.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered (Lib/Pipeline/FrameSuffix.lean `withArrays`) (region 4's entry). -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`). -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- A reference that is none of region 4's OUTPUT arrays keeps its entry contents across it: an input window's
    array is never written back (`Dat.arrAt_in`, `A_eq4`); any other buffer is left as is. -/
theorem W9_of (c : Dev nD) (r : Ref sig .tc) (h : ∀ w : Fin cfg4.W, Pipeline.arrRef spec4 w = r → (cfg4.win w).isOut = false) :
    W9 m ρ c (Proc.devRef .tc r) = W8 m ρ c (Proc.devRef .tc r) := by
  by_cases hw : ∃ w : Fin cfg4.W, Pipeline.arrRef spec4 w = r
  · obtain ⟨w, rfl⟩ := hw
    exact (W9_arr m ρ c w).trans (((dat4 (V8 m ρ) c).arrAt_in w (h w rfl) _).trans (A_eq4 (V8 m ρ) c w))
  · exact W9_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn4 a ha)).trans (W8_args m ρ c a ha)
/-- The same read at the TensorCore's references (region 4's exit contents). -/
abbrev V9 : (c : Dev nD) → (b : Ref sig .tc) → Buf (Elt F) ((c : Thread nD τ).loc b) := fun c b => W9 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After `hostOps5`. -/
abbrev W10 : Dev nD → Valuation τ sig (Elt F) := fun c => StableHlo.after hostOps5 (W9 m ρ c)
/-- A reference `hostOps5` does not write keeps its contents across it. -/
theorem W10_of (c : Dev nD) (r : Ref sig .tc) (h : r ∉ hostOps5_W) : W10 m ρ c (Proc.devRef .tc r) = W9 m ρ c (Proc.devRef .tc r) :=
  StableHlo.after_of_writes_sub hostOps5 _ hostOps5_writes h
theorem W10_args (c : Dev nD) : ∀ a ∈ argRefs, W10 m ρ c (Proc.devRef .tc a) = m ((c : Thread nD τ).loc a) :=
  fun a ha => (W10_of m ρ c a (hostOps5_args a ha)).trans (W9_args m ρ c a ha)

/-! ### The arguments end as launched: no host stretch writes one and no region may change one (a region reads it
    through an input window or bypasses it) -/

theorem W10_main_arg0 (c : Dev nD) : W10 m ρ c (Proc.devRef .tc main_arg0) = m ((c : Thread nD τ).loc main_arg0) :=
  W10_args m ρ c main_arg0 (by decide)
theorem W10_main_arg1 (c : Dev nD) : W10 m ρ c (Proc.devRef .tc main_arg1) = m ((c : Thread nD τ).loc main_arg1) :=
  W10_args m ρ c main_arg1 (by decide)
theorem W10_main_arg2 (c : Dev nD) : W10 m ρ c (Proc.devRef .tc main_arg2) = m ((c : Thread nD τ).loc main_arg2) :=
  W10_args m ρ c main_arg2 (by decide)
theorem W10_main_arg3 (c : Dev nD) : W10 m ρ c (Proc.devRef .tc main_arg3) = m ((c : Thread nD τ).loc main_arg3) :=
  W10_args m ρ c main_arg3 (by decide)
theorem W10_main_arg4 (c : Dev nD) : W10 m ρ c (Proc.devRef .tc main_arg4) = m ((c : Thread nD τ).loc main_arg4) :=
  W10_args m ρ c main_arg4 (by decide)
theorem W10_main_arg5 (c : Dev nD) : W10 m ρ c (Proc.devRef .tc main_arg5) = m ((c : Thread nD τ).loc main_arg5) :=
  W10_args m ρ c main_arg5 (by decide)
theorem W10_main_arg6 (c : Dev nD) : W10 m ρ c (Proc.devRef .tc main_arg6) = m ((c : Thread nD τ).loc main_arg6) :=
  W10_args m ρ c main_arg6 (by decide)
theorem W10_main_arg7 (c : Dev nD) : W10 m ρ c (Proc.devRef .tc main_arg7) = m ((c : Thread nD τ).loc main_arg7) :=
  W10_args m ρ c main_arg7 (by decide)
theorem W10_main_arg8 (c : Dev nD) : W10 m ρ c (Proc.devRef .tc main_arg8) = m ((c : Thread nD τ).loc main_arg8) :=
  W10_args m ρ c main_arg8 (by decide)
theorem W10_main_arg9 (c : Dev nD) : W10 m ρ c (Proc.devRef .tc main_arg9) = m ((c : Thread nD τ).loc main_arg9) :=
  W10_args m ρ c main_arg9 (by decide)
theorem W10_main_arg10 (c : Dev nD) : W10 m ρ c (Proc.devRef .tc main_arg10) = m ((c : Thread nD τ).loc main_arg10) :=
  W10_args m ρ c main_arg10 (by decide)
theorem W10_main_arg11 (c : Dev nD) : W10 m ρ c (Proc.devRef .tc main_arg11) = m ((c : Thread nD τ).loc main_arg11) :=
  W10_args m ρ c main_arg11 (by decide)
end Cert.KernelIdeal.Gen

end
-- ==== Proof.KernelIdealRun.State.lean ====
/- `KernelIdeal`, whole program: every pipeline's proof data at its region's entry contents, and the state that rides through the segments. -/
module

public import proofs.«01_k».proof.Proof.KernelIdealRun.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

end Cert.KernelIdeal.Gen

end
-- ==== Proof.KernelIdealRun.Record0.lean ====
/- `KernelIdeal`, whole program: the pallas_call of region 0 as a segment of @main. -/
module

public import proofs.«01_k».proof.Proof.KernelIdealRun.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record1.lean ====
/- `KernelIdeal`, whole program: the pallas_call of region 1 as a segment of @main. -/
module

public import proofs.«01_k».proof.Proof.KernelIdealRun.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record2.lean ====
/- `KernelIdeal`, whole program: the pallas_call of region 2 as a segment of @main. -/
module

public import proofs.«01_k».proof.Proof.KernelIdealRun.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record3.lean ====
/- `KernelIdeal`, whole program: the pallas_call of region 3 as a segment of @main. -/
module

public import proofs.«01_k».proof.Proof.KernelIdealRun.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record4.lean ====
/- `KernelIdeal`, whole program: the pallas_call of region 4 as a segment of @main. -/
module

public import proofs.«01_k».proof.Proof.KernelIdealRun.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W8`, left at `W9`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) (A_eq4 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Launch.lean ====
/- `KernelIdeal`, whole program: @main as its segments, and the run from the launch: every buffer ends at the last boundary's contents `W34`. -/
module

public import proofs.«01_k».proof.Proof.KernelIdealRun.Record0
public import proofs.«01_k».proof.Proof.KernelIdealRun.Record1
public import proofs.«01_k».proof.Proof.KernelIdealRun.Record2
public import proofs.«01_k».proof.Proof.KernelIdealRun.Record3
public import proofs.«01_k».proof.Proof.KernelIdealRun.Record4

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 10 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ),
    .host (hseg hostOps5 hostOps5_sub hostOps5_fresh (W9 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at the compiled mesh, from any memory with zero counters, every weakly fair execution of @main on the TensorCores
    terminates, nothing faulting, and every final state has each buffer of the host's memory at what the fold through @main
    leaves (`W10`) and every semaphore counter at zero: the launch over the segments, the last thread state read against the
    final state (`pointsTo_read_all`); there are no counters outside the calls. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W10 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

/-- THE FRAME: every final state has the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c =>
      ⟨(h.1 c _ (mem_uc main_arg0 (by decide))).trans (W10_main_arg0 m ρ c),
       (h.1 c _ (mem_uc main_arg1 (by decide))).trans (W10_main_arg1 m ρ c),
       (h.1 c _ (mem_uc main_arg2 (by decide))).trans (W10_main_arg2 m ρ c),
       (h.1 c _ (mem_uc main_arg3 (by decide))).trans (W10_main_arg3 m ρ c),
       (h.1 c _ (mem_uc main_arg4 (by decide))).trans (W10_main_arg4 m ρ c),
       (h.1 c _ (mem_uc main_arg5 (by decide))).trans (W10_main_arg5 m ρ c),
       (h.1 c _ (mem_uc main_arg6 (by decide))).trans (W10_main_arg6 m ρ c),
       (h.1 c _ (mem_uc main_arg7 (by decide))).trans (W10_main_arg7 m ρ c),
       (h.1 c _ (mem_uc main_arg8 (by decide))).trans (W10_main_arg8 m ρ c),
       (h.1 c _ (mem_uc main_arg9 (by decide))).trans (W10_main_arg9 m ρ c),
       (h.1 c _ (mem_uc main_arg10 (by decide))).trans (W10_main_arg10 m ρ c),
       (h.1 c _ (mem_uc main_arg11 (by decide))).trans (W10_main_arg11 m ρ c)⟩, h.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h => h.1) (frame m ρ)

end Cert.KernelIdeal.Gen

end
-- ==== Proof.Value.Math.lean ====
/-
  The mathematics both programs share, over the extended reals and free of either program's shapes: a two-dimensional
  product read at an index in the three transpositions used (`x·w`, `dy·wᵀ`, `xᵀ·dy`), a maximum from −∞ characterised by
  its upper bounds (so that the order, the blocks and the reshapes it is taken through do not matter), and the
  quantiser's formula.
-/
module

public import Idealize.ShloMosaic.PureOps.Ideal.Laws
public import Idealize.ShloMosaic.PureOps.Reduce
public import Idealize.ShloMosaic.Lib.ValueIdx
public import Idealize.ShloMosaic.Lib.Pipeline.Value

@[expose] public section

noncomputable section

namespace Cert.Proof.Math

open Idealize.ShloMosaic Idealize.ShloMosaic.ValueIdx
open scoped BigOperators

/-! ## Products -/

/-- `[M,K] · [K,N]` at an index: `Σ_k l[r,k] · r[k,c]`. -/
theorem matmul_nn {M K N : ℕ} {φ₁ φ₂ : FTy} (w : DotDims.WF ⟨2, ![M, K]⟩ ⟨2, ![K, N]⟩ ⟨2, ![M, N]⟩ [1] [0] [0] [1] [] [])
    (l : FVec Ideal ⟨2, ![M, K]⟩ φ₁) (r : FVec Ideal ⟨2, ![K, N]⟩ φ₂) (j : (⟨2, ![M, N]⟩ : Shape).Idx) :
    FloatOps.matmul (⟨[1], [0], [0], [1], [], [], w⟩ : DotDims _ _ _) none l r (constant ⟨2, ![M, N]⟩ .f32 0x00000000#32) j
      = ∑ k : Fin K, l (ix2 (j 0) k) * r (ix2 k (j 1)) := by
  rw [Ideal.matmul_constant_zero_apply, ← Equiv.sum_comp (contrEquiv1 (⟨[1], [0], [0], [1], [], [], w⟩ : DotDims _ _ _) K rfl rfl).symm]
  refine Finset.sum_congr rfl fun k _ => ?_
  have hk := contrEquiv1_symm_val (⟨[1], [0], [0], [1], [], [], w⟩ : DotDims ⟨2, ![M, K]⟩ ⟨2, ![K, N]⟩ ⟨2, ![M, N]⟩) K rfl rfl k
  refine congrArg₂ (fun a b => l a * r b) ?_ ?_ <;> funext a <;> apply Fin.ext
  · match a with
    | ⟨0, _⟩ => rfl
    | ⟨1, _⟩ => exact hk
  · match a with
    | ⟨0, _⟩ => exact hk
    | ⟨1, _⟩ => rfl

/-- `[M,K] · [N,K]ᵀ` at an index: `Σ_k l[r,k] · r[c,k]`. -/
theorem matmul_nt {M K N : ℕ} {φ₁ φ₂ : FTy} (w : DotDims.WF ⟨2, ![M, K]⟩ ⟨2, ![N, K]⟩ ⟨2, ![M, N]⟩ [1] [1] [0] [0] [] [])
    (l : FVec Ideal ⟨2, ![M, K]⟩ φ₁) (r : FVec Ideal ⟨2, ![N, K]⟩ φ₂) (j : (⟨2, ![M, N]⟩ : Shape).Idx) :
    FloatOps.matmul (⟨[1], [1], [0], [0], [], [], w⟩ : DotDims _ _ _) none l r (constant ⟨2, ![M, N]⟩ .f32 0x00000000#32) j
      = ∑ k : Fin K, l (ix2 (j 0) k) * r (ix2 (j 1) k) := by
  rw [Ideal.matmul_constant_zero_apply, ← Equiv.sum_comp (contrEquiv1 (⟨[1], [1], [0], [0], [], [], w⟩ : DotDims _ _ _) K rfl rfl).symm]
  refine Finset.sum_congr rfl fun k _ => ?_
  have hk := contrEquiv1_symm_val (⟨[1], [1], [0], [0], [], [], w⟩ : DotDims ⟨2, ![M, K]⟩ ⟨2, ![N, K]⟩ ⟨2, ![M, N]⟩) K rfl rfl k
  refine congrArg₂ (fun a b => l a * r b) ?_ ?_ <;> funext a <;> apply Fin.ext
  · match a with
    | ⟨0, _⟩ => rfl
    | ⟨1, _⟩ => exact hk
  · match a with
    | ⟨0, _⟩ => rfl
    | ⟨1, _⟩ => exact hk

/-- `[K,M]ᵀ · [K,N]` at an index: `Σ_k l[k,r] · r[k,c]`. -/
theorem matmul_tn {M K N : ℕ} {φ₁ φ₂ : FTy} (w : DotDims.WF ⟨2, ![K, M]⟩ ⟨2, ![K, N]⟩ ⟨2, ![M, N]⟩ [0] [0] [1] [1] [] [])
    (l : FVec Ideal ⟨2, ![K, M]⟩ φ₁) (r : FVec Ideal ⟨2, ![K, N]⟩ φ₂) (j : (⟨2, ![M, N]⟩ : Shape).Idx) :
    FloatOps.matmul (⟨[0], [0], [1], [1], [], [], w⟩ : DotDims _ _ _) none l r (constant ⟨2, ![M, N]⟩ .f32 0x00000000#32) j
      = ∑ k : Fin K, l (ix2 k (j 0)) * r (ix2 k (j 1)) := by
  rw [Ideal.matmul_constant_zero_apply, ← Equiv.sum_comp (contrEquiv1 (⟨[0], [0], [1], [1], [], [], w⟩ : DotDims _ _ _) K rfl rfl).symm]
  refine Finset.sum_congr rfl fun k _ => ?_
  have hk := contrEquiv1_symm_val (⟨[0], [0], [1], [1], [], [], w⟩ : DotDims ⟨2, ![K, M]⟩ ⟨2, ![K, N]⟩ ⟨2, ![M, N]⟩) K rfl rfl k
  refine congrArg₂ (fun a b => l a * r b) ?_ ?_ <;> funext a <;> apply Fin.ext
  · match a with
    | ⟨0, _⟩ => exact hk
    | ⟨1, _⟩ => rfl
  · match a with
    | ⟨0, _⟩ => exact hk
    | ⟨1, _⟩ => rfl

/-! ## Maxima, by their upper bounds -/

/-- The start of every maximum here is −∞, at f32 and at bf16. -/
theorem negInf_f32 : FloatOps.ofBits (F := Ideal) .f32 0xFF800000#32 = (⊥ : EReal) := by
  show Ideal.ofBits .f32 0xFF800000#32 = ⊥
  simp [Ideal.ofBits, Ideal.ieee]
theorem negInf_bf16 : FloatOps.ofBits (F := Ideal) .bf16 0xFF80#16 = (⊥ : EReal) := by
  show Ideal.ofBits .bf16 0xFF80#16 = ⊥
  simp [Ideal.ofBits, Ideal.ieee]

/-- Every entry of a reshape is bounded exactly when every entry of the array is. -/
theorem forall_shapeCast {s t : Shape} {α : Type} (x : s.Idx → α) (h : s.ShapeCasts t) (P : α → Prop) :
    (∀ j, P (shapeCast t x h j)) ↔ ∀ i, P (x i) := by
  constructor
  · intro H i
    have e := H ((Shape.reshapeEquiv h).symm i)
    simpa only [shapeCast, Equiv.apply_symm_apply] using e
  · intro H j
    exact H _

/-- Two reshapes are one. -/
theorem shapeCast_trans {s t u : Shape} {α : Type} (x : s.Idx → α) (h : s.ShapeCasts t) (h' : t.ShapeCasts u) (h'' : s.ShapeCasts u) :
    shapeCast u (shapeCast t x h) h' = shapeCast u x h'' := by
  funext j
  refine (Idealize.ShloMosaic.shapeCast_apply x h'' j _ ?_).symm
  rw [Shape.rowMajor_reshapeEquiv, Shape.rowMajor_reshapeEquiv]

/-- Rows split into two axes: entry `(a, b, c)` is entry `(B a + b, c)`. -/
theorem shapeCast_rows {A B C M : ℕ} {α : Type} (x : (⟨2, ![M, C]⟩ : Shape).Idx → α)
    (h : (⟨2, ![M, C]⟩ : Shape).ShapeCasts ⟨3, ![A, B, C]⟩) (j : (⟨3, ![A, B, C]⟩ : Shape).Idx)
    (hlt : (j 0).val * B + (j 1).val < M) : shapeCast ⟨3, ![A, B, C]⟩ x h j = x (ix2 ⟨(j 0).val * B + (j 1).val, hlt⟩ (j 2)) := by
  refine Idealize.ShloMosaic.shapeCast_apply x h j _ ?_
  rw [Shape.rowMajor_val_two, Shape.rowMajor_val_three]
  rfl

/-- The entries of a reduction to maxima from −∞ are all at most `u` exactly when the entries reduced are. -/
theorem forall_multiReduction_le {s t : Shape} {φ : FTy} {axes : List (Fin s.rank)} (x : FVec Ideal s φ) (acc : BitVec φ.bits)
    (h : s.Reduces axes t) (hφ : FKind.Formats φ) (hacc : acc = FKind.maximumf.neutral φ hφ)
    (hb : FloatOps.ofBits (F := Ideal) φ acc = (⊥ : EReal)) (u : EReal) :
    (∀ j, multiReduction .maximumf axes t x acc h hφ hacc j ≤ u) ↔ ∀ i, x i ≤ u := by
  have key : ∀ j, multiReduction .maximumf axes t x acc h hφ hacc j
      = (Finset.univ.filter fun i => h.drop i = j).fold max (⊥ : EReal) x := by
    intro j
    rw [multiReduction_maximumf_eq_fold, hb]; rfl
  constructor
  · intro H i
    have e := H (h.drop i)
    rw [key, Finset.fold_max_le] at e
    exact e.2 i (by simp)
  · intro H j
    rw [key, Finset.fold_max_le]
    exact ⟨bot_le, fun i _ => H i⟩

/-- The same of the host's reduction to a scalar. -/
theorem hostReduce_le {s : Shape} {φ : FTy} {axes : List (Fin s.rank)} (x : FVec Ideal s φ) (b : BitVec φ.bits)
    (h : s.ReducesTo axes ⟨0, ![]⟩) (hu : 0 < (⟨0, ![]⟩ : Shape).numel)
    (hb : FloatOps.ofBits (F := Ideal) φ b = (⊥ : EReal)) (j : (⟨0, ![]⟩ : Shape).Idx) (u : EReal) :
    Host.reduce FloatOps.maximumf x (constant (F := Ideal) ⟨0, ![]⟩ φ b) h hu j ≤ u ↔ ∀ i, x i ≤ u := by
  rw [Host.reduce_eq_fold]
  show (Finset.univ.filter fun i => h.drop i = j).fold max (FloatOps.ofBits (F := Ideal) φ b) x ≤ u ↔ _
  rw [hb, Finset.fold_max_le]
  constructor
  · intro H i
    exact H.2 i (Finset.mem_filter.mpr ⟨Finset.mem_univ _, funext fun a => a.elim0⟩)
  · intro H
    exact ⟨bot_le, fun i _ => H i⟩

/-- A block's amax as the kernel takes it, down the rows, then (widened) along the lanes: its upper bounds are those of the
    block's magnitudes. The shapes are any; the last has one index. -/
theorem amax_ext_le {s a b c d e : Shape} {axes : List (Fin s.rank)} {axes' : List (Fin c.rank)} (x : FVec Ideal s .bf16)
    (h1 : s.Reduces axes a) (f1 : FKind.Formats .bf16) (n1 : 0xFF80#16 = FKind.maximumf.neutral .bf16 f1)
    (h2 : a.ShapeCasts b) (hw) (h3 : b.ShapeCasts c)
    (h4 : c.Reduces axes' d) (f2 : FKind.Formats .f32) (n2 : 0xFF800000#32 = FKind.maximumf.neutral .f32 f2)
    (h5 : d.ShapeCasts e) (p : Fin e.rank → Nat) (hp) (one : ∀ i j : e.Idx, i = j) (u : EReal) :
    (extractAt p (shapeCast e (multiReduction .maximumf axes' d (shapeCast c (extf .f32 (shapeCast b
      (multiReduction .maximumf axes a (absf x) 0xFF80#16 h1 f1 n1) h2) hw) h3) 0xFF800000#32 h4 f2 n2) h5) hp : EReal) ≤ u
      ↔ ∀ y, FloatOps.absf (F := Ideal) (φ := .bf16) (x y) ≤ u := by
  have e1 : ∀ v : e.Idx → EReal, extractAt p v hp ≤ u ↔ ∀ j, v j ≤ u :=
    fun v => ⟨fun h j => (congrArg v (one j _)).trans_le h, fun h => h _⟩
  refine (e1 _).trans ((forall_shapeCast _ _ (fun a : EReal => a ≤ u)).trans ((forall_multiReduction_le _ _ _ _ _ negInf_f32 u).trans
    ((forall_shapeCast _ _ (fun a : EReal => a ≤ u)).trans ?_)))
  exact (forall_shapeCast _ h2 (fun a : EReal => a ≤ u)).trans (forall_multiReduction_le (absf x) _ h1 f1 n1 negInf_bf16 u)

/-- The same of an f32 block, with nothing to widen. -/
theorem amax_le {s a b c d e : Shape} {axes : List (Fin s.rank)} {axes' : List (Fin c.rank)} (x : FVec Ideal s .f32)
    (h1 : s.Reduces axes a) (f1 : FKind.Formats .f32) (n1 : 0xFF800000#32 = FKind.maximumf.neutral .f32 f1)
    (h2 : a.ShapeCasts b) (h3 : b.ShapeCasts c)
    (h4 : c.Reduces axes' d) (f2 : FKind.Formats .f32) (n2 : 0xFF800000#32 = FKind.maximumf.neutral .f32 f2)
    (h5 : d.ShapeCasts e) (p : Fin e.rank → Nat) (hp) (one : ∀ i j : e.Idx, i = j) (u : EReal) :
    (extractAt p (shapeCast e (multiReduction .maximumf axes' d (shapeCast c (shapeCast b
      (multiReduction .maximumf axes a (absf x) 0xFF800000#32 h1 f1 n1) h2) h3) 0xFF800000#32 h4 f2 n2) h5) hp : EReal) ≤ u
      ↔ ∀ y, FloatOps.absf (F := Ideal) (φ := .f32) (x y) ≤ u := by
  have e1 : ∀ v : e.Idx → EReal, extractAt p v hp ≤ u ↔ ∀ j, v j ≤ u :=
    fun v => ⟨fun h j => (congrArg v (one j _)).trans_le h, fun h => h _⟩
  refine (e1 _).trans ((forall_shapeCast _ _ (fun a : EReal => a ≤ u)).trans ((forall_multiReduction_le _ _ _ _ _ negInf_f32 u).trans
    ((forall_shapeCast _ _ (fun a : EReal => a ≤ u)).trans ?_)))
  exact (forall_shapeCast _ h2 (fun a : EReal => a ≤ u)).trans (forall_multiReduction_le (absf x) _ h1 f1 n1 negInf_f32 u)

/-- A running maximum over the points of a grid, by its upper bounds: it bounds every element of the blocks taken so far. -/
theorem runningMax_le {N : ℕ} {ι : Type} (b : Fin N → ι → EReal) (blk : Fin N → EReal) (am : (n : ℕ) → n < N → EReal)
    (hb : ∀ t u, blk t ≤ u ↔ ∀ y, b t y ≤ u) (h0 : ∀ h, am 0 h = blk ⟨0, h⟩)
    (hs : ∀ n h h', am (n + 1) h = max (am n h') (blk ⟨n + 1, h⟩)) (u : EReal) :
    ∀ n h, am n h ≤ u ↔ ∀ t : Fin N, t.val ≤ n → ∀ y, b t y ≤ u := by
  intro n
  induction n with
  | zero =>
    intro h
    rw [h0, hb]
    constructor
    · intro H t ht y
      obtain rfl : t = ⟨0, h⟩ := Fin.ext (by simpa using ht)
      exact H y
    · intro H y
      exact H ⟨0, h⟩ (Nat.le_refl 0) y
  | succ n ih =>
    intro h
    rw [hs n h (Nat.lt_of_succ_lt h), max_le_iff, ih, hb]
    constructor
    · rintro ⟨H1, H2⟩ t ht y
      by_cases e : t.val ≤ n
      · exact H1 t e y
      · obtain rfl : t = ⟨n + 1, h⟩ := Fin.ext (by dsimp only; omega)
        exact H2 y
    · intro H
      exact ⟨fun t ht y => H t (by omega) y, fun y => H ⟨n + 1, h⟩ (Nat.le_refl _) y⟩

/-! ## The quantiser -/

/-- One element quantised over the extended reals, where the cast to fp8 is the identity: times the inverse scale, clipped
    to `[lo, hi]`. The bounds are the constants' bit patterns, the same words in both programs. -/
def quant (lo hi : BitVec 32) (x inv : EReal) : EReal :=
  min (FloatOps.ofBits (F := Ideal) .f32 hi) (max (FloatOps.ofBits (F := Ideal) .f32 lo) (x * inv))

end Cert.Proof.Math

end
-- ==== Proof.Value.Block0.lean ====
/-
  What one grid point of the first quantise call (the activations) leaves in its two output buffers, and what those
  values are over the extended reals: the codes' block is the quantiser of the operand's block element by element, and
  the block's amax is described by its upper bounds.
-/
module

public import proofs.«01_k».proof.Proof.KernelIdealRun.Region0
public import proofs.«01_k».proof.Proof.Value.Math

@[expose] public section

set_option maxRecDepth 16384

noncomputable section

namespace Cert.KernelIdeal.Region0Value

open Idealize.ShloMosaic Idealize.ShloMosaic.TcCoe Idealize.SL.Sem
open Idealize.ShloMosaic.Pipeline (Dat)
open Idealize.ShloMosaic.ValueIdx
open Cert.KernelIdeal Cert.KernelIdeal.Gen Cert.Proof.Math

theorem hz : (![0, 0] : Fin 2 → Nat) = fun _ => 0 := funext fun a => by fin_cases a <;> rfl

section Out
variable {F : FTy → Type} [FloatOps F]

/-- The one entry of a (1, 1) buffer. -/
abbrev one11 : S1x1.Idx := Shape.Idx.first (s := S1x1) (by decide)
theorem idx11 (i : S1x1.Idx) : i = one11 := funext fun a => Fin.ext (by
  match a with
  | ⟨0, _⟩ => have h : (i 0).val < 1 := (i 0).isLt; show (i 0).val = 0; omega
  | ⟨1, _⟩ => have h : (i 1).val < 1 := (i 1).isLt; show (i 1).val = 0; omega)

theorem ld11 (x : Vec F S1x1 .f32) (h) (h') :
    View.ld x (Rect.unit (s := S1x1) ![0, 0] ![1, 1] h) (Shape.Idx.first h') = x one11 :=
  (congrFun (View.ld_unit_zero (S := S1x1) hz h x) _).trans (congrArg x (idx11 _))

/-- The codes' block at the first point: the payload of the operand's block and the inverse scale. -/
theorem out_A_2 (c : Dev nD) (i : grid0.Coords) (a1 : Memref sig .tc .smem S1x1 .f32) (h1 : a1.IsWhole)
    (a2 : Memref sig .tc .vmem S256x7040 .bf16) (h2 : a2.IsWhole) (a3 : Memref sig .tc .vmem S256x7040 .fp8e4m3) (h3 : a3.IsWhole)
    (a4 : Memref sig .tc .smem S1x1 .f32) (h4 : a4.IsWhole) (hc0 hc1) (x0 : Vec F S1x1 .f32) (x1 : Vec F S256x7040 .bf16) :
    out0_A_2 c i a1 h1 a2 h2 a3 h3 a4 h4 hc0 hc1 x0 x1 = k0_pay2 x1 (x0 one11) := by
  unfold out0_A_2
  rw [View.read_writes_eq_canon _ _ _ (cover0_A_2 c i a1 h1 a2 h2 a3 h3 a4 h4 hc0 hc1 x0 x1)]
  unfold kernelRun0_A
  dsimp only
  sl_unfold_words
  rw [View.canon_unit_zero hz]
  simp only [View.readAt_eq_ld, h1.read_unread, h2.read_unread, View.ld_unit_zero (S := S256x7040) hz]
  exact congrArg (k0_pay2 x1) (ld11 x0 _ _)

/-- and at the later points. -/
theorem out_B_2 (c : Dev nD) (i : grid0.Coords) (a1 : Memref sig .tc .smem S1x1 .f32) (h1 : a1.IsWhole)
    (a2 : Memref sig .tc .vmem S256x7040 .bf16) (h2 : a2.IsWhole) (a3 : Memref sig .tc .vmem S256x7040 .fp8e4m3) (h3 : a3.IsWhole)
    (a4 : Memref sig .tc .smem S1x1 .f32) (h4 : a4.IsWhole) (hc0 hc1) (x0 : Vec F S1x1 .f32) (x1 : Vec F S256x7040 .bf16) (xo : Vec F S1x1 .f32) :
    out0_B_2 c i a1 h1 a2 h2 a3 h3 a4 h4 hc0 hc1 x0 x1 xo = k0_pay2 x1 (x0 one11) := by
  unfold out0_B_2
  rw [View.read_writes_eq_canon _ _ _ (cover0_B_2 c i a1 h1 a2 h2 a3 h3 a4 h4 hc0 hc1 x0 x1 xo)]
  unfold kernelRun0_B
  dsimp only
  sl_unfold_words
  rw [View.canon_unit_zero hz]
  simp only [View.readAt_eq_ld, h1.read_unread, h2.read_unread, View.ld_unit_zero (S := S256x7040) hz]
  exact congrArg (k0_pay2 x1) (ld11 x0 _ _)

/-- The amax buffer after the first point: the block's amax. -/
theorem out_A_3 (c : Dev nD) (i : grid0.Coords) (a1 : Memref sig .tc .smem S1x1 .f32) (h1 : a1.IsWhole)
    (a2 : Memref sig .tc .vmem S256x7040 .bf16) (h2 : a2.IsWhole) (a3 : Memref sig .tc .vmem S256x7040 .fp8e4m3) (h3 : a3.IsWhole)
    (a4 : Memref sig .tc .smem S1x1 .f32) (h4 : a4.IsWhole) (hc0 hc1) (x0 : Vec F S1x1 .f32) (x1 : Vec F S256x7040 .bf16) :
    out0_A_3 c i a1 h1 a2 h2 a3 h3 a4 h4 hc0 hc1 x0 x1 = fun _ => k0_pay3 x1 := by
  unfold out0_A_3
  rw [View.read_writes_eq_canon _ _ _ (cover0_A_3 c i a1 h1 a2 h2 a3 h3 a4 h4 hc0 hc1 x0 x1)]
  unfold kernelRun0_A
  dsimp only
  sl_unfold_words
  rw [View.canon_unit_zero hz]
  simp only [View.readAt_eq_ld, h2.read_unread, View.ld_unit_zero (S := S256x7040) hz]
  rfl

/-- and after a later one: the greater of what it held and the block's amax. -/
theorem out_B_3 (c : Dev nD) (i : grid0.Coords) (a1 : Memref sig .tc .smem S1x1 .f32) (h1 : a1.IsWhole)
    (a2 : Memref sig .tc .vmem S256x7040 .bf16) (h2 : a2.IsWhole) (a3 : Memref sig .tc .vmem S256x7040 .fp8e4m3) (h3 : a3.IsWhole)
    (a4 : Memref sig .tc .smem S1x1 .f32) (h4 : a4.IsWhole) (hc0 hc1) (x0 : Vec F S1x1 .f32) (x1 : Vec F S256x7040 .bf16) (xo : Vec F S1x1 .f32) :
    out0_B_3 c i a1 h1 a2 h2 a3 h3 a4 h4 hc0 hc1 x0 x1 xo = fun _ => k0_pay4 x1 (xo one11) := by
  unfold out0_B_3
  rw [View.read_writes_eq_canon _ _ _ (cover0_B_3 c i a1 h1 a2 h2 a3 h3 a4 h4 hc0 hc1 x0 x1 xo)]
  unfold kernelRun0_B
  dsimp only
  sl_unfold_words
  rw [View.canon_unit_zero hz]
  simp only [View.readAt_eq_ld, h2.read_unread, h4.read_unread, View.ld_unit_zero (S := S256x7040) hz]
  exact funext fun _ => congrArg (k0_pay4 x1) (ld11 xo _ _)

end Out

/-! ## The payloads over the extended reals -/

/-- The codes' payload at an index is the quantiser's formula. -/
theorem pay2_apply (x : Vec Ideal S256x7040 .bf16) (s : Elt Ideal .f32) (y : S256x7040.Idx) :
    k0_pay2 (F := Ideal) x s y = quant 0xC3E00000#32 0x43E00000#32 (x y) s := by
  unfold k0_pay2 k0_pay1
  simp only [shapeCast_self]
  rfl

theorem idx111 (i j : S1x1x1.Idx) : i = j := funext fun a => Fin.ext (by
  match a with
  | ⟨0, _⟩ => have h : (i 0).val < 1 := (i 0).isLt; have h' : (j 0).val < 1 := (j 0).isLt; show (i 0).val = (j 0).val; omega
  | ⟨1, _⟩ => have h : (i 1).val < 1 := (i 1).isLt; have h' : (j 1).val < 1 := (j 1).isLt; show (i 1).val = (j 1).val; omega
  | ⟨2, _⟩ => have h : (i 2).val < 1 := (i 2).isLt; have h' : (j 2).val < 1 := (j 2).isLt; show (i 2).val = (j 2).val; omega)

/-- The block's amax is at most `u` exactly when every magnitude of the block is. -/
theorem pay3_le (x : Vec Ideal S256x7040 .bf16) (u : EReal) :
    (k0_pay3 (F := Ideal) x : EReal) ≤ u ↔ ∀ y, FloatOps.absf (F := Ideal) (φ := .bf16) (x y) ≤ u := by
  unfold k0_pay3 k0_pay1
  simp only [shapeCast_self]
  exact amax_ext_le _ _ _ _ _ _ _ _ _ _ _ _ _ idx111 u

end Cert.KernelIdeal.Region0Value

end
-- ==== Proof.Value.Quant0.lean ====
/-
  What the first quantise call (the activations, 16 blocks of 256 rows) leaves in its two results, at the extended reals,
  whatever its operands hold when it starts: the codes are the quantiser of the operand element by element, and the amax
  is the least upper bound of the operand's magnitudes. The codes' blocks tile the array; the amax is the running maximum
  over the grid, described by its upper bounds, for which the order and the blocks do not matter.
-/
module

public import proofs.«01_k».proof.Proof.Value.Math
public import proofs.«01_k».proof.Proof.Value.Block0

@[expose] public section

set_option maxRecDepth 16384

noncomputable section

namespace Cert.KernelIdeal.Region0Value

open Idealize.ShloMosaic Idealize.ShloMosaic.TcCoe Idealize.SL.Sem
open Idealize.ShloMosaic.Pipeline (Dat)
open Idealize.ShloMosaic.ValueIdx
open Cert.KernelIdeal Cert.KernelIdeal.Gen Cert.Proof.Math

variable (V : (c : Dev nD) → (b : Ref sig .tc) → Buf (Elt Ideal) ((c : Thread nD τ).loc b))

/-- The operand's block at a point, and the inverse scale. -/
abbrev xblk (c : Dev nD) (t : Fin cfg0.N) : Vec Ideal S256x7040 .bf16 := iblk0 V c 1 t

theorem sblk (c : Dev nD) (t : Fin cfg0.N) : (iblk0 V c 0 t : Vec Ideal S1x1 .f32) one11 = (V c main_v1 : Vec Ideal S1x1 .f32) one11 :=
  congrArg (V c main_v1 : Vec Ideal S1x1 .f32) (idx11 _)

/-- The codes' buffer after each point, whichever case runs. -/
theorem outs_codes (c : Dev nD) (t : Fin cfg0.N) :
    (outsAt0 V c t.val t.isLt).1 = k0_pay2 (F := Ideal) (xblk V c t) ((V c main_v1 : Vec Ideal S1x1 .f32) one11) := by
  have hN : cfg0.N = 16 := N_0
  have hlt := t.isLt
  by_cases h : t.val = 0
  · rw [outsAt0_A V c t (by omega) (by omega)]
    dsimp only
    rw [out_A_2, sblk]
  · rw [outsAt0_B V c t (by omega) (by omega)]
    dsimp only
    rw [out_B_2, sblk]

/-- The codes: the quantiser of the whole operand, element by element. -/
abbrev codes (c : Dev nD) : Vec Ideal S4096x7040 .fp8e4m3 := fun i =>
  quant 0xC3E00000#32 0x43E00000#32 ((V c main_v0 : Vec Ideal S4096x7040 .bf16) i) ((V c main_v1 : Vec Ideal S1x1 .f32) one11)

/-- Where the blocks lie: block `t` is rows `256 t …`. -/
theorem idx_facts : ∀ t : Fin grid0.N, win0_2.index t 0 * win0_2.size 0 = t.val * 256 ∧ win0_2.xsize (grid0.coords t) 0 = 256
    ∧ win0_2.index t 1 * win0_2.size 1 = 0 ∧ win0_2.xsize (grid0.coords t) 1 = 7040 := by decide +kernel

/-- The index of the operand at `y` of block `t`. -/
abbrev at0 (t : Fin cfg0.N) (y : S256x7040.Idx) : S4096x7040.Idx :=
  ix2 ⟨t.val * 256 + (y 0).val, by have h : (y 0).val < 256 := (y 0).isLt; have hN : cfg0.N = 16 := N_0; have := t.isLt; omega⟩ (y 1)

theorem ixt : ∀ t : Fin grid0.N, win0_1.index t 0 * 256 = t.val * 256 ∧ win0_1.index t 1 * 7040 = 0
    ∧ win0_2.index t 0 * 256 = t.val * 256 ∧ win0_2.index t 1 * 7040 = 0 := by decide +kernel

theorem emb2 (t : Fin cfg0.N) (y : S256x7040.Idx) : ((win0_2.blk t).view.emb y : S4096x7040.Idx) = at0 t y := by
  have e := ixt t
  funext a
  apply Fin.ext
  match a with
  | ⟨0, _⟩ => show win0_2.index t 0 * 256 + 1 * (y 0).val = t.val * 256 + (y 0).val; omega
  | ⟨1, _⟩ => show win0_2.index t 1 * 7040 + 1 * (y 1).val = (y 1).val; omega

theorem xblk_apply (c : Dev nD) (t : Fin cfg0.N) (y : S256x7040.Idx) :
    xblk V c t y = (V c main_v0 : Vec Ideal S4096x7040 .bf16) (at0 t y) := by
  have e := ixt t
  unfold xblk iblk0
  rw [View.read_apply]
  refine congrArg (V c main_v0 : Vec Ideal S4096x7040 .bf16) ?_
  funext a
  apply Fin.ext
  match a with
  | ⟨0, _⟩ => show win0_1.index t 0 * 256 + 1 * (y 0).val = t.val * 256 + (y 0).val; omega
  | ⟨1, _⟩ => show win0_1.index t 1 * 7040 + 1 * (y 1).val = (y 1).val; omega

theorem at0_surj (i : S4096x7040.Idx) : ∃ t y, at0 t y = i := by
  have h0 : (i 0 : Nat) < 4096 := (i 0).isLt
  have hN : cfg0.N = 16 := N_0
  refine ⟨⟨(i 0 : Nat) / 256, by omega⟩, ix2 ⟨(i 0 : Nat) % 256, by omega⟩ (i 1), ?_⟩
  funext a
  apply Fin.ext
  match a with
  | ⟨0, _⟩ => show (i 0 : Nat) / 256 * 256 + (i 0 : Nat) % 256 = (i 0).val; omega
  | ⟨1, _⟩ => rfl

theorem flushed_codes (c : Dev nD) (t : Fin cfg0.N) :
    (dat0 V c).flushed 2 t = (win0_2.blk t).view.read (Elt Ideal) (codes V c) := by
  show (cfg0.win 2).cut (grid0.coords t) ((dat0 V c).after 2 t) = _
  rw [after0_2, outs_codes]
  funext y
  rw [View.read_apply]
  refine (pay2_apply (xblk V c t) _ y).trans ?_
  rw [xblk_apply, emb2]
  rfl

/-- The point whose block has a row. -/
abbrev pt (i : S4096x7040.Idx) : Fin cfg0.N :=
  ⟨(i 0 : Nat) / 256, by have h0 : (i 0 : Nat) < 4096 := (i 0).isLt; have hN : cfg0.N = 16 := N_0; omega⟩

theorem final_codes (c : Dev nD) : (dat0 V c).arrAt 2 cfg0.N = codes V c :=
  (dat0 V c).arrAt_eq_of_cover 2 (codes V c) (fun t _ => flushed_codes V c t) fun i =>
    ⟨pt i, flush0_2 (pt i), by
    have h0 : (i 0 : Nat) < 4096 := (i 0).isLt
    have h1 : (i 1 : Nat) < 7040 := (i 1).isLt
    show i ∈ ((View.whole main_v2_0).slice (win0_2.rect (pt i))).set
    rw [View.set_slice_whole, Rect.mem_set_unit]
    intro a
    have e := idx_facts (pt i)
    match a with
    | ⟨0, _⟩ => show win0_2.index _ 0 * win0_2.size 0 ≤ (i 0 : Nat) ∧ (i 0 : Nat) < win0_2.index _ 0 * win0_2.size 0 + win0_2.xsize (grid0.coords _) 0
                have d : (pt i).val = (i 0 : Nat) / 256 := rfl
                rw [e.1, e.2.1]; omega
    | ⟨1, _⟩ => show win0_2.index _ 1 * win0_2.size 1 ≤ (i 1 : Nat) ∧ (i 1 : Nat) < win0_2.index _ 1 * win0_2.size 1 + win0_2.xsize (grid0.coords _) 1
                rw [e.2.2.1, e.2.2.2]; omega⟩

/-- Every element of the operand is in some point's block. -/
theorem forall_blocks (c : Dev nD) (P : EReal → Prop) :
    (∀ t y, P (xblk V c t y)) ↔ ∀ i, P ((V c main_v0 : Vec Ideal S4096x7040 .bf16) i) := by
  constructor
  · intro H i
    obtain ⟨t, y, rfl⟩ := at0_surj i
    exact xblk_apply V c t y ▸ H t y
  · intro H t y
    rw [xblk_apply]
    exact H _

/-- The amax buffer after the first point, and after a later one. -/
theorem outs_A (c : Dev nD) (t : Fin cfg0.N) (ht : t.val = 0) :
    (outsAt0 V c t.val t.isLt).2 = fun _ => k0_pay3 (F := Ideal) (xblk V c t) := by
  rw [outsAt0_A V c t (by omega) (by omega)]
  dsimp only
  rw [out_A_3]

theorem outs_B (c : Dev nD) (t : Fin cfg0.N) (n : ℕ) (ht : t.val = n + 1) (h' : n < cfg0.N) :
    (outsAt0 V c t.val t.isLt).2 = fun _ => k0_pay4 (F := Ideal) (xblk V c t) ((outsAt0 V c n h').2 one11) := by
  have hN : cfg0.N = 16 := N_0
  have := t.isLt
  obtain rfl : n = t.val - 1 := by omega
  rw [outsAt0_B V c t (by omega) (by omega)]
  dsimp only
  rw [out_B_3]

theorem pay4_eq (x : Vec Ideal S256x7040 .bf16) (a : EReal) : (k0_pay4 (F := Ideal) x a : EReal) = max a (k0_pay3 (F := Ideal) x) := rfl

/-- The amax after point `n`. -/
def am (c : Dev nD) (n : ℕ) (h : n < cfg0.N) : EReal := (outsAt0 V c n h).2 one11

theorem outs_amax (c : Dev nD) (u : EReal) (n : ℕ) (h : n < cfg0.N) :
    am V c n h ≤ u ↔ ∀ t : Fin cfg0.N, t.val ≤ n → ∀ y, FloatOps.absf (F := Ideal) (φ := .bf16) (xblk V c t y) ≤ u := by
  refine runningMax_le (fun t y => FloatOps.absf (F := Ideal) (φ := .bf16) (xblk V c t y)) (fun t => k0_pay3 (F := Ideal) (xblk V c t))
    (am V c) (fun t u => pay3_le _ u) (fun h => ?_) (fun n h h' => ?_) u n h
  · exact congrFun (outs_A V c ⟨0, h⟩ rfl) one11
  · exact (congrFun (outs_B V c ⟨n + 1, h⟩ n rfl h') one11).trans (pay4_eq _ _)

/-- The last point. -/
abbrev last : Fin cfg0.N := ⟨15, by rw [show cfg0.N = 16 from N_0]; decide⟩

theorem flushed_amax (c : Dev nD) (t : Fin cfg0.N) (hf : (cfg0.win 3).flush t = true) :
    (dat0 V c).flushed 3 t = (win0_3.blk t).view.read (Elt Ideal) ((outsAt0 V c last.val last.isLt).2 : Vec Ideal S1x1 .f32) := by
  have hN : cfg0.N = 16 := N_0
  obtain rfl : t = last := Fin.ext (by have := (flush0_3 t).mp hf; have := t.isLt; dsimp only; omega)
  show (cfg0.win 3).cut (grid0.coords last) ((dat0 V c).after 3 last) = _
  rw [after0_3]
  funext y
  exact congrArg (outsAt0 V c last.val last.isLt).2 ((idx11 _).trans (idx11 _).symm)

theorem idx_facts3 : ∀ t : Fin grid0.N, win0_3.index t 0 * win0_3.size 0 = 0 ∧ win0_3.xsize (grid0.coords t) 0 = 1
    ∧ win0_3.index t 1 * win0_3.size 1 = 0 ∧ win0_3.xsize (grid0.coords t) 1 = 1 := by decide +kernel

theorem final_amax_eq (c : Dev nD) : (dat0 V c).arrAt 3 cfg0.N = ((outsAt0 V c last.val last.isLt).2 : Vec Ideal S1x1 .f32) :=
  (dat0 V c).arrAt_eq_of_cover 3 _ (flushed_amax V c) fun i => ⟨last, (flush0_3 last).mpr rfl, by
    show i ∈ ((View.whole main_v2_1).slice (win0_3.rect last)).set
    rw [View.set_slice_whole, Rect.mem_set_unit]
    have e := idx_facts3 last
    have h0 : (i 0 : Nat) < 1 := (i 0).isLt
    have h1 : (i 1 : Nat) < 1 := (i 1).isLt
    intro a
    match a with
    | ⟨0, _⟩ => show win0_3.index _ 0 * win0_3.size 0 ≤ (i 0 : Nat) ∧ (i 0 : Nat) < win0_3.index _ 0 * win0_3.size 0 + win0_3.xsize (grid0.coords _) 0
                rw [e.1, e.2.1]; omega
    | ⟨1, _⟩ => show win0_3.index _ 1 * win0_3.size 1 ≤ (i 1 : Nat) ∧ (i 1 : Nat) < win0_3.index _ 1 * win0_3.size 1 + win0_3.xsize (grid0.coords _) 1
                rw [e.2.2.1, e.2.2.2]; omega⟩

theorem final_amax_am (c : Dev nD) : (show EReal from ((dat0 V c).arrAt 3 cfg0.N : Vec Ideal S1x1 .f32) one11) = am V c last.val last.isLt := by
  rw [final_amax_eq]
  rfl

/-- The amax array, by its upper bounds: the least one is the greatest magnitude of the whole operand. -/
theorem final_amax_le (c : Dev nD) (u : EReal) :
    (show EReal from ((dat0 V c).arrAt 3 cfg0.N : Vec Ideal S1x1 .f32) one11) ≤ u
      ↔ ∀ i, FloatOps.absf (F := Ideal) (φ := .bf16) ((V c main_v0 : Vec Ideal S4096x7040 .bf16) i) ≤ u := by
  rw [final_amax_am]
  refine (outs_amax V c u _ _).trans ?_
  rw [← forall_blocks V c (fun a => FloatOps.absf (F := Ideal) (φ := .bf16) a ≤ u)]
  have hN : cfg0.N = 16 := N_0
  exact ⟨fun H t y => H t (by have := t.isLt; dsimp only; omega) y, fun H t _ y => H t y⟩

end Cert.KernelIdeal.Region0Value

end
-- ==== Proof.Value.Block1.lean ====
/-
  What one grid point of the second quantise call (the weights) leaves in its two output buffers, and what those
  values are over the extended reals: the codes' block is the quantiser of the operand's block element by element, and
  the block's amax is described by its upper bounds.
-/
module

public import proofs.«01_k».proof.Proof.KernelIdealRun.Region1
public import proofs.«01_k».proof.Proof.Value.Math

@[expose] public section

set_option maxRecDepth 16384

noncomputable section

namespace Cert.KernelIdeal.Region1Value

open Idealize.ShloMosaic Idealize.ShloMosaic.TcCoe Idealize.SL.Sem
open Idealize.ShloMosaic.Pipeline (Dat)
open Idealize.ShloMosaic.ValueIdx
open Cert.KernelIdeal Cert.KernelIdeal.Gen Cert.Proof.Math

theorem hz : (![0, 0] : Fin 2 → Nat) = fun _ => 0 := funext fun a => by fin_cases a <;> rfl

section Out
variable {F : FTy → Type} [FloatOps F]

/-- The one entry of a (1, 1) buffer. -/
abbrev one11 : S1x1.Idx := Shape.Idx.first (s := S1x1) (by decide)
theorem idx11 (i : S1x1.Idx) : i = one11 := funext fun a => Fin.ext (by
  match a with
  | ⟨0, _⟩ => have h : (i 0).val < 1 := (i 0).isLt; show (i 0).val = 0; omega
  | ⟨1, _⟩ => have h : (i 1).val < 1 := (i 1).isLt; show (i 1).val = 0; omega)

theorem ld11 (x : Vec F S1x1 .f32) (h) (h') :
    View.ld x (Rect.unit (s := S1x1) ![0, 0] ![1, 1] h) (Shape.Idx.first h') = x one11 :=
  (congrFun (View.ld_unit_zero (S := S1x1) hz h x) _).trans (congrArg x (idx11 _))

/-- The codes' block at the first point: the payload of the operand's block and the inverse scale. -/
theorem out_A_2 (c : Dev nD) (i : grid1.Coords) (a1 : Memref sig .tc .smem S1x1 .f32) (h1 : a1.IsWhole)
    (a2 : Memref sig .tc .vmem S320x2176 .f32) (h2 : a2.IsWhole) (a3 : Memref sig .tc .vmem S320x2176 .fp8e4m3) (h3 : a3.IsWhole)
    (a4 : Memref sig .tc .smem S1x1 .f32) (h4 : a4.IsWhole) (hc0 hc1) (x0 : Vec F S1x1 .f32) (x1 : Vec F S320x2176 .f32) :
    out1_A_2 c i a1 h1 a2 h2 a3 h3 a4 h4 hc0 hc1 x0 x1 = k1_pay1 x1 (x0 one11) := by
  unfold out1_A_2
  rw [View.read_writes_eq_canon _ _ _ (cover1_A_2 c i a1 h1 a2 h2 a3 h3 a4 h4 hc0 hc1 x0 x1)]
  unfold kernelRun1_A
  dsimp only
  sl_unfold_words
  rw [View.canon_unit_zero hz]
  simp only [View.readAt_eq_ld, h1.read_unread, h2.read_unread, View.ld_unit_zero (S := S320x2176) hz]
  exact congrArg (k1_pay1 x1) (ld11 x0 _ _)

/-- and at the later points. -/
theorem out_B_2 (c : Dev nD) (i : grid1.Coords) (a1 : Memref sig .tc .smem S1x1 .f32) (h1 : a1.IsWhole)
    (a2 : Memref sig .tc .vmem S320x2176 .f32) (h2 : a2.IsWhole) (a3 : Memref sig .tc .vmem S320x2176 .fp8e4m3) (h3 : a3.IsWhole)
    (a4 : Memref sig .tc .smem S1x1 .f32) (h4 : a4.IsWhole) (hc0 hc1) (x0 : Vec F S1x1 .f32) (x1 : Vec F S320x2176 .f32) (xo : Vec F S1x1 .f32) :
    out1_B_2 c i a1 h1 a2 h2 a3 h3 a4 h4 hc0 hc1 x0 x1 xo = k1_pay1 x1 (x0 one11) := by
  unfold out1_B_2
  rw [View.read_writes_eq_canon _ _ _ (cover1_B_2 c i a1 h1 a2 h2 a3 h3 a4 h4 hc0 hc1 x0 x1 xo)]
  unfold kernelRun1_B
  dsimp only
  sl_unfold_words
  rw [View.canon_unit_zero hz]
  simp only [View.readAt_eq_ld, h1.read_unread, h2.read_unread, View.ld_unit_zero (S := S320x2176) hz]
  exact congrArg (k1_pay1 x1) (ld11 x0 _ _)

/-- The amax buffer after the first point: the block's amax. -/
theorem out_A_3 (c : Dev nD) (i : grid1.Coords) (a1 : Memref sig .tc .smem S1x1 .f32) (h1 : a1.IsWhole)
    (a2 : Memref sig .tc .vmem S320x2176 .f32) (h2 : a2.IsWhole) (a3 : Memref sig .tc .vmem S320x2176 .fp8e4m3) (h3 : a3.IsWhole)
    (a4 : Memref sig .tc .smem S1x1 .f32) (h4 : a4.IsWhole) (hc0 hc1) (x0 : Vec F S1x1 .f32) (x1 : Vec F S320x2176 .f32) :
    out1_A_3 c i a1 h1 a2 h2 a3 h3 a4 h4 hc0 hc1 x0 x1 = fun _ => k1_pay2 x1 := by
  unfold out1_A_3
  rw [View.read_writes_eq_canon _ _ _ (cover1_A_3 c i a1 h1 a2 h2 a3 h3 a4 h4 hc0 hc1 x0 x1)]
  unfold kernelRun1_A
  dsimp only
  sl_unfold_words
  rw [View.canon_unit_zero hz]
  simp only [View.readAt_eq_ld, h2.read_unread, View.ld_unit_zero (S := S320x2176) hz]
  rfl

/-- and after a later one: the greater of what it held and the block's amax. -/
theorem out_B_3 (c : Dev nD) (i : grid1.Coords) (a1 : Memref sig .tc .smem S1x1 .f32) (h1 : a1.IsWhole)
    (a2 : Memref sig .tc .vmem S320x2176 .f32) (h2 : a2.IsWhole) (a3 : Memref sig .tc .vmem S320x2176 .fp8e4m3) (h3 : a3.IsWhole)
    (a4 : Memref sig .tc .smem S1x1 .f32) (h4 : a4.IsWhole) (hc0 hc1) (x0 : Vec F S1x1 .f32) (x1 : Vec F S320x2176 .f32) (xo : Vec F S1x1 .f32) :
    out1_B_3 c i a1 h1 a2 h2 a3 h3 a4 h4 hc0 hc1 x0 x1 xo = fun _ => k1_pay3 x1 (xo one11) := by
  unfold out1_B_3
  rw [View.read_writes_eq_canon _ _ _ (cover1_B_3 c i a1 h1 a2 h2 a3 h3 a4 h4 hc0 hc1 x0 x1 xo)]
  unfold kernelRun1_B
  dsimp only
  sl_unfold_words
  rw [View.canon_unit_zero hz]
  simp only [View.readAt_eq_ld, h2.read_unread, h4.read_unread, View.ld_unit_zero (S := S320x2176) hz]
  exact funext fun _ => congrArg (k1_pay3 x1) (ld11 xo _ _)

end Out

/-! ## The payloads over the extended reals -/

/-- The codes' payload at an index is the quantiser's formula. -/
theorem pay2_apply (x : Vec Ideal S320x2176 .f32) (s : Elt Ideal .f32) (y : S320x2176.Idx) :
    k1_pay1 (F := Ideal) x s y = quant 0xC3E00000#32 0x43E00000#32 (x y) s := by
  unfold k1_pay1
  rfl

theorem idx111 (i j : S1x1x1.Idx) : i = j := funext fun a => Fin.ext (by
  match a with
  | ⟨0, _⟩ => have h : (i 0).val < 1 := (i 0).isLt; have h' : (j 0).val < 1 := (j 0).isLt; show (i 0).val = (j 0).val; omega
  | ⟨1, _⟩ => have h : (i 1).val < 1 := (i 1).isLt; have h' : (j 1).val < 1 := (j 1).isLt; show (i 1).val = (j 1).val; omega
  | ⟨2, _⟩ => have h : (i 2).val < 1 := (i 2).isLt; have h' : (j 2).val < 1 := (j 2).isLt; show (i 2).val = (j 2).val; omega)

/-- The block's amax is at most `u` exactly when every magnitude of the block is. -/
theorem pay3_le (x : Vec Ideal S320x2176 .f32) (u : EReal) :
    (k1_pay2 (F := Ideal) x : EReal) ≤ u ↔ ∀ y, FloatOps.absf (F := Ideal) (φ := .f32) (x y) ≤ u := by
  unfold k1_pay2
  exact amax_le _ _ _ _ _ _ _ _ _ _ _ _ idx111 u

end Cert.KernelIdeal.Region1Value

end
-- ==== Proof.Value.Quant1.lean ====
/-
  What the second quantise call (the weights, 22 blocks of 320 rows) leaves in its two results, at the extended reals,
  whatever its operands hold when it starts: the codes are the quantiser of the operand element by element, and the amax
  is the least upper bound of the operand's magnitudes. The codes' blocks tile the array; the amax is the running maximum
  over the grid, described by its upper bounds, for which the order and the blocks do not matter.
-/
module

public import proofs.«01_k».proof.Proof.Value.Math
public import proofs.«01_k».proof.Proof.Value.Block1

@[expose] public section

set_option maxRecDepth 16384

noncomputable section

namespace Cert.KernelIdeal.Region1Value

open Idealize.ShloMosaic Idealize.ShloMosaic.TcCoe Idealize.SL.Sem
open Idealize.ShloMosaic.Pipeline (Dat)
open Idealize.ShloMosaic.ValueIdx
open Cert.KernelIdeal Cert.KernelIdeal.Gen Cert.Proof.Math

variable (V : (c : Dev nD) → (b : Ref sig .tc) → Buf (Elt Ideal) ((c : Thread nD τ).loc b))

/-- The operand's block at a point, and the inverse scale. -/
abbrev xblk (c : Dev nD) (t : Fin cfg1.N) : Vec Ideal S320x2176 .f32 := iblk1 V c 1 t

theorem sblk (c : Dev nD) (t : Fin cfg1.N) : (iblk1 V c 0 t : Vec Ideal S1x1 .f32) one11 = (V c main_v3 : Vec Ideal S1x1 .f32) one11 :=
  congrArg (V c main_v3 : Vec Ideal S1x1 .f32) (idx11 _)

/-- The codes' buffer after each point, whichever case runs. -/
theorem outs_codes (c : Dev nD) (t : Fin cfg1.N) :
    (outsAt1 V c t.val t.isLt).1 = k1_pay1 (F := Ideal) (xblk V c t) ((V c main_v3 : Vec Ideal S1x1 .f32) one11) := by
  have hN : cfg1.N = 22 := N_1
  have hlt := t.isLt
  by_cases h : t.val = 0
  · rw [outsAt1_A V c t (by omega) (by omega)]
    dsimp only
    rw [out_A_2, sblk]
  · rw [outsAt1_B V c t (by omega) (by omega)]
    dsimp only
    rw [out_B_2, sblk]

/-- The codes: the quantiser of the whole operand, element by element. -/
abbrev codes (c : Dev nD) : Vec Ideal S7040x2176 .fp8e4m3 := fun i =>
  quant 0xC3E00000#32 0x43E00000#32 ((V c main_arg1 : Vec Ideal S7040x2176 .f32) i) ((V c main_v3 : Vec Ideal S1x1 .f32) one11)

/-- Where the blocks lie: block `t` is rows `320 t …`. -/
theorem idx_facts : ∀ t : Fin grid1.N, win1_2.index t 0 * win1_2.size 0 = t.val * 320 ∧ win1_2.xsize (grid1.coords t) 0 = 320
    ∧ win1_2.index t 1 * win1_2.size 1 = 0 ∧ win1_2.xsize (grid1.coords t) 1 = 2176 := by decide +kernel

/-- The index of the operand at `y` of block `t`. -/
abbrev at1 (t : Fin cfg1.N) (y : S320x2176.Idx) : S7040x2176.Idx :=
  ix2 ⟨t.val * 320 + (y 0).val, by have h : (y 0).val < 320 := (y 0).isLt; have hN : cfg1.N = 22 := N_1; have := t.isLt; omega⟩ (y 1)

theorem ixt : ∀ t : Fin grid1.N, win1_1.index t 0 * 320 = t.val * 320 ∧ win1_1.index t 1 * 2176 = 0
    ∧ win1_2.index t 0 * 320 = t.val * 320 ∧ win1_2.index t 1 * 2176 = 0 := by decide +kernel

theorem emb2 (t : Fin cfg1.N) (y : S320x2176.Idx) : ((win1_2.blk t).view.emb y : S7040x2176.Idx) = at1 t y := by
  have e := ixt t
  funext a
  apply Fin.ext
  match a with
  | ⟨0, _⟩ => show win1_2.index t 0 * 320 + 1 * (y 0).val = t.val * 320 + (y 0).val; omega
  | ⟨1, _⟩ => show win1_2.index t 1 * 2176 + 1 * (y 1).val = (y 1).val; omega

theorem xblk_apply (c : Dev nD) (t : Fin cfg1.N) (y : S320x2176.Idx) :
    xblk V c t y = (V c main_arg1 : Vec Ideal S7040x2176 .f32) (at1 t y) := by
  have e := ixt t
  unfold xblk iblk1
  rw [View.read_apply]
  refine congrArg (V c main_arg1 : Vec Ideal S7040x2176 .f32) ?_
  funext a
  apply Fin.ext
  match a with
  | ⟨0, _⟩ => show win1_1.index t 0 * 320 + 1 * (y 0).val = t.val * 320 + (y 0).val; omega
  | ⟨1, _⟩ => show win1_1.index t 1 * 2176 + 1 * (y 1).val = (y 1).val; omega

theorem at1_surj (i : S7040x2176.Idx) : ∃ t y, at1 t y = i := by
  have h0 : (i 0 : Nat) < 7040 := (i 0).isLt
  have hN : cfg1.N = 22 := N_1
  refine ⟨⟨(i 0 : Nat) / 320, by omega⟩, ix2 ⟨(i 0 : Nat) % 320, by omega⟩ (i 1), ?_⟩
  funext a
  apply Fin.ext
  match a with
  | ⟨0, _⟩ => show (i 0 : Nat) / 320 * 320 + (i 0 : Nat) % 320 = (i 0).val; omega
  | ⟨1, _⟩ => rfl

theorem flushed_codes (c : Dev nD) (t : Fin cfg1.N) :
    (dat1 V c).flushed 2 t = (win1_2.blk t).view.read (Elt Ideal) (codes V c) := by
  show (cfg1.win 2).cut (grid1.coords t) ((dat1 V c).after 2 t) = _
  rw [after1_2, outs_codes]
  funext y
  rw [View.read_apply]
  refine (pay2_apply (xblk V c t) _ y).trans ?_
  rw [xblk_apply, emb2]
  rfl

/-- The point whose block has a row. -/
abbrev pt (i : S7040x2176.Idx) : Fin cfg1.N :=
  ⟨(i 0 : Nat) / 320, by have h0 : (i 0 : Nat) < 7040 := (i 0).isLt; have hN : cfg1.N = 22 := N_1; omega⟩

theorem final_codes (c : Dev nD) : (dat1 V c).arrAt 2 cfg1.N = codes V c :=
  (dat1 V c).arrAt_eq_of_cover 2 (codes V c) (fun t _ => flushed_codes V c t) fun i =>
    ⟨pt i, flush1_2 (pt i), by
    have h0 : (i 0 : Nat) < 7040 := (i 0).isLt
    have h1 : (i 1 : Nat) < 2176 := (i 1).isLt
    show i ∈ ((View.whole main_v4_0).slice (win1_2.rect (pt i))).set
    rw [View.set_slice_whole, Rect.mem_set_unit]
    intro a
    have e := idx_facts (pt i)
    match a with
    | ⟨0, _⟩ => show win1_2.index _ 0 * win1_2.size 0 ≤ (i 0 : Nat) ∧ (i 0 : Nat) < win1_2.index _ 0 * win1_2.size 0 + win1_2.xsize (grid1.coords _) 0
                have d : (pt i).val = (i 0 : Nat) / 320 := rfl
                rw [e.1, e.2.1]; omega
    | ⟨1, _⟩ => show win1_2.index _ 1 * win1_2.size 1 ≤ (i 1 : Nat) ∧ (i 1 : Nat) < win1_2.index _ 1 * win1_2.size 1 + win1_2.xsize (grid1.coords _) 1
                rw [e.2.2.1, e.2.2.2]; omega⟩

/-- Every element of the operand is in some point's block. -/
theorem forall_blocks (c : Dev nD) (P : EReal → Prop) :
    (∀ t y, P (xblk V c t y)) ↔ ∀ i, P ((V c main_arg1 : Vec Ideal S7040x2176 .f32) i) := by
  constructor
  · intro H i
    obtain ⟨t, y, rfl⟩ := at1_surj i
    exact xblk_apply V c t y ▸ H t y
  · intro H t y
    rw [xblk_apply]
    exact H _

/-- The amax buffer after the first point, and after a later one. -/
theorem outs_A (c : Dev nD) (t : Fin cfg1.N) (ht : t.val = 0) :
    (outsAt1 V c t.val t.isLt).2 = fun _ => k1_pay2 (F := Ideal) (xblk V c t) := by
  rw [outsAt1_A V c t (by omega) (by omega)]
  dsimp only
  rw [out_A_3]

theorem outs_B (c : Dev nD) (t : Fin cfg1.N) (n : ℕ) (ht : t.val = n + 1) (h' : n < cfg1.N) :
    (outsAt1 V c t.val t.isLt).2 = fun _ => k1_pay3 (F := Ideal) (xblk V c t) ((outsAt1 V c n h').2 one11) := by
  have hN : cfg1.N = 22 := N_1
  have := t.isLt
  obtain rfl : n = t.val - 1 := by omega
  rw [outsAt1_B V c t (by omega) (by omega)]
  dsimp only
  rw [out_B_3]

theorem pay4_eq (x : Vec Ideal S320x2176 .f32) (a : EReal) : (k1_pay3 (F := Ideal) x a : EReal) = max a (k1_pay2 (F := Ideal) x) := rfl

/-- The amax after point `n`. -/
def am (c : Dev nD) (n : ℕ) (h : n < cfg1.N) : EReal := (outsAt1 V c n h).2 one11

theorem outs_amax (c : Dev nD) (u : EReal) (n : ℕ) (h : n < cfg1.N) :
    am V c n h ≤ u ↔ ∀ t : Fin cfg1.N, t.val ≤ n → ∀ y, FloatOps.absf (F := Ideal) (φ := .f32) (xblk V c t y) ≤ u := by
  refine runningMax_le (fun t y => FloatOps.absf (F := Ideal) (φ := .f32) (xblk V c t y)) (fun t => k1_pay2 (F := Ideal) (xblk V c t))
    (am V c) (fun t u => pay3_le _ u) (fun h => ?_) (fun n h h' => ?_) u n h
  · exact congrFun (outs_A V c ⟨0, h⟩ rfl) one11
  · exact (congrFun (outs_B V c ⟨n + 1, h⟩ n rfl h') one11).trans (pay4_eq _ _)

/-- The last point. -/
abbrev last : Fin cfg1.N := ⟨21, by rw [show cfg1.N = 22 from N_1]; decide⟩

theorem flushed_amax (c : Dev nD) (t : Fin cfg1.N) (hf : (cfg1.win 3).flush t = true) :
    (dat1 V c).flushed 3 t = (win1_3.blk t).view.read (Elt Ideal) ((outsAt1 V c last.val last.isLt).2 : Vec Ideal S1x1 .f32) := by
  have hN : cfg1.N = 22 := N_1
  obtain rfl : t = last := Fin.ext (by have := (flush1_3 t).mp hf; have := t.isLt; dsimp only; omega)
  show (cfg1.win 3).cut (grid1.coords last) ((dat1 V c).after 3 last) = _
  rw [after1_3]
  funext y
  exact congrArg (outsAt1 V c last.val last.isLt).2 ((idx11 _).trans (idx11 _).symm)

theorem idx_facts3 : ∀ t : Fin grid1.N, win1_3.index t 0 * win1_3.size 0 = 0 ∧ win1_3.xsize (grid1.coords t) 0 = 1
    ∧ win1_3.index t 1 * win1_3.size 1 = 0 ∧ win1_3.xsize (grid1.coords t) 1 = 1 := by decide +kernel

theorem final_amax_eq (c : Dev nD) : (dat1 V c).arrAt 3 cfg1.N = ((outsAt1 V c last.val last.isLt).2 : Vec Ideal S1x1 .f32) :=
  (dat1 V c).arrAt_eq_of_cover 3 _ (flushed_amax V c) fun i => ⟨last, (flush1_3 last).mpr rfl, by
    show i ∈ ((View.whole main_v4_1).slice (win1_3.rect last)).set
    rw [View.set_slice_whole, Rect.mem_set_unit]
    have e := idx_facts3 last
    have h0 : (i 0 : Nat) < 1 := (i 0).isLt
    have h1 : (i 1 : Nat) < 1 := (i 1).isLt
    intro a
    match a with
    | ⟨0, _⟩ => show win1_3.index _ 0 * win1_3.size 0 ≤ (i 0 : Nat) ∧ (i 0 : Nat) < win1_3.index _ 0 * win1_3.size 0 + win1_3.xsize (grid1.coords _) 0
                rw [e.1, e.2.1]; omega
    | ⟨1, _⟩ => show win1_3.index _ 1 * win1_3.size 1 ≤ (i 1 : Nat) ∧ (i 1 : Nat) < win1_3.index _ 1 * win1_3.size 1 + win1_3.xsize (grid1.coords _) 1
                rw [e.2.2.1, e.2.2.2]; omega⟩

theorem final_amax_am (c : Dev nD) : (show EReal from ((dat1 V c).arrAt 3 cfg1.N : Vec Ideal S1x1 .f32) one11) = am V c last.val last.isLt := by
  rw [final_amax_eq]
  rfl

/-- The amax array, by its upper bounds: the least one is the greatest magnitude of the whole operand. -/
theorem final_amax_le (c : Dev nD) (u : EReal) :
    (show EReal from ((dat1 V c).arrAt 3 cfg1.N : Vec Ideal S1x1 .f32) one11) ≤ u
      ↔ ∀ i, FloatOps.absf (F := Ideal) (φ := .f32) ((V c main_arg1 : Vec Ideal S7040x2176 .f32) i) ≤ u := by
  rw [final_amax_am]
  refine (outs_amax V c u _ _).trans ?_
  rw [← forall_blocks V c (fun a => FloatOps.absf (F := Ideal) (φ := .f32) a ≤ u)]
  have hN : cfg1.N = 22 := N_1
  exact ⟨fun H t y => H t (by have := t.isLt; dsimp only; omega) y, fun H t _ y => H t y⟩

end Cert.KernelIdeal.Region1Value

end
-- ==== Proof.Value.Block2.lean ====
/-
  What one grid point of the third quantise call (the output gradient) leaves in its two output buffers, and what those
  values are over the extended reals: the codes' block is the quantiser of the operand's block element by element, and
  the block's amax is described by its upper bounds.
-/
module

public import proofs.«01_k».proof.Proof.KernelIdealRun.Region2
public import proofs.«01_k».proof.Proof.Value.Math

@[expose] public section

set_option maxRecDepth 16384

noncomputable section

namespace Cert.KernelIdeal.Region2Value

open Idealize.ShloMosaic Idealize.ShloMosaic.TcCoe Idealize.SL.Sem
open Idealize.ShloMosaic.Pipeline (Dat)
open Idealize.ShloMosaic.ValueIdx
open Cert.KernelIdeal Cert.KernelIdeal.Gen Cert.Proof.Math

theorem hz : (![0, 0] : Fin 2 → Nat) = fun _ => 0 := funext fun a => by fin_cases a <;> rfl

section Out
variable {F : FTy → Type} [FloatOps F]

/-- The one entry of a (1, 1) buffer. -/
abbrev one11 : S1x1.Idx := Shape.Idx.first (s := S1x1) (by decide)
theorem idx11 (i : S1x1.Idx) : i = one11 := funext fun a => Fin.ext (by
  match a with
  | ⟨0, _⟩ => have h : (i 0).val < 1 := (i 0).isLt; show (i 0).val = 0; omega
  | ⟨1, _⟩ => have h : (i 1).val < 1 := (i 1).isLt; show (i 1).val = 0; omega)

theorem ld11 (x : Vec F S1x1 .f32) (h) (h') :
    View.ld x (Rect.unit (s := S1x1) ![0, 0] ![1, 1] h) (Shape.Idx.first h') = x one11 :=
  (congrFun (View.ld_unit_zero (S := S1x1) hz h x) _).trans (congrArg x (idx11 _))

/-- The codes' block at the first point: the payload of the operand's block and the inverse scale. -/
theorem out_A_2 (c : Dev nD) (i : grid2.Coords) (a1 : Memref sig .tc .smem S1x1 .f32) (h1 : a1.IsWhole)
    (a2 : Memref sig .tc .vmem S512x2176 .bf16) (h2 : a2.IsWhole) (a3 : Memref sig .tc .vmem S512x2176 .fp8e5m2) (h3 : a3.IsWhole)
    (a4 : Memref sig .tc .smem S1x1 .f32) (h4 : a4.IsWhole) (hc0 hc1) (x0 : Vec F S1x1 .f32) (x1 : Vec F S512x2176 .bf16) :
    out2_A_2 c i a1 h1 a2 h2 a3 h3 a4 h4 hc0 hc1 x0 x1 = k2_pay2 x1 (x0 one11) := by
  unfold out2_A_2
  rw [View.read_writes_eq_canon _ _ _ (cover2_A_2 c i a1 h1 a2 h2 a3 h3 a4 h4 hc0 hc1 x0 x1)]
  unfold kernelRun2_A
  dsimp only
  sl_unfold_words
  rw [View.canon_unit_zero hz]
  simp only [View.readAt_eq_ld, h1.read_unread, h2.read_unread, View.ld_unit_zero (S := S512x2176) hz]
  exact congrArg (k2_pay2 x1) (ld11 x0 _ _)

/-- and at the later points. -/
theorem out_B_2 (c : Dev nD) (i : grid2.Coords) (a1 : Memref sig .tc .smem S1x1 .f32) (h1 : a1.IsWhole)
    (a2 : Memref sig .tc .vmem S512x2176 .bf16) (h2 : a2.IsWhole) (a3 : Memref sig .tc .vmem S512x2176 .fp8e5m2) (h3 : a3.IsWhole)
    (a4 : Memref sig .tc .smem S1x1 .f32) (h4 : a4.IsWhole) (hc0 hc1) (x0 : Vec F S1x1 .f32) (x1 : Vec F S512x2176 .bf16) (xo : Vec F S1x1 .f32) :
    out2_B_2 c i a1 h1 a2 h2 a3 h3 a4 h4 hc0 hc1 x0 x1 xo = k2_pay2 x1 (x0 one11) := by
  unfold out2_B_2
  rw [View.read_writes_eq_canon _ _ _ (cover2_B_2 c i a1 h1 a2 h2 a3 h3 a4 h4 hc0 hc1 x0 x1 xo)]
  unfold kernelRun2_B
  dsimp only
  sl_unfold_words
  rw [View.canon_unit_zero hz]
  simp only [View.readAt_eq_ld, h1.read_unread, h2.read_unread, View.ld_unit_zero (S := S512x2176) hz]
  exact congrArg (k2_pay2 x1) (ld11 x0 _ _)

/-- The amax buffer after the first point: the block's amax. -/
theorem out_A_3 (c : Dev nD) (i : grid2.Coords) (a1 : Memref sig .tc .smem S1x1 .f32) (h1 : a1.IsWhole)
    (a2 : Memref sig .tc .vmem S512x2176 .bf16) (h2 : a2.IsWhole) (a3 : Memref sig .tc .vmem S512x2176 .fp8e5m2) (h3 : a3.IsWhole)
    (a4 : Memref sig .tc .smem S1x1 .f32) (h4 : a4.IsWhole) (hc0 hc1) (x0 : Vec F S1x1 .f32) (x1 : Vec F S512x2176 .bf16) :
    out2_A_3 c i a1 h1 a2 h2 a3 h3 a4 h4 hc0 hc1 x0 x1 = fun _ => k2_pay3 x1 := by
  unfold out2_A_3
  rw [View.read_writes_eq_canon _ _ _ (cover2_A_3 c i a1 h1 a2 h2 a3 h3 a4 h4 hc0 hc1 x0 x1)]
  unfold kernelRun2_A
  dsimp only
  sl_unfold_words
  rw [View.canon_unit_zero hz]
  simp only [View.readAt_eq_ld, h2.read_unread, View.ld_unit_zero (S := S512x2176) hz]
  rfl

/-- and after a later one: the greater of what it held and the block's amax. -/
theorem out_B_3 (c : Dev nD) (i : grid2.Coords) (a1 : Memref sig .tc .smem S1x1 .f32) (h1 : a1.IsWhole)
    (a2 : Memref sig .tc .vmem S512x2176 .bf16) (h2 : a2.IsWhole) (a3 : Memref sig .tc .vmem S512x2176 .fp8e5m2) (h3 : a3.IsWhole)
    (a4 : Memref sig .tc .smem S1x1 .f32) (h4 : a4.IsWhole) (hc0 hc1) (x0 : Vec F S1x1 .f32) (x1 : Vec F S512x2176 .bf16) (xo : Vec F S1x1 .f32) :
    out2_B_3 c i a1 h1 a2 h2 a3 h3 a4 h4 hc0 hc1 x0 x1 xo = fun _ => k2_pay4 x1 (xo one11) := by
  unfold out2_B_3
  rw [View.read_writes_eq_canon _ _ _ (cover2_B_3 c i a1 h1 a2 h2 a3 h3 a4 h4 hc0 hc1 x0 x1 xo)]
  unfold kernelRun2_B
  dsimp only
  sl_unfold_words
  rw [View.canon_unit_zero hz]
  simp only [View.readAt_eq_ld, h2.read_unread, h4.read_unread, View.ld_unit_zero (S := S512x2176) hz]
  exact funext fun _ => congrArg (k2_pay4 x1) (ld11 xo _ _)

end Out

/-! ## The payloads over the extended reals -/

/-- The codes' payload at an index is the quantiser's formula. -/
theorem pay2_apply (x : Vec Ideal S512x2176 .bf16) (s : Elt Ideal .f32) (y : S512x2176.Idx) :
    k2_pay2 (F := Ideal) x s y = quant 0xC7600000#32 0x47600000#32 (x y) s := by
  unfold k2_pay2 k2_pay1
  simp only [shapeCast_self]
  rfl

theorem idx111 (i j : S1x1x1.Idx) : i = j := funext fun a => Fin.ext (by
  match a with
  | ⟨0, _⟩ => have h : (i 0).val < 1 := (i 0).isLt; have h' : (j 0).val < 1 := (j 0).isLt; show (i 0).val = (j 0).val; omega
  | ⟨1, _⟩ => have h : (i 1).val < 1 := (i 1).isLt; have h' : (j 1).val < 1 := (j 1).isLt; show (i 1).val = (j 1).val; omega
  | ⟨2, _⟩ => have h : (i 2).val < 1 := (i 2).isLt; have h' : (j 2).val < 1 := (j 2).isLt; show (i 2).val = (j 2).val; omega)

/-- The block's amax is at most `u` exactly when every magnitude of the block is. -/
theorem pay3_le (x : Vec Ideal S512x2176 .bf16) (u : EReal) :
    (k2_pay3 (F := Ideal) x : EReal) ≤ u ↔ ∀ y, FloatOps.absf (F := Ideal) (φ := .bf16) (x y) ≤ u := by
  unfold k2_pay3 k2_pay1
  simp only [shapeCast_self]
  exact amax_ext_le _ _ _ _ _ _ _ _ _ _ _ _ _ idx111 u

end Cert.KernelIdeal.Region2Value

end
-- ==== Proof.Value.Quant2.lean ====
/-
  What the third quantise call (the output gradient, 8 blocks of 512 rows) leaves in its two results, at the extended reals,
  whatever its operands hold when it starts: the codes are the quantiser of the operand element by element, and the amax
  is the least upper bound of the operand's magnitudes. The codes' blocks tile the array; the amax is the running maximum
  over the grid, described by its upper bounds, for which the order and the blocks do not matter.
-/
module

public import proofs.«01_k».proof.Proof.Value.Math
public import proofs.«01_k».proof.Proof.Value.Block2

@[expose] public section

set_option maxRecDepth 16384

noncomputable section

namespace Cert.KernelIdeal.Region2Value

open Idealize.ShloMosaic Idealize.ShloMosaic.TcCoe Idealize.SL.Sem
open Idealize.ShloMosaic.Pipeline (Dat)
open Idealize.ShloMosaic.ValueIdx
open Cert.KernelIdeal Cert.KernelIdeal.Gen Cert.Proof.Math

variable (V : (c : Dev nD) → (b : Ref sig .tc) → Buf (Elt Ideal) ((c : Thread nD τ).loc b))

/-- The operand's block at a point, and the inverse scale. -/
abbrev xblk (c : Dev nD) (t : Fin cfg2.N) : Vec Ideal S512x2176 .bf16 := iblk2 V c 1 t

theorem sblk (c : Dev nD) (t : Fin cfg2.N) : (iblk2 V c 0 t : Vec Ideal S1x1 .f32) one11 = (V c main_v6 : Vec Ideal S1x1 .f32) one11 :=
  congrArg (V c main_v6 : Vec Ideal S1x1 .f32) (idx11 _)

/-- The codes' buffer after each point, whichever case runs. -/
theorem outs_codes (c : Dev nD) (t : Fin cfg2.N) :
    (outsAt2 V c t.val t.isLt).1 = k2_pay2 (F := Ideal) (xblk V c t) ((V c main_v6 : Vec Ideal S1x1 .f32) one11) := by
  have hN : cfg2.N = 8 := N_2
  have hlt := t.isLt
  by_cases h : t.val = 0
  · rw [outsAt2_A V c t (by omega) (by omega)]
    dsimp only
    rw [out_A_2, sblk]
  · rw [outsAt2_B V c t (by omega) (by omega)]
    dsimp only
    rw [out_B_2, sblk]

/-- The codes: the quantiser of the whole operand, element by element. -/
abbrev codes (c : Dev nD) : Vec Ideal S4096x2176 .fp8e5m2 := fun i =>
  quant 0xC7600000#32 0x47600000#32 ((V c main_v5 : Vec Ideal S4096x2176 .bf16) i) ((V c main_v6 : Vec Ideal S1x1 .f32) one11)

/-- Where the blocks lie: block `t` is rows `512 t …`. -/
theorem idx_facts : ∀ t : Fin grid2.N, win2_2.index t 0 * win2_2.size 0 = t.val * 512 ∧ win2_2.xsize (grid2.coords t) 0 = 512
    ∧ win2_2.index t 1 * win2_2.size 1 = 0 ∧ win2_2.xsize (grid2.coords t) 1 = 2176 := by decide +kernel

/-- The index of the operand at `y` of block `t`. -/
abbrev at2 (t : Fin cfg2.N) (y : S512x2176.Idx) : S4096x2176.Idx :=
  ix2 ⟨t.val * 512 + (y 0).val, by have h : (y 0).val < 512 := (y 0).isLt; have hN : cfg2.N = 8 := N_2; have := t.isLt; omega⟩ (y 1)

theorem ixt : ∀ t : Fin grid2.N, win2_1.index t 0 * 512 = t.val * 512 ∧ win2_1.index t 1 * 2176 = 0
    ∧ win2_2.index t 0 * 512 = t.val * 512 ∧ win2_2.index t 1 * 2176 = 0 := by decide +kernel

theorem emb2 (t : Fin cfg2.N) (y : S512x2176.Idx) : ((win2_2.blk t).view.emb y : S4096x2176.Idx) = at2 t y := by
  have e := ixt t
  funext a
  apply Fin.ext
  match a with
  | ⟨0, _⟩ => show win2_2.index t 0 * 512 + 1 * (y 0).val = t.val * 512 + (y 0).val; omega
  | ⟨1, _⟩ => show win2_2.index t 1 * 2176 + 1 * (y 1).val = (y 1).val; omega

theorem xblk_apply (c : Dev nD) (t : Fin cfg2.N) (y : S512x2176.Idx) :
    xblk V c t y = (V c main_v5 : Vec Ideal S4096x2176 .bf16) (at2 t y) := by
  have e := ixt t
  unfold xblk iblk2
  rw [View.read_apply]
  refine congrArg (V c main_v5 : Vec Ideal S4096x2176 .bf16) ?_
  funext a
  apply Fin.ext
  match a with
  | ⟨0, _⟩ => show win2_1.index t 0 * 512 + 1 * (y 0).val = t.val * 512 + (y 0).val; omega
  | ⟨1, _⟩ => show win2_1.index t 1 * 2176 + 1 * (y 1).val = (y 1).val; omega

theorem at2_surj (i : S4096x2176.Idx) : ∃ t y, at2 t y = i := by
  have h0 : (i 0 : Nat) < 4096 := (i 0).isLt
  have hN : cfg2.N = 8 := N_2
  refine ⟨⟨(i 0 : Nat) / 512, by omega⟩, ix2 ⟨(i 0 : Nat) % 512, by omega⟩ (i 1), ?_⟩
  funext a
  apply Fin.ext
  match a with
  | ⟨0, _⟩ => show (i 0 : Nat) / 512 * 512 + (i 0 : Nat) % 512 = (i 0).val; omega
  | ⟨1, _⟩ => rfl

theorem flushed_codes (c : Dev nD) (t : Fin cfg2.N) :
    (dat2 V c).flushed 2 t = (win2_2.blk t).view.read (Elt Ideal) (codes V c) := by
  show (cfg2.win 2).cut (grid2.coords t) ((dat2 V c).after 2 t) = _
  rw [after2_2, outs_codes]
  funext y
  rw [View.read_apply]
  refine (pay2_apply (xblk V c t) _ y).trans ?_
  rw [xblk_apply, emb2]
  rfl

/-- The point whose block has a row. -/
abbrev pt (i : S4096x2176.Idx) : Fin cfg2.N :=
  ⟨(i 0 : Nat) / 512, by have h0 : (i 0 : Nat) < 4096 := (i 0).isLt; have hN : cfg2.N = 8 := N_2; omega⟩

theorem final_codes (c : Dev nD) : (dat2 V c).arrAt 2 cfg2.N = codes V c :=
  (dat2 V c).arrAt_eq_of_cover 2 (codes V c) (fun t _ => flushed_codes V c t) fun i =>
    ⟨pt i, flush2_2 (pt i), by
    have h0 : (i 0 : Nat) < 4096 := (i 0).isLt
    have h1 : (i 1 : Nat) < 2176 := (i 1).isLt
    show i ∈ ((View.whole main_v7_0).slice (win2_2.rect (pt i))).set
    rw [View.set_slice_whole, Rect.mem_set_unit]
    intro a
    have e := idx_facts (pt i)
    match a with
    | ⟨0, _⟩ => show win2_2.index _ 0 * win2_2.size 0 ≤ (i 0 : Nat) ∧ (i 0 : Nat) < win2_2.index _ 0 * win2_2.size 0 + win2_2.xsize (grid2.coords _) 0
                have d : (pt i).val = (i 0 : Nat) / 512 := rfl
                rw [e.1, e.2.1]; omega
    | ⟨1, _⟩ => show win2_2.index _ 1 * win2_2.size 1 ≤ (i 1 : Nat) ∧ (i 1 : Nat) < win2_2.index _ 1 * win2_2.size 1 + win2_2.xsize (grid2.coords _) 1
                rw [e.2.2.1, e.2.2.2]; omega⟩

/-- Every element of the operand is in some point's block. -/
theorem forall_blocks (c : Dev nD) (P : EReal → Prop) :
    (∀ t y, P (xblk V c t y)) ↔ ∀ i, P ((V c main_v5 : Vec Ideal S4096x2176 .bf16) i) := by
  constructor
  · intro H i
    obtain ⟨t, y, rfl⟩ := at2_surj i
    exact xblk_apply V c t y ▸ H t y
  · intro H t y
    rw [xblk_apply]
    exact H _

/-- The amax buffer after the first point, and after a later one. -/
theorem outs_A (c : Dev nD) (t : Fin cfg2.N) (ht : t.val = 0) :
    (outsAt2 V c t.val t.isLt).2 = fun _ => k2_pay3 (F := Ideal) (xblk V c t) := by
  rw [outsAt2_A V c t (by omega) (by omega)]
  dsimp only
  rw [out_A_3]

theorem outs_B (c : Dev nD) (t : Fin cfg2.N) (n : ℕ) (ht : t.val = n + 1) (h' : n < cfg2.N) :
    (outsAt2 V c t.val t.isLt).2 = fun _ => k2_pay4 (F := Ideal) (xblk V c t) ((outsAt2 V c n h').2 one11) := by
  have hN : cfg2.N = 8 := N_2
  have := t.isLt
  obtain rfl : n = t.val - 1 := by omega
  rw [outsAt2_B V c t (by omega) (by omega)]
  dsimp only
  rw [out_B_3]

theorem pay4_eq (x : Vec Ideal S512x2176 .bf16) (a : EReal) : (k2_pay4 (F := Ideal) x a : EReal) = max a (k2_pay3 (F := Ideal) x) := rfl

/-- The amax after point `n`. -/
def am (c : Dev nD) (n : ℕ) (h : n < cfg2.N) : EReal := (outsAt2 V c n h).2 one11

theorem outs_amax (c : Dev nD) (u : EReal) (n : ℕ) (h : n < cfg2.N) :
    am V c n h ≤ u ↔ ∀ t : Fin cfg2.N, t.val ≤ n → ∀ y, FloatOps.absf (F := Ideal) (φ := .bf16) (xblk V c t y) ≤ u := by
  refine runningMax_le (fun t y => FloatOps.absf (F := Ideal) (φ := .bf16) (xblk V c t y)) (fun t => k2_pay3 (F := Ideal) (xblk V c t))
    (am V c) (fun t u => pay3_le _ u) (fun h => ?_) (fun n h h' => ?_) u n h
  · exact congrFun (outs_A V c ⟨0, h⟩ rfl) one11
  · exact (congrFun (outs_B V c ⟨n + 1, h⟩ n rfl h') one11).trans (pay4_eq _ _)

/-- The last point. -/
abbrev last : Fin cfg2.N := ⟨7, by rw [show cfg2.N = 8 from N_2]; decide⟩

theorem flushed_amax (c : Dev nD) (t : Fin cfg2.N) (hf : (cfg2.win 3).flush t = true) :
    (dat2 V c).flushed 3 t = (win2_3.blk t).view.read (Elt Ideal) ((outsAt2 V c last.val last.isLt).2 : Vec Ideal S1x1 .f32) := by
  have hN : cfg2.N = 8 := N_2
  obtain rfl : t = last := Fin.ext (by have := (flush2_3 t).mp hf; have := t.isLt; dsimp only; omega)
  show (cfg2.win 3).cut (grid2.coords last) ((dat2 V c).after 3 last) = _
  rw [after2_3]
  funext y
  exact congrArg (outsAt2 V c last.val last.isLt).2 ((idx11 _).trans (idx11 _).symm)

theorem idx_facts3 : ∀ t : Fin grid2.N, win2_3.index t 0 * win2_3.size 0 = 0 ∧ win2_3.xsize (grid2.coords t) 0 = 1
    ∧ win2_3.index t 1 * win2_3.size 1 = 0 ∧ win2_3.xsize (grid2.coords t) 1 = 1 := by decide +kernel

theorem final_amax_eq (c : Dev nD) : (dat2 V c).arrAt 3 cfg2.N = ((outsAt2 V c last.val last.isLt).2 : Vec Ideal S1x1 .f32) :=
  (dat2 V c).arrAt_eq_of_cover 3 _ (flushed_amax V c) fun i => ⟨last, (flush2_3 last).mpr rfl, by
    show i ∈ ((View.whole main_v7_1).slice (win2_3.rect last)).set
    rw [View.set_slice_whole, Rect.mem_set_unit]
    have e := idx_facts3 last
    have h0 : (i 0 : Nat) < 1 := (i 0).isLt
    have h1 : (i 1 : Nat) < 1 := (i 1).isLt
    intro a
    match a with
    | ⟨0, _⟩ => show win2_3.index _ 0 * win2_3.size 0 ≤ (i 0 : Nat) ∧ (i 0 : Nat) < win2_3.index _ 0 * win2_3.size 0 + win2_3.xsize (grid2.coords _) 0
                rw [e.1, e.2.1]; omega
    | ⟨1, _⟩ => show win2_3.index _ 1 * win2_3.size 1 ≤ (i 1 : Nat) ∧ (i 1 : Nat) < win2_3.index _ 1 * win2_3.size 1 + win2_3.xsize (grid2.coords _) 1
                rw [e.2.2.1, e.2.2.2]; omega⟩

theorem final_amax_am (c : Dev nD) : (show EReal from ((dat2 V c).arrAt 3 cfg2.N : Vec Ideal S1x1 .f32) one11) = am V c last.val last.isLt := by
  rw [final_amax_eq]
  rfl

/-- The amax array, by its upper bounds: the least one is the greatest magnitude of the whole operand. -/
theorem final_amax_le (c : Dev nD) (u : EReal) :
    (show EReal from ((dat2 V c).arrAt 3 cfg2.N : Vec Ideal S1x1 .f32) one11) ≤ u
      ↔ ∀ i, FloatOps.absf (F := Ideal) (φ := .bf16) ((V c main_v5 : Vec Ideal S4096x2176 .bf16) i) ≤ u := by
  rw [final_amax_am]
  refine (outs_amax V c u _ _).trans ?_
  rw [← forall_blocks V c (fun a => FloatOps.absf (F := Ideal) (φ := .bf16) a ≤ u)]
  have hN : cfg2.N = 8 := N_2
  exact ⟨fun H t y => H t (by have := t.isLt; dsimp only; omega) y, fun H t _ y => H t y⟩

end Cert.KernelIdeal.Region2Value

end
-- ==== Proof.Value.FwdDx.lean ====
/-
  What the forward and input-gradient call (16 blocks of 256 rows) leaves in its two results over the extended reals,
  whatever its operands hold when it starts: each entry is the product over the whole contracted axis of two codes' arrays,
  times its scale product. The results' rows are stored as (512, 8); row `r` is entry `(r / 8, r % 8)`.
-/
module

public import proofs.«01_k».proof.Proof.KernelIdealRun.Region3
public import proofs.«01_k».proof.Proof.Value.Math

@[expose] public section

set_option maxRecDepth 16384

noncomputable section

namespace Cert.KernelIdeal.Region3Value

open Idealize.ShloMosaic Idealize.ShloMosaic.TcCoe Idealize.SL.Sem
open Idealize.ShloMosaic.Pipeline (Dat)
open Idealize.ShloMosaic.ValueIdx
open Cert.KernelIdeal Cert.KernelIdeal.Gen Cert.Proof.Math
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

section Out
variable {F : FTy → Type} [FloatOps F]

/-- The first and the second of the scale products, as the body loads them. -/
theorem ld13_0 (x : Vec F S1x3 .f32) (h) (h') :
    View.ld x (Rect.unit (s := S1x3) ![0, 0] ![1, 1] h) (Shape.Idx.first h') = x (ix2 0 0) :=
  congrArg x (funext fun a => Fin.ext (by
    match a with
    | ⟨0, _⟩ => rfl
    | ⟨1, _⟩ => rfl))
theorem ld13_1 (x : Vec F S1x3 .f32) (h) (h') :
    View.ld x (Rect.unit (s := S1x3) ![0, 1] ![1, 1] h) (Shape.Idx.first h') = x (ix2 0 1) :=
  congrArg x (funext fun a => Fin.ext (by
    match a with
    | ⟨0, _⟩ => rfl
    | ⟨1, _⟩ => rfl))

theorem out_4 (c : Dev nD) (i : grid3.Coords) (a1 : Memref sig .tc .smem S1x3 .f32) (h1 : a1.IsWhole)
    (a2 : Memref sig .tc .vmem S256x7040 .fp8e4m3) (h2 : a2.IsWhole) (a3 : Memref sig .tc .vmem S256x2176 .fp8e5m2) (h3 : a3.IsWhole)
    (a4 : Memref sig .tc .vmem S7040x2176 .fp8e4m3) (h4 : a4.IsWhole) (a5 : Memref sig .tc .vmem S32x8x2176 .bf16) (h5 : a5.IsWhole)
    (a6 : Memref sig .tc .vmem S32x8x7040 .bf16) (h6 : a6.IsWhole)
    (x0 : Vec F S1x3 .f32) (x1 : Vec F S256x7040 .fp8e4m3) (x2 : Vec F S256x2176 .fp8e5m2) (x3 : Vec F S7040x2176 .fp8e4m3) :
    out3_A_4 c i a1 h1 a2 h2 a3 h3 a4 h4 a5 h5 a6 h6 x0 x1 x2 x3 = k3_pay2 x3 x1 (x0 (ix2 0 0)) := by
  unfold out3_A_4
  rw [View.read_writes_eq_canon _ _ _ (cover3_A_4 c i a1 h1 a2 h2 a3 h3 a4 h4 a5 h5 a6 h6 x0 x1 x2 x3)]
  unfold kernelRun3_A
  dsimp only
  sl_unfold_words
  rw [View.canon_unit_zero hz3]
  simp only [View.readAt_eq_ld, h1.read_unread, h2.read_unread, h3.read_unread, h4.read_unread, View.ld_unit_zero (S := S256x7040) hz,
    View.ld_unit_zero (S := S256x2176) hz, View.ld_unit_zero (S := S7040x2176) hz]
  exact congrArg (k3_pay2 x3 x1) (ld13_0 x0 _ _)

theorem out_5 (c : Dev nD) (i : grid3.Coords) (a1 : Memref sig .tc .smem S1x3 .f32) (h1 : a1.IsWhole)
    (a2 : Memref sig .tc .vmem S256x7040 .fp8e4m3) (h2 : a2.IsWhole) (a3 : Memref sig .tc .vmem S256x2176 .fp8e5m2) (h3 : a3.IsWhole)
    (a4 : Memref sig .tc .vmem S7040x2176 .fp8e4m3) (h4 : a4.IsWhole) (a5 : Memref sig .tc .vmem S32x8x2176 .bf16) (h5 : a5.IsWhole)
    (a6 : Memref sig .tc .vmem S32x8x7040 .bf16) (h6 : a6.IsWhole)
    (x0 : Vec F S1x3 .f32) (x1 : Vec F S256x7040 .fp8e4m3) (x2 : Vec F S256x2176 .fp8e5m2) (x3 : Vec F S7040x2176 .fp8e4m3) :
    out3_A_5 c i a1 h1 a2 h2 a3 h3 a4 h4 a5 h5 a6 h6 x0 x1 x2 x3 = k3_pay3 x3 x2 (x0 (ix2 0 1)) := by
  unfold out3_A_5
  rw [View.read_writes_eq_canon _ _ _ (cover3_A_5 c i a1 h1 a2 h2 a3 h3 a4 h4 a5 h5 a6 h6 x0 x1 x2 x3)]
  unfold kernelRun3_A
  dsimp only
  sl_unfold_words
  rw [View.canon_unit_zero hz3]
  simp only [View.readAt_eq_ld, h1.read_unread, h2.read_unread, h3.read_unread, h4.read_unread, View.ld_unit_zero (S := S256x7040) hz,
    View.ld_unit_zero (S := S256x2176) hz, View.ld_unit_zero (S := S7040x2176) hz]
  exact congrArg (k3_pay3 x3 x2) (ld13_1 x0 _ _)

end Out

/-- The row of a block behind an index of its stored form. -/
theorem row_lt {C : ℕ} (y : (⟨3, ![32, 8, C]⟩ : Shape).Idx) : (y 0).val * 8 + (y 1).val < 256 := by
  have h0 : (y 0).val < 32 := (y 0).isLt
  have h1 : (y 1).val < 8 := (y 1).isLt
  omega

/-- The forward payload at an index. -/
theorem pay2_apply (w : Vec Ideal S7040x2176 .fp8e4m3) (x : Vec Ideal S256x7040 .fp8e4m3) (s : Elt Ideal .f32) (y : S32x8x2176.Idx) :
    (k3_pay2 (F := Ideal) w x s y : EReal)
      = (∑ k : Fin 7040, (x (ix2 ⟨(y 0).val * 8 + (y 1).val, row_lt y⟩ k) : EReal) * w (ix2 k (y 2))) * s := by
  unfold k3_pay2 k3_pay1
  simp only [shapeCast_self]
  refine (shapeCast_rows (mulf (F := Ideal) (φ := .f32) (matmul dot_S256x7040_S7040x2176_S256x2176_1_0_0_1_n_n none x w (constant S256x2176 .f32 0#32))
    (broadcast S256x2176 s)) shapeCasts_S256x2176_S32x8x2176 y (row_lt y)).trans ?_
  exact congrArg (fun a : EReal => a * s) (matmul_nn _ x w _)

/-- The input gradient's payload at an index. -/
theorem pay3_apply (w : Vec Ideal S7040x2176 .fp8e4m3) (d : Vec Ideal S256x2176 .fp8e5m2) (s : Elt Ideal .f32) (y : S32x8x7040.Idx) :
    (k3_pay3 (F := Ideal) w d s y : EReal)
      = (∑ k : Fin 2176, (d (ix2 ⟨(y 0).val * 8 + (y 1).val, row_lt y⟩ k) : EReal) * w (ix2 (y 2) k)) * s := by
  unfold k3_pay3 k3_pay1
  simp only [shapeCast_self]
  refine (shapeCast_rows (mulf (F := Ideal) (φ := .f32) (matmul dot_S256x2176_S7040x2176_S256x7040_1_1_0_0_n_n none d w (constant S256x7040 .f32 0#32))
    (broadcast S256x7040 s)) shapeCasts_S256x7040_S32x8x7040 y (row_lt y)).trans ?_
  exact congrArg (fun a : EReal => a * s) (matmul_nt _ d w _)

variable (V : (c : Dev nD) → (b : Ref sig .tc) → Buf (Elt Ideal) ((c : Thread nD τ).loc b))

abbrev xq (c : Dev nD) : Vec Ideal S4096x7040 .fp8e4m3 := V c main_v2_0
abbrev dyq (c : Dev nD) : Vec Ideal S4096x2176 .fp8e5m2 := V c main_v7_0
abbrev wq (c : Dev nD) : Vec Ideal S7040x2176 .fp8e4m3 := V c main_v4_0
abbrev sc (c : Dev nD) : Vec Ideal S1x3 .f32 := V c main_v15

/-- The forward product and the input's gradient over the extended reals. -/
abbrev y2 (c : Dev nD) : Vec Ideal S4096x2176 .bf16 := fun i =>
  ((∑ k : Fin 7040, (xq V c (ix2 (i 0) k) : EReal) * wq V c (ix2 k (i 1))) * sc V c (ix2 0 0) : EReal)
abbrev dx2 (c : Dev nD) : Vec Ideal S4096x7040 .bf16 := fun i =>
  ((∑ k : Fin 2176, (dyq V c (ix2 (i 0) k) : EReal) * wq V c (ix2 (i 1) k)) * sc V c (ix2 0 1) : EReal)

theorem row3_lt {C : ℕ} (i : (⟨3, ![512, 8, C]⟩ : Shape).Idx) : (i 0).val * 8 + (i 1).val < 4096 := by
  have h0 : (i 0).val < 512 := (i 0).isLt
  have h1 : (i 1).val < 8 := (i 1).isLt
  omega

/-- The same with the rows on two axes, as the call's results hold them. -/
abbrev y3 (c : Dev nD) : Vec Ideal S512x8x2176 .bf16 := fun i => y2 V c (ix2 ⟨(i 0).val * 8 + (i 1).val, row3_lt i⟩ (i 2))
abbrev dx3 (c : Dev nD) : Vec Ideal S512x8x7040 .bf16 := fun i => dx2 V c (ix2 ⟨(i 0).val * 8 + (i 1).val, row3_lt i⟩ (i 2))

theorem ixt : ∀ t : Fin grid3.N, win3_0.index t 0 * 1 = 0 ∧ win3_0.index t 1 * 3 = 0
    ∧ win3_1.index t 0 * 256 = t.val * 256 ∧ win3_1.index t 1 * 7040 = 0
    ∧ win3_2.index t 0 * 256 = t.val * 256 ∧ win3_2.index t 1 * 2176 = 0
    ∧ win3_3.index t 0 * 7040 = 0 ∧ win3_3.index t 1 * 2176 = 0 := by decide +kernel
theorem ixo : ∀ t : Fin grid3.N, win3_4.index t 0 * 32 = t.val * 32 ∧ win3_4.index t 1 * 8 = 0 ∧ win3_4.index t 2 * 2176 = 0
    ∧ win3_5.index t 0 * 32 = t.val * 32 ∧ win3_5.index t 1 * 8 = 0 ∧ win3_5.index t 2 * 7040 = 0 := by decide +kernel

/-- The row at row `r` of block `t`. -/
abbrev row (t : Fin cfg3.N) (r : Fin 256) : Fin 4096 :=
  ⟨t.val * 256 + r.val, by have hN : cfg3.N = 16 := N_3; have := t.isLt; omega⟩

theorem blk0_apply (c : Dev nD) (t : Fin cfg3.N) (q : Fin 3) : (iblk3 V c 0 t : Vec Ideal S1x3 .f32) (ix2 0 q) = sc V c (ix2 0 q) := by
  have e := ixt t
  unfold iblk3
  rw [View.read_apply]
  refine congrArg (sc V c) (funext fun a => Fin.ext ?_)
  match a with
  | ⟨0, _⟩ => show win3_0.index t 0 * 1 + 1 * 0 = 0; omega
  | ⟨1, _⟩ => show win3_0.index t 1 * 3 + 1 * q.val = q.val; omega

theorem blk1_apply (c : Dev nD) (t : Fin cfg3.N) (r : Fin 256) (k : Fin 7040) :
    (iblk3 V c 1 t : Vec Ideal S256x7040 .fp8e4m3) (ix2 r k) = xq V c (ix2 (row t r) k) := by
  have e := ixt t
  unfold iblk3
  rw [View.read_apply]
  refine congrArg (xq V c) (funext fun a => Fin.ext ?_)
  match a with
  | ⟨0, _⟩ => show win3_1.index t 0 * 256 + 1 * r.val = t.val * 256 + r.val; omega
  | ⟨1, _⟩ => show win3_1.index t 1 * 7040 + 1 * k.val = k.val; omega

theorem blk2_apply (c : Dev nD) (t : Fin cfg3.N) (r : Fin 256) (k : Fin 2176) :
    (iblk3 V c 2 t : Vec Ideal S256x2176 .fp8e5m2) (ix2 r k) = dyq V c (ix2 (row t r) k) := by
  have e := ixt t
  unfold iblk3
  rw [View.read_apply]
  refine congrArg (dyq V c) (funext fun a => Fin.ext ?_)
  match a with
  | ⟨0, _⟩ => show win3_2.index t 0 * 256 + 1 * r.val = t.val * 256 + r.val; omega
  | ⟨1, _⟩ => show win3_2.index t 1 * 2176 + 1 * k.val = k.val; omega

theorem blk3_apply (c : Dev nD) (t : Fin cfg3.N) (k : Fin 7040) (n : Fin 2176) :
    (iblk3 V c 3 t : Vec Ideal S7040x2176 .fp8e4m3) (ix2 k n) = wq V c (ix2 k n) := by
  have e := ixt t
  unfold iblk3
  rw [View.read_apply]
  refine congrArg (wq V c) (funext fun a => Fin.ext ?_)
  match a with
  | ⟨0, _⟩ => show win3_3.index t 0 * 7040 + 1 * k.val = k.val; omega
  | ⟨1, _⟩ => show win3_3.index t 1 * 2176 + 1 * n.val = n.val; omega

/-- The first coordinate of the stored form at `a` of block `t`. -/
abbrev row8 (t : Fin cfg3.N) (a : Fin 32) : Fin 512 :=
  ⟨t.val * 32 + a.val, by have hN : cfg3.N = 16 := N_3; have := t.isLt; omega⟩

theorem row_eq (t : Fin cfg3.N) (a : Fin 32) (b : Fin 8) (h) (h') :
    row t ⟨a.val * 8 + b.val, h⟩ = ⟨(row8 t a).val * 8 + b.val, h'⟩ :=
  Fin.ext (by show t.val * 256 + (a.val * 8 + b.val) = (t.val * 32 + a.val) * 8 + b.val; omega)

theorem emb4 (t : Fin cfg3.N) (y : S32x8x2176.Idx) :
    ((win3_4.blk t).view.emb y : S512x8x2176.Idx) = ix3 (row8 t (y 0)) (y 1) (y 2) := by
  have e := ixo t
  funext a
  apply Fin.ext
  match a with
  | ⟨0, _⟩ => show win3_4.index t 0 * 32 + 1 * (y 0).val = t.val * 32 + (y 0).val; omega
  | ⟨1, _⟩ => show win3_4.index t 1 * 8 + 1 * (y 1).val = (y 1).val; omega
  | ⟨2, _⟩ => show win3_4.index t 2 * 2176 + 1 * (y 2).val = (y 2).val; omega

theorem outs_y (c : Dev nD) (t : Fin cfg3.N) (y : S32x8x2176.Idx) :
    (outsAt3 V c t).1 y = y3 V c (ix3 (row8 t (y 0)) (y 1) (y 2)) := by
  unfold outsAt3
  dsimp only
  rw [out_4, pay2_apply, blk0_apply]
  refine congrArg (fun a : EReal => a * sc V c (ix2 0 0)) (Finset.sum_congr rfl fun k _ =>
    congrArg₂ (fun a b : EReal => a * b)
      ((blk1_apply V c t _ k).trans (congrArg (fun r => xq V c (ix2 r k)) (row_eq t (y 0) (y 1) _ _))) (blk3_apply V c t k (y 2)))

theorem flushed_y (c : Dev nD) (t : Fin cfg3.N) :
    (dat3 V c).flushed 4 t = (win3_4.blk t).view.read (Elt Ideal) (y3 V c) := by
  show (cfg3.win 4).cut (grid3.coords t) ((dat3 V c).after 4 t) = _
  rw [after3_4]
  funext y
  rw [View.read_apply]
  refine (outs_y V c t y).trans ?_
  rw [emb4]
  rfl

theorem idx_facts4 : ∀ t : Fin grid3.N, win3_4.index t 0 * win3_4.size 0 = t.val * 32 ∧ win3_4.xsize (grid3.coords t) 0 = 32
    ∧ win3_4.index t 1 * win3_4.size 1 = 0 ∧ win3_4.xsize (grid3.coords t) 1 = 8
    ∧ win3_4.index t 2 * win3_4.size 2 = 0 ∧ win3_4.xsize (grid3.coords t) 2 = 2176 := by decide +kernel

/-- The point whose block has a row. -/
abbrev pt4 (i : S512x8x2176.Idx) : Fin cfg3.N :=
  ⟨(i 0 : Nat) / 32, by have h0 : (i 0 : Nat) < 512 := (i 0).isLt; have hN : cfg3.N = 16 := N_3; omega⟩

/-- The result's array after the call. -/
theorem final_y (c : Dev nD) : (dat3 V c).arrAt 4 cfg3.N = y3 V c :=
  (dat3 V c).arrAt_eq_of_cover 4 (y3 V c) (fun t _ => flushed_y V c t) fun i =>
    ⟨pt4 i, flush3_4 (pt4 i), by
    have h0 : (i 0 : Nat) < 512 := (i 0).isLt
    have h1 : (i 1 : Nat) < 8 := (i 1).isLt
    have h2 : (i 2 : Nat) < 2176 := (i 2).isLt
    show i ∈ ((View.whole main_v16_0).slice (win3_4.rect (pt4 i))).set
    rw [View.set_slice_whole, Rect.mem_set_unit]
    intro a
    have e := idx_facts4 (pt4 i)
    match a with
    | ⟨0, _⟩ => show win3_4.index _ 0 * win3_4.size 0 ≤ (i 0 : Nat) ∧ (i 0 : Nat) < win3_4.index _ 0 * win3_4.size 0 + win3_4.xsize (grid3.coords _) 0
                have d : (pt4 i).val = (i 0 : Nat) / 32 := rfl
                rw [e.1, e.2.1]; omega
    | ⟨1, _⟩ => show win3_4.index _ 1 * win3_4.size 1 ≤ (i 1 : Nat) ∧ (i 1 : Nat) < win3_4.index _ 1 * win3_4.size 1 + win3_4.xsize (grid3.coords _) 1
                rw [e.2.2.1, e.2.2.2.1]; omega
    | ⟨2, _⟩ => show win3_4.index _ 2 * win3_4.size 2 ≤ (i 2 : Nat) ∧ (i 2 : Nat) < win3_4.index _ 2 * win3_4.size 2 + win3_4.xsize (grid3.coords _) 2
                rw [e.2.2.2.2.1, e.2.2.2.2.2]; omega⟩

theorem emb5 (t : Fin cfg3.N) (y : S32x8x7040.Idx) :
    ((win3_5.blk t).view.emb y : S512x8x7040.Idx) = ix3 (row8 t (y 0)) (y 1) (y 2) := by
  have e := ixo t
  funext a
  apply Fin.ext
  match a with
  | ⟨0, _⟩ => show win3_5.index t 0 * 32 + 1 * (y 0).val = t.val * 32 + (y 0).val; omega
  | ⟨1, _⟩ => show win3_5.index t 1 * 8 + 1 * (y 1).val = (y 1).val; omega
  | ⟨2, _⟩ => show win3_5.index t 2 * 7040 + 1 * (y 2).val = (y 2).val; omega

theorem outs_dx (c : Dev nD) (t : Fin cfg3.N) (y : S32x8x7040.Idx) :
    (outsAt3 V c t).2 y = dx3 V c (ix3 (row8 t (y 0)) (y 1) (y 2)) := by
  unfold outsAt3
  dsimp only
  rw [out_5, pay3_apply, blk0_apply]
  refine congrArg (fun a : EReal => a * sc V c (ix2 0 1)) (Finset.sum_congr rfl fun k _ =>
    congrArg₂ (fun a b : EReal => a * b)
      ((blk2_apply V c t _ k).trans (congrArg (fun r => dyq V c (ix2 r k)) (row_eq t (y 0) (y 1) _ _))) (blk3_apply V c t (y 2) k))

theorem flushed_dx (c : Dev nD) (t : Fin cfg3.N) :
    (dat3 V c).flushed 5 t = (win3_5.blk t).view.read (Elt Ideal) (dx3 V c) := by
  show (cfg3.win 5).cut (grid3.coords t) ((dat3 V c).after 5 t) = _
  rw [after3_5]
  funext y
  rw [View.read_apply]
  refine (outs_dx V c t y).trans ?_
  rw [emb5]
  rfl

theorem idx_facts5 : ∀ t : Fin grid3.N, win3_5.index t 0 * win3_5.size 0 = t.val * 32 ∧ win3_5.xsize (grid3.coords t) 0 = 32
    ∧ win3_5.index t 1 * win3_5.size 1 = 0 ∧ win3_5.xsize (grid3.coords t) 1 = 8
    ∧ win3_5.index t 2 * win3_5.size 2 = 0 ∧ win3_5.xsize (grid3.coords t) 2 = 7040 := by decide +kernel

/-- The point whose block has a row. -/
abbrev pt5 (i : S512x8x7040.Idx) : Fin cfg3.N :=
  ⟨(i 0 : Nat) / 32, by have h0 : (i 0 : Nat) < 512 := (i 0).isLt; have hN : cfg3.N = 16 := N_3; omega⟩

/-- The result's array after the call. -/
theorem final_dx (c : Dev nD) : (dat3 V c).arrAt 5 cfg3.N = dx3 V c :=
  (dat3 V c).arrAt_eq_of_cover 5 (dx3 V c) (fun t _ => flushed_dx V c t) fun i =>
    ⟨pt5 i, flush3_5 (pt5 i), by
    have h0 : (i 0 : Nat) < 512 := (i 0).isLt
    have h1 : (i 1 : Nat) < 8 := (i 1).isLt
    have h2 : (i 2 : Nat) < 7040 := (i 2).isLt
    show i ∈ ((View.whole main_v16_1).slice (win3_5.rect (pt5 i))).set
    rw [View.set_slice_whole, Rect.mem_set_unit]
    intro a
    have e := idx_facts5 (pt5 i)
    match a with
    | ⟨0, _⟩ => show win3_5.index _ 0 * win3_5.size 0 ≤ (i 0 : Nat) ∧ (i 0 : Nat) < win3_5.index _ 0 * win3_5.size 0 + win3_5.xsize (grid3.coords _) 0
                have d : (pt5 i).val = (i 0 : Nat) / 32 := rfl
                rw [e.1, e.2.1]; omega
    | ⟨1, _⟩ => show win3_5.index _ 1 * win3_5.size 1 ≤ (i 1 : Nat) ∧ (i 1 : Nat) < win3_5.index _ 1 * win3_5.size 1 + win3_5.xsize (grid3.coords _) 1
                rw [e.2.2.1, e.2.2.2.1]; omega
    | ⟨2, _⟩ => show win3_5.index _ 2 * win3_5.size 2 ≤ (i 2 : Nat) ∧ (i 2 : Nat) < win3_5.index _ 2 * win3_5.size 2 + win3_5.xsize (grid3.coords _) 2
                rw [e.2.2.2.2.1, e.2.2.2.2.2]; omega⟩

end Cert.KernelIdeal.Region3Value

end
-- ==== Proof.Value.Dw.lean ====
/-
  What the weight-gradient call (11 blocks of 640 columns of the activations' codes) leaves in its result over the extended
  reals, whatever its operands hold when it starts: entry `(d, n)` is the product over all the rows of the two codes' arrays,
  times the third of the three scale products. Each grid point has its whole contraction, so only the blocks' places matter.
-/
module

public import proofs.«01_k».proof.Proof.KernelIdealRun.Region4
public import proofs.«01_k».proof.Proof.Value.Math

@[expose] public section

set_option maxRecDepth 16384

noncomputable section

namespace Cert.KernelIdeal.Region4Value

open Idealize.ShloMosaic Idealize.ShloMosaic.TcCoe Idealize.SL.Sem
open Idealize.ShloMosaic.Pipeline (Dat)
open Idealize.ShloMosaic.ValueIdx
open Cert.KernelIdeal Cert.KernelIdeal.Gen Cert.Proof.Math
open scoped BigOperators

theorem hz : (![0, 0] : Fin 2 → Nat) = fun _ => 0 := funext fun a => by fin_cases a <;> rfl

section Out
variable {F : FTy → Type} [FloatOps F]

/-- The third of the scale products, as the body loads it. -/
theorem ld13 (x : Vec F S1x3 .f32) (h) (h') :
    View.ld x (Rect.unit (s := S1x3) ![0, 2] ![1, 1] h) (Shape.Idx.first h') = x (ix2 0 2) :=
  congrArg x (funext fun a => Fin.ext (by
    match a with
    | ⟨0, _⟩ => rfl
    | ⟨1, _⟩ => rfl))

theorem out_3 (c : Dev nD) (i : grid4.Coords) (a1 : Memref sig .tc .smem S1x3 .f32) (h1 : a1.IsWhole)
    (a2 : Memref sig .tc .vmem S4096x640 .fp8e4m3) (h2 : a2.IsWhole) (a3 : Memref sig .tc .vmem S4096x2176 .fp8e5m2) (h3 : a3.IsWhole)
    (a4 : Memref sig .tc .vmem S640x2176 .f32) (h4 : a4.IsWhole) (x0 : Vec F S1x3 .f32) (x1 : Vec F S4096x640 .fp8e4m3)
    (x2 : Vec F S4096x2176 .fp8e5m2) :
    out4_A_3 c i a1 h1 a2 h2 a3 h3 a4 h4 x0 x1 x2 = k4_pay1 x1 x2 (x0 (ix2 0 2)) := by
  unfold out4_A_3
  rw [View.read_writes_eq_canon _ _ _ (cover4_A_3 c i a1 h1 a2 h2 a3 h3 a4 h4 x0 x1 x2)]
  unfold kernelRun4_A
  dsimp only
  sl_unfold_words
  rw [View.canon_unit_zero hz]
  simp only [View.readAt_eq_ld, h1.read_unread, h2.read_unread, h3.read_unread, View.ld_unit_zero (S := S4096x640) hz,
    View.ld_unit_zero (S := S4096x2176) hz]
  exact congrArg (k4_pay1 x1 x2) (ld13 x0 _ _)

end Out

/-- The payload at an index. -/
theorem pay1_apply (x : Vec Ideal S4096x640 .fp8e4m3) (d : Vec Ideal S4096x2176 .fp8e5m2) (s : Elt Ideal .f32) (y : S640x2176.Idx) :
    (k4_pay1 (F := Ideal) x d s y : EReal) = (∑ k : Fin 4096, (x (ix2 k (y 0)) : EReal) * d (ix2 k (y 1))) * s := by
  unfold k4_pay1
  simp only [shapeCast_self]
  exact congrArg (fun a : EReal => a * s) (matmul_tn _ x d y)

variable (V : (c : Dev nD) → (b : Ref sig .tc) → Buf (Elt Ideal) ((c : Thread nD τ).loc b))

abbrev xq (c : Dev nD) : Vec Ideal S4096x7040 .fp8e4m3 := V c main_v2_0
abbrev dyq (c : Dev nD) : Vec Ideal S4096x2176 .fp8e5m2 := V c main_v7_0
abbrev sc (c : Dev nD) : Vec Ideal S1x3 .f32 := V c main_v15

/-- The weights' gradient over the extended reals. -/
abbrev dw (c : Dev nD) : Vec Ideal S7040x2176 .f32 := fun i =>
  ((∑ k : Fin 4096, (xq V c (ix2 k (i 0)) : EReal) * dyq V c (ix2 k (i 1))) * sc V c (ix2 0 2) : EReal)

theorem ixt : ∀ t : Fin grid4.N, win4_0.index t 0 * 1 = 0 ∧ win4_0.index t 1 * 3 = 0
    ∧ win4_1.index t 0 * 4096 = 0 ∧ win4_1.index t 1 * 640 = t.val * 640
    ∧ win4_2.index t 0 * 4096 = 0 ∧ win4_2.index t 1 * 2176 = 0
    ∧ win4_3.index t 0 * 640 = t.val * 640 ∧ win4_3.index t 1 * 2176 = 0 := by decide +kernel

/-- The row of the result at row `r` of block `t`. -/
abbrev row (t : Fin cfg4.N) (r : Fin 640) : Fin 7040 :=
  ⟨t.val * 640 + r.val, by have hN : cfg4.N = 11 := N_4; have := t.isLt; omega⟩

theorem emb3 (t : Fin cfg4.N) (y : S640x2176.Idx) : ((win4_3.blk t).view.emb y : S7040x2176.Idx) = ix2 (row t (y 0)) (y 1) := by
  have e := ixt t
  funext a
  apply Fin.ext
  match a with
  | ⟨0, _⟩ => show win4_3.index t 0 * 640 + 1 * (y 0).val = t.val * 640 + (y 0).val; omega
  | ⟨1, _⟩ => show win4_3.index t 1 * 2176 + 1 * (y 1).val = (y 1).val; omega

theorem blk0_apply (c : Dev nD) (t : Fin cfg4.N) : (iblk4 V c 0 t : Vec Ideal S1x3 .f32) (ix2 0 2) = sc V c (ix2 0 2) := by
  have e := ixt t
  unfold iblk4
  rw [View.read_apply]
  refine congrArg (sc V c) (funext fun a => Fin.ext ?_)
  match a with
  | ⟨0, _⟩ => show win4_0.index t 0 * 1 + 1 * 0 = 0; omega
  | ⟨1, _⟩ => show win4_0.index t 1 * 3 + 1 * 2 = 2; omega

theorem blk1_apply (c : Dev nD) (t : Fin cfg4.N) (k : Fin 4096) (r : Fin 640) :
    (iblk4 V c 1 t : Vec Ideal S4096x640 .fp8e4m3) (ix2 k r) = xq V c (ix2 k (row t r)) := by
  have e := ixt t
  unfold iblk4
  rw [View.read_apply]
  refine congrArg (xq V c) (funext fun a => Fin.ext ?_)
  match a with
  | ⟨0, _⟩ => show win4_1.index t 0 * 4096 + 1 * k.val = k.val; omega
  | ⟨1, _⟩ => show win4_1.index t 1 * 640 + 1 * r.val = t.val * 640 + r.val; omega

theorem blk2_apply (c : Dev nD) (t : Fin cfg4.N) (k : Fin 4096) (n : Fin 2176) :
    (iblk4 V c 2 t : Vec Ideal S4096x2176 .fp8e5m2) (ix2 k n) = dyq V c (ix2 k n) := by
  have e := ixt t
  unfold iblk4
  rw [View.read_apply]
  refine congrArg (dyq V c) (funext fun a => Fin.ext ?_)
  match a with
  | ⟨0, _⟩ => show win4_2.index t 0 * 4096 + 1 * k.val = k.val; omega
  | ⟨1, _⟩ => show win4_2.index t 1 * 2176 + 1 * n.val = n.val; omega

theorem outs (c : Dev nD) (t : Fin cfg4.N) (y : S640x2176.Idx) : outsAt4 V c t y = dw V c (ix2 (row t (y 0)) (y 1)) := by
  unfold outsAt4
  rw [out_3, pay1_apply, blk0_apply]
  refine congrArg (fun a : EReal => a * sc V c (ix2 0 2)) (Finset.sum_congr rfl fun k _ =>
    congrArg₂ (fun a b : EReal => a * b) (blk1_apply V c t k (y 0)) (blk2_apply V c t k (y 1)))

theorem flushed (c : Dev nD) (t : Fin cfg4.N) :
    (dat4 V c).flushed 3 t = (win4_3.blk t).view.read (Elt Ideal) (dw V c) := by
  show (cfg4.win 3).cut (grid4.coords t) ((dat4 V c).after 3 t) = _
  rw [after4_3]
  funext y
  rw [View.read_apply]
  refine (outs V c t y).trans ?_
  rw [emb3]
  rfl

theorem idx_facts : ∀ t : Fin grid4.N, win4_3.index t 0 * win4_3.size 0 = t.val * 640 ∧ win4_3.xsize (grid4.coords t) 0 = 640
    ∧ win4_3.index t 1 * win4_3.size 1 = 0 ∧ win4_3.xsize (grid4.coords t) 1 = 2176 := by decide +kernel

/-- The point whose block has a row. -/
abbrev pt (i : S7040x2176.Idx) : Fin cfg4.N :=
  ⟨(i 0 : Nat) / 640, by have h0 : (i 0 : Nat) < 7040 := (i 0).isLt; have hN : cfg4.N = 11 := N_4; omega⟩

/-- The result's array after the call. -/
theorem final (c : Dev nD) : (dat4 V c).arrAt 3 cfg4.N = dw V c :=
  (dat4 V c).arrAt_eq_of_cover 3 (dw V c) (fun t _ => flushed V c t) fun i =>
    ⟨pt i, flush4_3 (pt i), by
    have h0 : (i 0 : Nat) < 7040 := (i 0).isLt
    have h1 : (i 1 : Nat) < 2176 := (i 1).isLt
    show i ∈ ((View.whole main_v17).slice (win4_3.rect (pt i))).set
    rw [View.set_slice_whole, Rect.mem_set_unit]
    intro a
    have e := idx_facts (pt i)
    match a with
    | ⟨0, _⟩ => show win4_3.index _ 0 * win4_3.size 0 ≤ (i 0 : Nat) ∧ (i 0 : Nat) < win4_3.index _ 0 * win4_3.size 0 + win4_3.xsize (grid4.coords _) 0
                have d : (pt i).val = (i 0 : Nat) / 640 := rfl
                rw [e.1, e.2.1]; omega
    | ⟨1, _⟩ => show win4_3.index _ 1 * win4_3.size 1 ≤ (i 1 : Nat) ∧ (i 1 : Nat) < win4_3.index _ 1 * win4_3.size 1 + win4_3.xsize (grid4.coords _) 1
                rw [e.2.2.1, e.2.2.2]; omega⟩

end Cert.KernelIdeal.Region4Value

end
-- ==== Proof.Value.KernelReads.lean ====
/-
  What each stretch of the kernel's host operations leaves in the buffers read later, from any contents it starts with.
-/
module

public import proofs.«01_k».proof.Proof.Gen.KernelIdeal.Launch
public import Idealize.ShloMosaic.Lib.StableHlo.Run
public import Idealize.ShloMosaic.Lib.Pipeline.FrameSuffix

@[expose] public section

set_option maxRecDepth 16384

noncomputable section

namespace Cert.KernelIdeal.Reads

open Idealize.ShloMosaic Idealize.ShloMosaic.TcCoe Idealize.ShloMosaic.StableHlo
open Cert.KernelIdeal Cert.KernelIdeal.Gen

variable {F : FTy → Type} [FloatOps F]

set_option maxHeartbeats 2000000 in
theorem v0 (V0 : Valuation τ sig (Elt F)) :
    after hostOps0 V0 (Proc.devRef .tc main_v0) = shapeCast S4096x7040 (V0 (Proc.devRef .tc main_arg0)) shapeCasts_S2x2048x7040_S4096x7040 := by
  simp only [hostOps0]
  after_results <;> rfl

set_option maxHeartbeats 2000000 in
theorem v1 (V0 : Valuation τ sig (Elt F)) :
    after hostOps0 V0 (Proc.devRef .tc main_v1) = shapeCast S1x1 (V0 (Proc.devRef .tc main_arg9)) shapeCasts_S_S1x1 := by
  simp only [hostOps0]
  after_results <;> rfl

set_option maxHeartbeats 2000000 in
theorem v3 (V0 : Valuation τ sig (Elt F)) :
    after hostOps1 V0 (Proc.devRef .tc main_v3) = shapeCast S1x1 (V0 (Proc.devRef .tc main_arg10)) shapeCasts_S_S1x1 := by
  simp only [hostOps1]
  after_results <;> rfl

set_option maxHeartbeats 2000000 in
theorem v5 (V0 : Valuation τ sig (Elt F)) :
    after hostOps2 V0 (Proc.devRef .tc main_v5) = shapeCast S4096x2176 (V0 (Proc.devRef .tc main_arg2)) shapeCasts_S2x2048x2176_S4096x2176 := by
  simp only [hostOps2]
  after_results <;> rfl

set_option maxHeartbeats 2000000 in
theorem v6 (V0 : Valuation τ sig (Elt F)) :
    after hostOps2 V0 (Proc.devRef .tc main_v6) = shapeCast S1x1 (V0 (Proc.devRef .tc main_arg11)) shapeCasts_S_S1x1 := by
  simp only [hostOps2]
  after_results <;> rfl

set_option maxHeartbeats 2000000 in
theorem v15 (V0 : Valuation τ sig (Elt F)) :
    after hostOps3 V0 (Proc.devRef .tc main_v15) = shapeCast S1x3 (concatenate S3 0 [⟨S1, broadcastInDim S1 ![] bcast_S_S1 (mulf (F := F) (φ := .f32) (V0 (Proc.devRef .tc main_arg6)) (V0 (Proc.devRef .tc main_arg7)))⟩, ⟨S1, broadcastInDim S1 ![] bcast_S_S1 (mulf (F := F) (φ := .f32) (V0 (Proc.devRef .tc main_arg8)) (V0 (Proc.devRef .tc main_arg7)))⟩, ⟨S1, broadcastInDim S1 ![] bcast_S_S1 (mulf (F := F) (φ := .f32) (V0 (Proc.devRef .tc main_arg6)) (V0 (Proc.devRef .tc main_arg8)))⟩] concatenates_S1_S1_S1_S3_d0) shapeCasts_S3_S1x3 := by
  simp only [hostOps3]
  after_results <;> rfl

set_option maxHeartbeats 2000000 in
theorem v18 (V0 : Valuation τ sig (Elt F)) :
    after hostOps5 V0 (Proc.devRef .tc main_v18) = shapeCast S2x2048x2176 (V0 (Proc.devRef .tc main_v16_0)) shapeCasts_S512x8x2176_S2x2048x2176 := by
  simp only [hostOps5]
  after_results <;> rfl

set_option maxHeartbeats 2000000 in
theorem v19 (V0 : Valuation τ sig (Elt F)) :
    after hostOps5 V0 (Proc.devRef .tc main_v19) = shapeCast S2x2048x7040 (V0 (Proc.devRef .tc main_v16_1)) shapeCasts_S512x8x7040_S2x2048x7040 := by
  simp only [hostOps5]
  after_results <;> rfl

set_option maxHeartbeats 2000000 in
theorem v22 (V0 : Valuation τ sig (Elt F)) :
    after hostOps5 V0 (Proc.devRef .tc main_v22) = concatenate S16 0 [⟨S15, extractStridedSlice S15 ![1] (V0 (Proc.devRef .tc main_arg3)) slices_S16_S15_1⟩, ⟨S1, shapeCast S1 (V0 (Proc.devRef .tc main_v2_1)) shapeCasts_S1x1_S1⟩] concatenates_S15_S1_S16_d0 := by
  simp only [hostOps5]
  after_results <;> rfl

set_option maxHeartbeats 2000000 in
theorem v25 (V0 : Valuation τ sig (Elt F)) :
    after hostOps5 V0 (Proc.devRef .tc main_v25) = concatenate S16 0 [⟨S15, extractStridedSlice S15 ![1] (V0 (Proc.devRef .tc main_arg4)) slices_S16_S15_1⟩, ⟨S1, shapeCast S1 (V0 (Proc.devRef .tc main_v4_1)) shapeCasts_S1x1_S1⟩] concatenates_S15_S1_S16_d0 := by
  simp only [hostOps5]
  after_results <;> rfl

set_option maxHeartbeats 2000000 in
theorem v28 (V0 : Valuation τ sig (Elt F)) :
    after hostOps5 V0 (Proc.devRef .tc main_v28) = concatenate S16 0 [⟨S15, extractStridedSlice S15 ![1] (V0 (Proc.devRef .tc main_arg5)) slices_S16_S15_1⟩, ⟨S1, shapeCast S1 (V0 (Proc.devRef .tc main_v7_1)) shapeCasts_S1x1_S1⟩] concatenates_S15_S1_S16_d0 := by
  simp only [hostOps5]
  after_results <;> rfl

set_option maxHeartbeats 2000000 in
theorem v29 (V0 : Valuation τ sig (Elt F)) :
    after hostOps5 V0 (Proc.devRef .tc main_v29) = shapeCast S2x2048x7040 (V0 (Proc.devRef .tc main_v2_0)) shapeCasts_S4096x7040_S2x2048x7040 := by
  simp only [hostOps5]
  after_results <;> rfl

set_option maxHeartbeats 2000000 in
theorem v30 (V0 : Valuation τ sig (Elt F)) :
    after hostOps5 V0 (Proc.devRef .tc main_v30) = shapeCast S2x2048x2176 (V0 (Proc.devRef .tc main_v7_0)) shapeCasts_S4096x2176_S2x2048x2176 := by
  simp only [hostOps5]
  after_results <;> rfl

end Cert.KernelIdeal.Reads

end
-- ==== Proof.Value.KernelResult.lean ====
/-
  What the kernel's program leaves in its nine results, over the extended reals: the contents of each buffer the calls read and
  write, followed through the program from the arguments.
-/
module

public import proofs.«01_k».proof.Proof.KernelIdealRun.Launch
public import proofs.«01_k».proof.Proof.Value.Quant0
public import proofs.«01_k».proof.Proof.Value.Quant1
public import proofs.«01_k».proof.Proof.Value.Quant2
public import proofs.«01_k».proof.Proof.Value.FwdDx
public import proofs.«01_k».proof.Proof.Value.Dw
public import proofs.«01_k».proof.Proof.Value.KernelReads

@[expose] public section

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.Proof.Math

variable (m : (ℓ : Loc nD τ sig) → Buf (Elt Ideal) ℓ) (ρ : Dev nD → PrngReg) (c : Dev nD)

/-! ## What the quantising calls find and leave -/

theorem V1_v0 : V1 m ρ c main_v0 = shapeCast S4096x7040 (m ((c.tc : Thread nD τ).loc main_arg0)) shapeCasts_S2x2048x7040_S4096x7040 :=
  (Reads.v0 _).trans (by rw [W0_args m ρ c main_arg0 (by decide)])
theorem V1_v1 : V1 m ρ c main_v1 = shapeCast S1x1 (m ((c.tc : Thread nD τ).loc main_arg9)) shapeCasts_S_S1x1 :=
  (Reads.v1 _).trans (by rw [W0_args m ρ c main_arg9 (by decide)])
theorem V3_arg1 : V3 m ρ c main_arg1 = (m ((c.tc : Thread nD τ).loc main_arg1)) :=
  W3_args m ρ c main_arg1 (by decide)
theorem V3_v3 : V3 m ρ c main_v3 = shapeCast S1x1 (m ((c.tc : Thread nD τ).loc main_arg10)) shapeCasts_S_S1x1 :=
  (Reads.v3 _).trans (by rw [W2_args m ρ c main_arg10 (by decide)])
theorem V5_v5 : V5 m ρ c main_v5 = shapeCast S4096x2176 (m ((c.tc : Thread nD τ).loc main_arg2)) shapeCasts_S2x2048x2176_S4096x2176 :=
  (Reads.v5 _).trans (by rw [W4_args m ρ c main_arg2 (by decide)])
theorem V5_v6 : V5 m ρ c main_v6 = shapeCast S1x1 (m ((c.tc : Thread nD τ).loc main_arg11)) shapeCasts_S_S1x1 :=
  (Reads.v6 _).trans (by rw [W4_args m ρ c main_arg11 (by decide)])
theorem W2_codes : W2 m ρ c (Proc.devRef .tc main_v2_0) = Region0Value.codes (V1 m ρ) c :=
  (W2_arr m ρ c 2).trans (Region0Value.final_codes (V1 m ρ) c)
theorem W2_amax : W2 m ρ c (Proc.devRef .tc main_v2_1) = (dat0 (V1 m ρ) c).arrAt 3 cfg0.N :=
  W2_arr m ρ c 3
theorem W4_codes : W4 m ρ c (Proc.devRef .tc main_v4_0) = Region1Value.codes (V3 m ρ) c :=
  (W4_arr m ρ c 2).trans (Region1Value.final_codes (V3 m ρ) c)
theorem W4_amax : W4 m ρ c (Proc.devRef .tc main_v4_1) = (dat1 (V3 m ρ) c).arrAt 3 cfg1.N :=
  W4_arr m ρ c 3
theorem W6_codes : W6 m ρ c (Proc.devRef .tc main_v7_0) = Region2Value.codes (V5 m ρ) c :=
  (W6_arr m ρ c 2).trans (Region2Value.final_codes (V5 m ρ) c)
theorem W6_amax : W6 m ρ c (Proc.devRef .tc main_v7_1) = (dat2 (V5 m ρ) c).arrAt 3 cfg2.N :=
  W6_arr m ρ c 3

/-! ## What the two calls of products find and leave -/

theorem V7_codes0 : V7 m ρ c main_v2_0 = Region0Value.codes (V1 m ρ) c :=
  ((((((W7_of m ρ c main_v2_0 (by decide))).trans (W6_of m ρ c main_v2_0 (by decide))).trans (W5_of m ρ c main_v2_0 (by decide))).trans (W4_of m ρ c main_v2_0 (by decide))).trans (W3_of m ρ c main_v2_0 (by decide))).trans (W2_codes m ρ c)
theorem V7_codes1 : V7 m ρ c main_v4_0 = Region1Value.codes (V3 m ρ) c :=
  ((((W7_of m ρ c main_v4_0 (by decide))).trans (W6_of m ρ c main_v4_0 (by decide))).trans (W5_of m ρ c main_v4_0 (by decide))).trans (W4_codes m ρ c)
theorem V7_codes2 : V7 m ρ c main_v7_0 = Region2Value.codes (V5 m ρ) c :=
  ((W7_of m ρ c main_v7_0 (by decide))).trans (W6_codes m ρ c)
theorem V8_codes0 : V8 m ρ c main_v2_0 = Region0Value.codes (V1 m ρ) c :=
  (((((((W8_of m ρ c main_v2_0 (by decide))).trans (W7_of m ρ c main_v2_0 (by decide))).trans (W6_of m ρ c main_v2_0 (by decide))).trans (W5_of m ρ c main_v2_0 (by decide))).trans (W4_of m ρ c main_v2_0 (by decide))).trans (W3_of m ρ c main_v2_0 (by decide))).trans (W2_codes m ρ c)
theorem V8_codes1 : V8 m ρ c main_v4_0 = Region1Value.codes (V3 m ρ) c :=
  (((((W8_of m ρ c main_v4_0 (by decide))).trans (W7_of m ρ c main_v4_0 (by decide))).trans (W6_of m ρ c main_v4_0 (by decide))).trans (W5_of m ρ c main_v4_0 (by decide))).trans (W4_codes m ρ c)
theorem V8_codes2 : V8 m ρ c main_v7_0 = Region2Value.codes (V5 m ρ) c :=
  (((W8_of m ρ c main_v7_0 (by decide))).trans (W7_of m ρ c main_v7_0 (by decide))).trans (W6_codes m ρ c)
theorem V7_v15 : V7 m ρ c main_v15 = shapeCast S1x3 (concatenate S3 0 [⟨S1, broadcastInDim S1 ![] bcast_S_S1 (mulf (F := Ideal) (φ := .f32) (m ((c.tc : Thread nD τ).loc main_arg6)) (m ((c.tc : Thread nD τ).loc main_arg7)))⟩, ⟨S1, broadcastInDim S1 ![] bcast_S_S1 (mulf (F := Ideal) (φ := .f32) (m ((c.tc : Thread nD τ).loc main_arg8)) (m ((c.tc : Thread nD τ).loc main_arg7)))⟩, ⟨S1, broadcastInDim S1 ![] bcast_S_S1 (mulf (F := Ideal) (φ := .f32) (m ((c.tc : Thread nD τ).loc main_arg6)) (m ((c.tc : Thread nD τ).loc main_arg8)))⟩] concatenates_S1_S1_S1_S3_d0) shapeCasts_S3_S1x3 :=
  (Reads.v15 _).trans (by
    rw [W6_args m ρ c main_arg6 (by decide), W6_args m ρ c main_arg7 (by decide), W6_args m ρ c main_arg8 (by decide)])
theorem V8_v15 : V8 m ρ c main_v15 = shapeCast S1x3 (concatenate S3 0 [⟨S1, broadcastInDim S1 ![] bcast_S_S1 (mulf (F := Ideal) (φ := .f32) (m ((c.tc : Thread nD τ).loc main_arg6)) (m ((c.tc : Thread nD τ).loc main_arg7)))⟩, ⟨S1, broadcastInDim S1 ![] bcast_S_S1 (mulf (F := Ideal) (φ := .f32) (m ((c.tc : Thread nD τ).loc main_arg8)) (m ((c.tc : Thread nD τ).loc main_arg7)))⟩, ⟨S1, broadcastInDim S1 ![] bcast_S_S1 (mulf (F := Ideal) (φ := .f32) (m ((c.tc : Thread nD τ).loc main_arg6)) (m ((c.tc : Thread nD τ).loc main_arg8)))⟩] concatenates_S1_S1_S1_S3_d0) shapeCasts_S3_S1x3 := (W8_of m ρ c main_v15 (by decide)).trans (V7_v15 m ρ c)
theorem W9_y : W9 m ρ c (Proc.devRef .tc main_v16_0) = Region3Value.y3 (V7 m ρ) c :=
  (W9_of m ρ c main_v16_0 (by decide)).trans ((W8_arr m ρ c 4).trans (Region3Value.final_y (V7 m ρ) c))
theorem W9_dx : W9 m ρ c (Proc.devRef .tc main_v16_1) = Region3Value.dx3 (V7 m ρ) c :=
  (W9_of m ρ c main_v16_1 (by decide)).trans ((W8_arr m ρ c 5).trans (Region3Value.final_dx (V7 m ρ) c))
theorem W9_dw : W9 m ρ c (Proc.devRef .tc main_v17) = Region4Value.dw (V8 m ρ) c :=
  (W9_arr m ρ c 3).trans (Region4Value.final (V8 m ρ) c)

/-! ## The results -/

theorem v18 : W10 m ρ c (Proc.devRef .tc main_v18) = shapeCast S2x2048x2176 (Region3Value.y3 (V7 m ρ) c) shapeCasts_S512x8x2176_S2x2048x2176 :=
  (Reads.v18 _).trans (by rw [W9_y])
theorem v19 : W10 m ρ c (Proc.devRef .tc main_v19) = shapeCast S2x2048x7040 (Region3Value.dx3 (V7 m ρ) c) shapeCasts_S512x8x7040_S2x2048x7040 :=
  (Reads.v19 _).trans (by rw [W9_dx])
theorem v17 : W10 m ρ c (Proc.devRef .tc main_v17) = Region4Value.dw (V8 m ρ) c :=
  (W10_of m ρ c main_v17 (by decide)).trans (W9_dw m ρ c)
theorem W9_amax0 : W9 m ρ c (Proc.devRef .tc main_v2_1) = (dat0 (V1 m ρ) c).arrAt 3 cfg0.N :=
  ((((((((W9_of m ρ c main_v2_1 (by decide))).trans (W8_of m ρ c main_v2_1 (by decide))).trans (W7_of m ρ c main_v2_1 (by decide))).trans (W6_of m ρ c main_v2_1 (by decide))).trans (W5_of m ρ c main_v2_1 (by decide))).trans (W4_of m ρ c main_v2_1 (by decide))).trans (W3_of m ρ c main_v2_1 (by decide))).trans (W2_amax m ρ c)
theorem v22 : W10 m ρ c (Proc.devRef .tc main_v22) = concatenate S16 0 [⟨S15, extractStridedSlice S15 ![1] (m ((c.tc : Thread nD τ).loc main_arg3)) slices_S16_S15_1⟩,
    ⟨S1, shapeCast S1 ((dat0 (V1 m ρ) c).arrAt 3 cfg0.N) shapeCasts_S1x1_S1⟩] concatenates_S15_S1_S16_d0 :=
  (Reads.v22 _).trans (by rw [W9_args m ρ c main_arg3 (by decide), W9_amax0])
theorem W9_amax1 : W9 m ρ c (Proc.devRef .tc main_v4_1) = (dat1 (V3 m ρ) c).arrAt 3 cfg1.N :=
  ((((((W9_of m ρ c main_v4_1 (by decide))).trans (W8_of m ρ c main_v4_1 (by decide))).trans (W7_of m ρ c main_v4_1 (by decide))).trans (W6_of m ρ c main_v4_1 (by decide))).trans (W5_of m ρ c main_v4_1 (by decide))).trans (W4_amax m ρ c)
theorem v25 : W10 m ρ c (Proc.devRef .tc main_v25) = concatenate S16 0 [⟨S15, extractStridedSlice S15 ![1] (m ((c.tc : Thread nD τ).loc main_arg4)) slices_S16_S15_1⟩,
    ⟨S1, shapeCast S1 ((dat1 (V3 m ρ) c).arrAt 3 cfg1.N) shapeCasts_S1x1_S1⟩] concatenates_S15_S1_S16_d0 :=
  (Reads.v25 _).trans (by rw [W9_args m ρ c main_arg4 (by decide), W9_amax1])
theorem W9_amax2 : W9 m ρ c (Proc.devRef .tc main_v7_1) = (dat2 (V5 m ρ) c).arrAt 3 cfg2.N :=
  ((((W9_of m ρ c main_v7_1 (by decide))).trans (W8_of m ρ c main_v7_1 (by decide))).trans (W7_of m ρ c main_v7_1 (by decide))).trans (W6_amax m ρ c)
theorem v28 : W10 m ρ c (Proc.devRef .tc main_v28) = concatenate S16 0 [⟨S15, extractStridedSlice S15 ![1] (m ((c.tc : Thread nD τ).loc main_arg5)) slices_S16_S15_1⟩,
    ⟨S1, shapeCast S1 ((dat2 (V5 m ρ) c).arrAt 3 cfg2.N) shapeCasts_S1x1_S1⟩] concatenates_S15_S1_S16_d0 :=
  (Reads.v28 _).trans (by rw [W9_args m ρ c main_arg5 (by decide), W9_amax2])
theorem v29 : W10 m ρ c (Proc.devRef .tc main_v29) = shapeCast S2x2048x7040 (Region0Value.codes (V1 m ρ) c) shapeCasts_S4096x7040_S2x2048x7040 :=
  (Reads.v29 _).trans (by rw [(W9_of m ρ c main_v2_0 (by decide)).trans (V8_codes0 m ρ c)])
theorem v4_0 : W10 m ρ c (Proc.devRef .tc main_v4_0) = Region1Value.codes (V3 m ρ) c :=
  (W10_of m ρ c main_v4_0 (by decide)).trans ((W9_of m ρ c main_v4_0 (by decide)).trans (V8_codes1 m ρ c))
theorem v30 : W10 m ρ c (Proc.devRef .tc main_v30) = shapeCast S2x2048x2176 (Region2Value.codes (V5 m ρ) c) shapeCasts_S4096x2176_S2x2048x2176 :=
  (Reads.v30 _).trans (by rw [(W9_of m ρ c main_v7_0 (by decide)).trans (V8_codes2 m ρ c)])

end Cert.KernelIdeal.Result

end
-- ==== Proof.Value.Reference.lean ====
/-
  What the reference's one call computes over the extended reals, in terms of what its operands hold when it starts: the
  three codes' arrays are the quantiser element by element, the three products are sums over the whole contracted axis times
  their scale product. The call has no grid, so every window is its whole array.
-/
module

public import proofs.«01_k».proof.Proof.Gen.ReferenceIdeal.Run
public import proofs.«01_k».proof.Proof.Value.Math

@[expose] public section

set_option maxRecDepth 16384

noncomputable section

namespace Cert.ReferenceIdeal.RefValue

open Idealize.ShloMosaic Idealize.ShloMosaic.TcCoe Idealize.SL.Sem
open Idealize.ShloMosaic.Pipeline (Dat)
open Idealize.ShloMosaic.ValueIdx
open Cert.ReferenceIdeal Cert.ReferenceIdeal.Gen Cert.Proof.Math
open scoped BigOperators

theorem hz : (![0, 0] : Fin 2 → Nat) = fun _ => 0 := funext fun a => by fin_cases a <;> rfl

/-- The one entry of a (1, 1) buffer. -/
abbrev one11 : S1x1.Idx := Shape.Idx.first (s := S1x1) (by decide)
theorem idx11 (i : S1x1.Idx) : i = one11 := funext fun a => Fin.ext (by
  match a with
  | ⟨0, _⟩ => have h : (i 0).val < 1 := (i 0).isLt; show (i 0).val = 0; omega
  | ⟨1, _⟩ => have h : (i 1).val < 1 := (i 1).isLt; show (i 1).val = 0; omega)

/-! ## The payloads over the extended reals -/

theorem pay4_apply (x : Vec Ideal S4096x7040 .bf16) (s : Vec Ideal S1x1 .f32) (i : S4096x7040.Idx) :
    (k0_pay4 (F := Ideal) x s i : EReal) = quant 0xC3E00000#32 0x43E00000#32 (x i) (s one11) := by
  unfold k0_pay4
  simp only [shapeCast_self]
  exact congrArg (quant 0xC3E00000#32 0x43E00000#32 (x i)) (congrArg s (idx11 _))

theorem pay5_apply (x : Vec Ideal S7040x2176 .f32) (s : Vec Ideal S1x1 .f32) (i : S7040x2176.Idx) :
    (k0_pay5 (F := Ideal) x s i : EReal) = quant 0xC3E00000#32 0x43E00000#32 (x i) (s one11) := by
  unfold k0_pay5
  simp only [shapeCast_self]
  exact congrArg (quant 0xC3E00000#32 0x43E00000#32 (x i)) (congrArg s (idx11 _))

theorem pay6_apply (x : Vec Ideal S4096x2176 .bf16) (s : Vec Ideal S1x1 .f32) (i : S4096x2176.Idx) :
    (k0_pay6 (F := Ideal) x s i : EReal) = quant 0xC7600000#32 0x47600000#32 (x i) (s one11) := by
  unfold k0_pay6
  simp only [shapeCast_self]
  exact congrArg (quant 0xC7600000#32 0x47600000#32 (x i)) (congrArg s (idx11 _))

theorem pay1_apply (a : FVec Ideal S4096x2176 .f32) (s : Vec Ideal S1x1 .f32) (i : S4096x2176.Idx) :
    (k0_pay1 (F := Ideal) a s i : EReal) = (a i : EReal) * s one11 := by
  unfold k0_pay1
  simp only [shapeCast_self]
  exact congrArg (fun b : EReal => (a i : EReal) * b) (congrArg s (idx11 _))

theorem pay2_apply (a : FVec Ideal S4096x7040 .f32) (s : Vec Ideal S1x1 .f32) (i : S4096x7040.Idx) :
    (k0_pay2 (F := Ideal) a s i : EReal) = (a i : EReal) * s one11 := by
  unfold k0_pay2
  simp only [shapeCast_self]
  exact congrArg (fun b : EReal => (a i : EReal) * b) (congrArg s (idx11 _))

theorem pay3_apply (a : FVec Ideal S7040x2176 .f32) (s : Vec Ideal S1x1 .f32) (i : S7040x2176.Idx) :
    (k0_pay3 (F := Ideal) a s i : EReal) = (a i : EReal) * s one11 := by
  unfold k0_pay3
  simp only [shapeCast_self]
  exact congrArg (fun b : EReal => (a i : EReal) * b) (congrArg s (idx11 _))

theorem pay7_apply (x : Vec Ideal S4096x7040 .bf16) (s : Vec Ideal S1x1 .f32) (w : Vec Ideal S7040x2176 .f32) (sw : Vec Ideal S1x1 .f32)
    (i : S4096x2176.Idx) : (k0_pay7 (F := Ideal) x s w sw i : EReal)
      = ∑ k : Fin 7040, (k0_pay4 (F := Ideal) x s (ix2 (i 0) k) : EReal) * k0_pay5 (F := Ideal) w sw (ix2 k (i 1)) := by
  unfold k0_pay7
  exact matmul_nn _ (k0_pay4 (F := Ideal) x s) (k0_pay5 (F := Ideal) w sw) i

theorem pay8_apply (w : Vec Ideal S7040x2176 .f32) (sw : Vec Ideal S1x1 .f32) (d : Vec Ideal S4096x2176 .bf16) (sd : Vec Ideal S1x1 .f32)
    (i : S4096x7040.Idx) : (k0_pay8 (F := Ideal) w sw d sd i : EReal)
      = ∑ k : Fin 2176, (k0_pay6 (F := Ideal) d sd (ix2 (i 0) k) : EReal) * k0_pay5 (F := Ideal) w sw (ix2 (i 1) k) := by
  unfold k0_pay8
  exact matmul_nt _ (k0_pay6 (F := Ideal) d sd) (k0_pay5 (F := Ideal) w sw) i

theorem pay9_apply (x : Vec Ideal S4096x7040 .bf16) (s : Vec Ideal S1x1 .f32) (d : Vec Ideal S4096x2176 .bf16) (sd : Vec Ideal S1x1 .f32)
    (i : S7040x2176.Idx) : (k0_pay9 (F := Ideal) x s d sd i : EReal)
      = ∑ k : Fin 4096, (k0_pay4 (F := Ideal) x s (ix2 k (i 0)) : EReal) * k0_pay6 (F := Ideal) d sd (ix2 k (i 1)) := by
  unfold k0_pay9
  exact matmul_tn _ (k0_pay4 (F := Ideal) x s) (k0_pay6 (F := Ideal) d sd) i

/-! ## The windows are the whole arrays -/

variable (m : (ℓ : Loc nD τ sig) → Buf (Elt Ideal) ℓ)

theorem wix0 : ∀ t : Fin grid0.N, win0_0.index t 0 * 4096 = 0 ∧ win0_0.index t 1 * 7040 = 0 := by decide +kernel
theorem wix1 : ∀ t : Fin grid0.N, win0_1.index t 0 * 7040 = 0 ∧ win0_1.index t 1 * 2176 = 0 := by decide +kernel
theorem wix2 : ∀ t : Fin grid0.N, win0_2.index t 0 * 4096 = 0 ∧ win0_2.index t 1 * 2176 = 0 := by decide +kernel
theorem wix3 : ∀ t : Fin grid0.N, win0_3.index t 0 * 1 = 0 ∧ win0_3.index t 1 * 1 = 0 := by decide +kernel
theorem wix4 : ∀ t : Fin grid0.N, win0_4.index t 0 * 1 = 0 ∧ win0_4.index t 1 * 1 = 0 := by decide +kernel
theorem wix5 : ∀ t : Fin grid0.N, win0_5.index t 0 * 1 = 0 ∧ win0_5.index t 1 * 1 = 0 := by decide +kernel
theorem wix6 : ∀ t : Fin grid0.N, win0_6.index t 0 * 1 = 0 ∧ win0_6.index t 1 * 1 = 0 := by decide +kernel
theorem wix7 : ∀ t : Fin grid0.N, win0_7.index t 0 * 1 = 0 ∧ win0_7.index t 1 * 1 = 0 := by decide +kernel
theorem wix8 : ∀ t : Fin grid0.N, win0_8.index t 0 * 1 = 0 ∧ win0_8.index t 1 * 1 = 0 := by decide +kernel
theorem wix9 : ∀ t : Fin grid0.N, win0_9.index t 0 * 4096 = 0 ∧ win0_9.index t 1 * 7040 = 0 := by decide +kernel
theorem wix10 : ∀ t : Fin grid0.N, win0_10.index t 0 * 7040 = 0 ∧ win0_10.index t 1 * 2176 = 0 := by decide +kernel
theorem wix11 : ∀ t : Fin grid0.N, win0_11.index t 0 * 4096 = 0 ∧ win0_11.index t 1 * 2176 = 0 := by decide +kernel
theorem wix12 : ∀ t : Fin grid0.N, win0_12.index t 0 * 4096 = 0 ∧ win0_12.index t 1 * 2176 = 0 := by decide +kernel
theorem wix13 : ∀ t : Fin grid0.N, win0_13.index t 0 * 4096 = 0 ∧ win0_13.index t 1 * 7040 = 0 := by decide +kernel
theorem wix14 : ∀ t : Fin grid0.N, win0_14.index t 0 * 7040 = 0 ∧ win0_14.index t 1 * 2176 = 0 := by decide +kernel

theorem emb0 (t : Fin cfg0.N) (y : S4096x7040.Idx) : ((win0_0.blk t).view.emb y : S4096x7040.Idx) = y := by
  have e := wix0 t
  funext a
  apply Fin.ext
  match a with
  | ⟨0, _⟩ => show win0_0.index t 0 * 4096 + 1 * (y 0).val = (y 0).val; omega
  | ⟨1, _⟩ => show win0_0.index t 1 * 7040 + 1 * (y 1).val = (y 1).val; omega
theorem blk0 (c : Dev nD) (t : Fin cfg0.N) : (iblk m c 0 t : Vec Ideal S4096x7040 .bf16) = (V m c main_v0 : Vec Ideal S4096x7040 .bf16) := by
  funext y
  unfold iblk
  rw [View.read_apply]
  exact congrArg (V m c main_v0 : Vec Ideal S4096x7040 .bf16) (emb0 t y)
theorem emb1 (t : Fin cfg0.N) (y : S7040x2176.Idx) : ((win0_1.blk t).view.emb y : S7040x2176.Idx) = y := by
  have e := wix1 t
  funext a
  apply Fin.ext
  match a with
  | ⟨0, _⟩ => show win0_1.index t 0 * 7040 + 1 * (y 0).val = (y 0).val; omega
  | ⟨1, _⟩ => show win0_1.index t 1 * 2176 + 1 * (y 1).val = (y 1).val; omega
theorem blk1 (c : Dev nD) (t : Fin cfg0.N) : (iblk m c 1 t : Vec Ideal S7040x2176 .f32) = (V m c main_arg1 : Vec Ideal S7040x2176 .f32) := by
  funext y
  unfold iblk
  rw [View.read_apply]
  exact congrArg (V m c main_arg1 : Vec Ideal S7040x2176 .f32) (emb1 t y)
theorem emb2 (t : Fin cfg0.N) (y : S4096x2176.Idx) : ((win0_2.blk t).view.emb y : S4096x2176.Idx) = y := by
  have e := wix2 t
  funext a
  apply Fin.ext
  match a with
  | ⟨0, _⟩ => show win0_2.index t 0 * 4096 + 1 * (y 0).val = (y 0).val; omega
  | ⟨1, _⟩ => show win0_2.index t 1 * 2176 + 1 * (y 1).val = (y 1).val; omega
theorem blk2 (c : Dev nD) (t : Fin cfg0.N) : (iblk m c 2 t : Vec Ideal S4096x2176 .bf16) = (V m c main_v1 : Vec Ideal S4096x2176 .bf16) := by
  funext y
  unfold iblk
  rw [View.read_apply]
  exact congrArg (V m c main_v1 : Vec Ideal S4096x2176 .bf16) (emb2 t y)
theorem emb3 (t : Fin cfg0.N) (y : S1x1.Idx) : ((win0_3.blk t).view.emb y : S1x1.Idx) = y := by
  have e := wix3 t
  funext a
  apply Fin.ext
  match a with
  | ⟨0, _⟩ => show win0_3.index t 0 * 1 + 1 * (y 0).val = (y 0).val; omega
  | ⟨1, _⟩ => show win0_3.index t 1 * 1 + 1 * (y 1).val = (y 1).val; omega
theorem blk3 (c : Dev nD) (t : Fin cfg0.N) : (iblk m c 3 t : Vec Ideal S1x1 .f32) = (V m c main_v2 : Vec Ideal S1x1 .f32) := by
  funext y
  unfold iblk
  rw [View.read_apply]
  exact congrArg (V m c main_v2 : Vec Ideal S1x1 .f32) (emb3 t y)
theorem emb4 (t : Fin cfg0.N) (y : S1x1.Idx) : ((win0_4.blk t).view.emb y : S1x1.Idx) = y := by
  have e := wix4 t
  funext a
  apply Fin.ext
  match a with
  | ⟨0, _⟩ => show win0_4.index t 0 * 1 + 1 * (y 0).val = (y 0).val; omega
  | ⟨1, _⟩ => show win0_4.index t 1 * 1 + 1 * (y 1).val = (y 1).val; omega
theorem blk4 (c : Dev nD) (t : Fin cfg0.N) : (iblk m c 4 t : Vec Ideal S1x1 .f32) = (V m c main_v3 : Vec Ideal S1x1 .f32) := by
  funext y
  unfold iblk
  rw [View.read_apply]
  exact congrArg (V m c main_v3 : Vec Ideal S1x1 .f32) (emb4 t y)
theorem emb5 (t : Fin cfg0.N) (y : S1x1.Idx) : ((win0_5.blk t).view.emb y : S1x1.Idx) = y := by
  have e := wix5 t
  funext a
  apply Fin.ext
  match a with
  | ⟨0, _⟩ => show win0_5.index t 0 * 1 + 1 * (y 0).val = (y 0).val; omega
  | ⟨1, _⟩ => show win0_5.index t 1 * 1 + 1 * (y 1).val = (y 1).val; omega
theorem blk5 (c : Dev nD) (t : Fin cfg0.N) : (iblk m c 5 t : Vec Ideal S1x1 .f32) = (V m c main_v4 : Vec Ideal S1x1 .f32) := by
  funext y
  unfold iblk
  rw [View.read_apply]
  exact congrArg (V m c main_v4 : Vec Ideal S1x1 .f32) (emb5 t y)
theorem emb6 (t : Fin cfg0.N) (y : S1x1.Idx) : ((win0_6.blk t).view.emb y : S1x1.Idx) = y := by
  have e := wix6 t
  funext a
  apply Fin.ext
  match a with
  | ⟨0, _⟩ => show win0_6.index t 0 * 1 + 1 * (y 0).val = (y 0).val; omega
  | ⟨1, _⟩ => show win0_6.index t 1 * 1 + 1 * (y 1).val = (y 1).val; omega
theorem blk6 (c : Dev nD) (t : Fin cfg0.N) : (iblk m c 6 t : Vec Ideal S1x1 .f32) = (V m c main_v6 : Vec Ideal S1x1 .f32) := by
  funext y
  unfold iblk
  rw [View.read_apply]
  exact congrArg (V m c main_v6 : Vec Ideal S1x1 .f32) (emb6 t y)
theorem emb7 (t : Fin cfg0.N) (y : S1x1.Idx) : ((win0_7.blk t).view.emb y : S1x1.Idx) = y := by
  have e := wix7 t
  funext a
  apply Fin.ext
  match a with
  | ⟨0, _⟩ => show win0_7.index t 0 * 1 + 1 * (y 0).val = (y 0).val; omega
  | ⟨1, _⟩ => show win0_7.index t 1 * 1 + 1 * (y 1).val = (y 1).val; omega
theorem blk7 (c : Dev nD) (t : Fin cfg0.N) : (iblk m c 7 t : Vec Ideal S1x1 .f32) = (V m c main_v8 : Vec Ideal S1x1 .f32) := by
  funext y
  unfold iblk
  rw [View.read_apply]
  exact congrArg (V m c main_v8 : Vec Ideal S1x1 .f32) (emb7 t y)
theorem emb8 (t : Fin cfg0.N) (y : S1x1.Idx) : ((win0_8.blk t).view.emb y : S1x1.Idx) = y := by
  have e := wix8 t
  funext a
  apply Fin.ext
  match a with
  | ⟨0, _⟩ => show win0_8.index t 0 * 1 + 1 * (y 0).val = (y 0).val; omega
  | ⟨1, _⟩ => show win0_8.index t 1 * 1 + 1 * (y 1).val = (y 1).val; omega
theorem blk8 (c : Dev nD) (t : Fin cfg0.N) : (iblk m c 8 t : Vec Ideal S1x1 .f32) = (V m c main_v10 : Vec Ideal S1x1 .f32) := by
  funext y
  unfold iblk
  rw [View.read_apply]
  exact congrArg (V m c main_v10 : Vec Ideal S1x1 .f32) (emb8 t y)
theorem emb9 (t : Fin cfg0.N) (y : S4096x7040.Idx) : ((win0_9.blk t).view.emb y : S4096x7040.Idx) = y := by
  have e := wix9 t
  funext a
  apply Fin.ext
  match a with
  | ⟨0, _⟩ => show win0_9.index t 0 * 4096 + 1 * (y 0).val = (y 0).val; omega
  | ⟨1, _⟩ => show win0_9.index t 1 * 7040 + 1 * (y 1).val = (y 1).val; omega
theorem emb10 (t : Fin cfg0.N) (y : S7040x2176.Idx) : ((win0_10.blk t).view.emb y : S7040x2176.Idx) = y := by
  have e := wix10 t
  funext a
  apply Fin.ext
  match a with
  | ⟨0, _⟩ => show win0_10.index t 0 * 7040 + 1 * (y 0).val = (y 0).val; omega
  | ⟨1, _⟩ => show win0_10.index t 1 * 2176 + 1 * (y 1).val = (y 1).val; omega
theorem emb11 (t : Fin cfg0.N) (y : S4096x2176.Idx) : ((win0_11.blk t).view.emb y : S4096x2176.Idx) = y := by
  have e := wix11 t
  funext a
  apply Fin.ext
  match a with
  | ⟨0, _⟩ => show win0_11.index t 0 * 4096 + 1 * (y 0).val = (y 0).val; omega
  | ⟨1, _⟩ => show win0_11.index t 1 * 2176 + 1 * (y 1).val = (y 1).val; omega
theorem emb12 (t : Fin cfg0.N) (y : S4096x2176.Idx) : ((win0_12.blk t).view.emb y : S4096x2176.Idx) = y := by
  have e := wix12 t
  funext a
  apply Fin.ext
  match a with
  | ⟨0, _⟩ => show win0_12.index t 0 * 4096 + 1 * (y 0).val = (y 0).val; omega
  | ⟨1, _⟩ => show win0_12.index t 1 * 2176 + 1 * (y 1).val = (y 1).val; omega
theorem emb13 (t : Fin cfg0.N) (y : S4096x7040.Idx) : ((win0_13.blk t).view.emb y : S4096x7040.Idx) = y := by
  have e := wix13 t
  funext a
  apply Fin.ext
  match a with
  | ⟨0, _⟩ => show win0_13.index t 0 * 4096 + 1 * (y 0).val = (y 0).val; omega
  | ⟨1, _⟩ => show win0_13.index t 1 * 7040 + 1 * (y 1).val = (y 1).val; omega
theorem emb14 (t : Fin cfg0.N) (y : S7040x2176.Idx) : ((win0_14.blk t).view.emb y : S7040x2176.Idx) = y := by
  have e := wix14 t
  funext a
  apply Fin.ext
  match a with
  | ⟨0, _⟩ => show win0_14.index t 0 * 7040 + 1 * (y 0).val = (y 0).val; omega
  | ⟨1, _⟩ => show win0_14.index t 1 * 2176 + 1 * (y 1).val = (y 1).val; omega

/-! ## The results -/

abbrev xq (c : Dev nD) : Vec Ideal S4096x7040 .fp8e4m3 := fun i =>
  quant 0xC3E00000#32 0x43E00000#32 ((V m c main_v0 : Vec Ideal S4096x7040 .bf16) i) ((V m c main_v2 : Vec Ideal S1x1 .f32) one11)
abbrev wq (c : Dev nD) : Vec Ideal S7040x2176 .fp8e4m3 := fun i =>
  quant 0xC3E00000#32 0x43E00000#32 ((V m c main_arg1 : Vec Ideal S7040x2176 .f32) i) ((V m c main_v3 : Vec Ideal S1x1 .f32) one11)
abbrev dyq (c : Dev nD) : Vec Ideal S4096x2176 .fp8e5m2 := fun i =>
  quant 0xC7600000#32 0x47600000#32 ((V m c main_v1 : Vec Ideal S4096x2176 .bf16) i) ((V m c main_v4 : Vec Ideal S1x1 .f32) one11)
abbrev y2 (c : Dev nD) : Vec Ideal S4096x2176 .bf16 := fun i =>
  ((∑ k : Fin 7040, (xq m c (ix2 (i 0) k) : EReal) * wq m c (ix2 k (i 1))) * (V m c main_v6 : Vec Ideal S1x1 .f32) one11 : EReal)
abbrev dx2 (c : Dev nD) : Vec Ideal S4096x7040 .bf16 := fun i =>
  ((∑ k : Fin 2176, (dyq m c (ix2 (i 0) k) : EReal) * wq m c (ix2 (i 1) k)) * (V m c main_v8 : Vec Ideal S1x1 .f32) one11 : EReal)
abbrev dw (c : Dev nD) : Vec Ideal S7040x2176 .f32 := fun i =>
  ((∑ k : Fin 4096, (xq m c (ix2 k (i 0)) : EReal) * dyq m c (ix2 k (i 1))) * (V m c main_v10 : Vec Ideal S1x1 .f32) one11 : EReal)

theorem out_xq (c : Dev nD) (t : Fin cfg0.N) (y : S4096x7040.Idx) : (dats m 0 c).after 9 t y = xq m c y := by
  rw [after0_9]
  unfold out0_9
  rw [View.canon_unit_zero hz]
  simp only [View.ld_unit_zero (S := S4096x7040) hz, View.ld_unit_zero (S := S7040x2176) hz, View.ld_unit_zero (S := S4096x2176) hz,
    View.ld_unit_zero (S := S1x1) hz]
  rw [blk0, blk3]
  exact pay4_apply _ _ y

theorem flushed_xq (c : Dev nD) (t : Fin cfg0.N) :
    (dats m 0 c).flushed 9 t = (win0_9.blk t).view.read (Elt Ideal) (xq m c) := by
  show (cfg0.win 9).cut (grid0.coords t) ((dats m 0 c).after 9 t) = _
  funext y
  rw [View.read_apply]
  refine (out_xq m c t y).trans ?_
  rw [emb9]
  rfl

theorem idx_facts9 : win0_9.index t0_0 0 * win0_9.size 0 = 0 ∧ win0_9.xsize (grid0.coords t0_0) 0 = 4096
    ∧ win0_9.index t0_0 1 * win0_9.size 1 = 0 ∧ win0_9.xsize (grid0.coords t0_0) 1 = 7040 := by decide +kernel

theorem final_xq (c : Dev nD) : Value.reg_main_v11_0 m c = xq m c :=
  (dats m 0 c).arrAt_eq_of_cover 9 (xq m c) (fun t _ => flushed_xq m c t) fun i =>
    ⟨t0_0, flush0_9 t0_0, by
    have h0 : (i 0 : Nat) < 4096 := (i 0).isLt
    have h1 : (i 1 : Nat) < 7040 := (i 1).isLt
    show i ∈ ((View.whole main_v11_0).slice (win0_9.rect t0_0)).set
    rw [View.set_slice_whole, Rect.mem_set_unit]
    intro a
    have e := idx_facts9
    match a with
    | ⟨0, _⟩ => show win0_9.index _ 0 * win0_9.size 0 ≤ (i 0 : Nat) ∧ (i 0 : Nat) < win0_9.index _ 0 * win0_9.size 0 + win0_9.xsize (grid0.coords _) 0
                rw [e.1, e.2.1]; omega
    | ⟨1, _⟩ => show win0_9.index _ 1 * win0_9.size 1 ≤ (i 1 : Nat) ∧ (i 1 : Nat) < win0_9.index _ 1 * win0_9.size 1 + win0_9.xsize (grid0.coords _) 1
                rw [e.2.2.1, e.2.2.2]; omega⟩

theorem out_wq (c : Dev nD) (t : Fin cfg0.N) (y : S7040x2176.Idx) : (dats m 0 c).after 10 t y = wq m c y := by
  rw [after0_10]
  unfold out0_10
  rw [View.canon_unit_zero hz]
  simp only [View.ld_unit_zero (S := S4096x7040) hz, View.ld_unit_zero (S := S7040x2176) hz, View.ld_unit_zero (S := S4096x2176) hz,
    View.ld_unit_zero (S := S1x1) hz]
  rw [blk1, blk4]
  exact pay5_apply _ _ y

theorem flushed_wq (c : Dev nD) (t : Fin cfg0.N) :
    (dats m 0 c).flushed 10 t = (win0_10.blk t).view.read (Elt Ideal) (wq m c) := by
  show (cfg0.win 10).cut (grid0.coords t) ((dats m 0 c).after 10 t) = _
  funext y
  rw [View.read_apply]
  refine (out_wq m c t y).trans ?_
  rw [emb10]
  rfl

theorem idx_facts10 : win0_10.index t0_0 0 * win0_10.size 0 = 0 ∧ win0_10.xsize (grid0.coords t0_0) 0 = 7040
    ∧ win0_10.index t0_0 1 * win0_10.size 1 = 0 ∧ win0_10.xsize (grid0.coords t0_0) 1 = 2176 := by decide +kernel

theorem final_wq (c : Dev nD) : Value.reg_main_v11_1 m c = wq m c :=
  (dats m 0 c).arrAt_eq_of_cover 10 (wq m c) (fun t _ => flushed_wq m c t) fun i =>
    ⟨t0_0, flush0_10 t0_0, by
    have h0 : (i 0 : Nat) < 7040 := (i 0).isLt
    have h1 : (i 1 : Nat) < 2176 := (i 1).isLt
    show i ∈ ((View.whole main_v11_1).slice (win0_10.rect t0_0)).set
    rw [View.set_slice_whole, Rect.mem_set_unit]
    intro a
    have e := idx_facts10
    match a with
    | ⟨0, _⟩ => show win0_10.index _ 0 * win0_10.size 0 ≤ (i 0 : Nat) ∧ (i 0 : Nat) < win0_10.index _ 0 * win0_10.size 0 + win0_10.xsize (grid0.coords _) 0
                rw [e.1, e.2.1]; omega
    | ⟨1, _⟩ => show win0_10.index _ 1 * win0_10.size 1 ≤ (i 1 : Nat) ∧ (i 1 : Nat) < win0_10.index _ 1 * win0_10.size 1 + win0_10.xsize (grid0.coords _) 1
                rw [e.2.2.1, e.2.2.2]; omega⟩

theorem out_dyq (c : Dev nD) (t : Fin cfg0.N) (y : S4096x2176.Idx) : (dats m 0 c).after 11 t y = dyq m c y := by
  rw [after0_11]
  unfold out0_11
  rw [View.canon_unit_zero hz]
  simp only [View.ld_unit_zero (S := S4096x7040) hz, View.ld_unit_zero (S := S7040x2176) hz, View.ld_unit_zero (S := S4096x2176) hz,
    View.ld_unit_zero (S := S1x1) hz]
  rw [blk2, blk5]
  exact pay6_apply _ _ y

theorem flushed_dyq (c : Dev nD) (t : Fin cfg0.N) :
    (dats m 0 c).flushed 11 t = (win0_11.blk t).view.read (Elt Ideal) (dyq m c) := by
  show (cfg0.win 11).cut (grid0.coords t) ((dats m 0 c).after 11 t) = _
  funext y
  rw [View.read_apply]
  refine (out_dyq m c t y).trans ?_
  rw [emb11]
  rfl

theorem idx_facts11 : win0_11.index t0_0 0 * win0_11.size 0 = 0 ∧ win0_11.xsize (grid0.coords t0_0) 0 = 4096
    ∧ win0_11.index t0_0 1 * win0_11.size 1 = 0 ∧ win0_11.xsize (grid0.coords t0_0) 1 = 2176 := by decide +kernel

theorem final_dyq (c : Dev nD) : Value.reg_main_v11_2 m c = dyq m c :=
  (dats m 0 c).arrAt_eq_of_cover 11 (dyq m c) (fun t _ => flushed_dyq m c t) fun i =>
    ⟨t0_0, flush0_11 t0_0, by
    have h0 : (i 0 : Nat) < 4096 := (i 0).isLt
    have h1 : (i 1 : Nat) < 2176 := (i 1).isLt
    show i ∈ ((View.whole main_v11_2).slice (win0_11.rect t0_0)).set
    rw [View.set_slice_whole, Rect.mem_set_unit]
    intro a
    have e := idx_facts11
    match a with
    | ⟨0, _⟩ => show win0_11.index _ 0 * win0_11.size 0 ≤ (i 0 : Nat) ∧ (i 0 : Nat) < win0_11.index _ 0 * win0_11.size 0 + win0_11.xsize (grid0.coords _) 0
                rw [e.1, e.2.1]; omega
    | ⟨1, _⟩ => show win0_11.index _ 1 * win0_11.size 1 ≤ (i 1 : Nat) ∧ (i 1 : Nat) < win0_11.index _ 1 * win0_11.size 1 + win0_11.xsize (grid0.coords _) 1
                rw [e.2.2.1, e.2.2.2]; omega⟩

theorem out_y2 (c : Dev nD) (t : Fin cfg0.N) (y : S4096x2176.Idx) : (dats m 0 c).after 12 t y = y2 m c y := by
  rw [after0_12]
  unfold out0_12
  rw [View.canon_unit_zero hz]
  simp only [View.ld_unit_zero (S := S4096x7040) hz, View.ld_unit_zero (S := S7040x2176) hz, View.ld_unit_zero (S := S4096x2176) hz,
    View.ld_unit_zero (S := S1x1) hz]
  rw [blk0, blk3, blk1, blk4, blk6]
  rw [pay1_apply, pay7_apply]
  refine congrArg (fun a : EReal => a * (V m c main_v6 : Vec Ideal S1x1 .f32) one11) (Finset.sum_congr rfl fun k _ => ?_)
  exact congrArg₂ (fun a b : EReal => a * b) (pay4_apply _ _ _) (pay5_apply _ _ _)

theorem flushed_y2 (c : Dev nD) (t : Fin cfg0.N) :
    (dats m 0 c).flushed 12 t = (win0_12.blk t).view.read (Elt Ideal) (y2 m c) := by
  show (cfg0.win 12).cut (grid0.coords t) ((dats m 0 c).after 12 t) = _
  funext y
  rw [View.read_apply]
  refine (out_y2 m c t y).trans ?_
  rw [emb12]
  rfl

theorem idx_facts12 : win0_12.index t0_0 0 * win0_12.size 0 = 0 ∧ win0_12.xsize (grid0.coords t0_0) 0 = 4096
    ∧ win0_12.index t0_0 1 * win0_12.size 1 = 0 ∧ win0_12.xsize (grid0.coords t0_0) 1 = 2176 := by decide +kernel

theorem final_y2 (c : Dev nD) : Value.reg_main_v11_3 m c = y2 m c :=
  (dats m 0 c).arrAt_eq_of_cover 12 (y2 m c) (fun t _ => flushed_y2 m c t) fun i =>
    ⟨t0_0, flush0_12 t0_0, by
    have h0 : (i 0 : Nat) < 4096 := (i 0).isLt
    have h1 : (i 1 : Nat) < 2176 := (i 1).isLt
    show i ∈ ((View.whole main_v11_3).slice (win0_12.rect t0_0)).set
    rw [View.set_slice_whole, Rect.mem_set_unit]
    intro a
    have e := idx_facts12
    match a with
    | ⟨0, _⟩ => show win0_12.index _ 0 * win0_12.size 0 ≤ (i 0 : Nat) ∧ (i 0 : Nat) < win0_12.index _ 0 * win0_12.size 0 + win0_12.xsize (grid0.coords _) 0
                rw [e.1, e.2.1]; omega
    | ⟨1, _⟩ => show win0_12.index _ 1 * win0_12.size 1 ≤ (i 1 : Nat) ∧ (i 1 : Nat) < win0_12.index _ 1 * win0_12.size 1 + win0_12.xsize (grid0.coords _) 1
                rw [e.2.2.1, e.2.2.2]; omega⟩

theorem out_dx2 (c : Dev nD) (t : Fin cfg0.N) (y : S4096x7040.Idx) : (dats m 0 c).after 13 t y = dx2 m c y := by
  rw [after0_13]
  unfold out0_13
  rw [View.canon_unit_zero hz]
  simp only [View.ld_unit_zero (S := S4096x7040) hz, View.ld_unit_zero (S := S7040x2176) hz, View.ld_unit_zero (S := S4096x2176) hz,
    View.ld_unit_zero (S := S1x1) hz]
  rw [blk1, blk4, blk2, blk5, blk7]
  rw [pay2_apply, pay8_apply]
  refine congrArg (fun a : EReal => a * (V m c main_v8 : Vec Ideal S1x1 .f32) one11) (Finset.sum_congr rfl fun k _ => ?_)
  exact congrArg₂ (fun a b : EReal => a * b) (pay6_apply _ _ _) (pay5_apply _ _ _)

theorem flushed_dx2 (c : Dev nD) (t : Fin cfg0.N) :
    (dats m 0 c).flushed 13 t = (win0_13.blk t).view.read (Elt Ideal) (dx2 m c) := by
  show (cfg0.win 13).cut (grid0.coords t) ((dats m 0 c).after 13 t) = _
  funext y
  rw [View.read_apply]
  refine (out_dx2 m c t y).trans ?_
  rw [emb13]
  rfl

theorem idx_facts13 : win0_13.index t0_0 0 * win0_13.size 0 = 0 ∧ win0_13.xsize (grid0.coords t0_0) 0 = 4096
    ∧ win0_13.index t0_0 1 * win0_13.size 1 = 0 ∧ win0_13.xsize (grid0.coords t0_0) 1 = 7040 := by decide +kernel

theorem final_dx2 (c : Dev nD) : Value.reg_main_v11_4 m c = dx2 m c :=
  (dats m 0 c).arrAt_eq_of_cover 13 (dx2 m c) (fun t _ => flushed_dx2 m c t) fun i =>
    ⟨t0_0, flush0_13 t0_0, by
    have h0 : (i 0 : Nat) < 4096 := (i 0).isLt
    have h1 : (i 1 : Nat) < 7040 := (i 1).isLt
    show i ∈ ((View.whole main_v11_4).slice (win0_13.rect t0_0)).set
    rw [View.set_slice_whole, Rect.mem_set_unit]
    intro a
    have e := idx_facts13
    match a with
    | ⟨0, _⟩ => show win0_13.index _ 0 * win0_13.size 0 ≤ (i 0 : Nat) ∧ (i 0 : Nat) < win0_13.index _ 0 * win0_13.size 0 + win0_13.xsize (grid0.coords _) 0
                rw [e.1, e.2.1]; omega
    | ⟨1, _⟩ => show win0_13.index _ 1 * win0_13.size 1 ≤ (i 1 : Nat) ∧ (i 1 : Nat) < win0_13.index _ 1 * win0_13.size 1 + win0_13.xsize (grid0.coords _) 1
                rw [e.2.2.1, e.2.2.2]; omega⟩

theorem out_dw (c : Dev nD) (t : Fin cfg0.N) (y : S7040x2176.Idx) : (dats m 0 c).after 14 t y = dw m c y := by
  rw [after0_14]
  unfold out0_14
  rw [View.canon_unit_zero hz]
  simp only [View.ld_unit_zero (S := S4096x7040) hz, View.ld_unit_zero (S := S7040x2176) hz, View.ld_unit_zero (S := S4096x2176) hz,
    View.ld_unit_zero (S := S1x1) hz]
  rw [blk0, blk3, blk2, blk5, blk8]
  rw [pay3_apply, pay9_apply]
  refine congrArg (fun a : EReal => a * (V m c main_v10 : Vec Ideal S1x1 .f32) one11) (Finset.sum_congr rfl fun k _ => ?_)
  exact congrArg₂ (fun a b : EReal => a * b) (pay4_apply _ _ _) (pay6_apply _ _ _)

theorem flushed_dw (c : Dev nD) (t : Fin cfg0.N) :
    (dats m 0 c).flushed 14 t = (win0_14.blk t).view.read (Elt Ideal) (dw m c) := by
  show (cfg0.win 14).cut (grid0.coords t) ((dats m 0 c).after 14 t) = _
  funext y
  rw [View.read_apply]
  refine (out_dw m c t y).trans ?_
  rw [emb14]
  rfl

theorem idx_facts14 : win0_14.index t0_0 0 * win0_14.size 0 = 0 ∧ win0_14.xsize (grid0.coords t0_0) 0 = 7040
    ∧ win0_14.index t0_0 1 * win0_14.size 1 = 0 ∧ win0_14.xsize (grid0.coords t0_0) 1 = 2176 := by decide +kernel

theorem final_dw (c : Dev nD) : Value.reg_main_v11_5 m c = dw m c :=
  (dats m 0 c).arrAt_eq_of_cover 14 (dw m c) (fun t _ => flushed_dw m c t) fun i =>
    ⟨t0_0, flush0_14 t0_0, by
    have h0 : (i 0 : Nat) < 7040 := (i 0).isLt
    have h1 : (i 1 : Nat) < 2176 := (i 1).isLt
    show i ∈ ((View.whole main_v11_5).slice (win0_14.rect t0_0)).set
    rw [View.set_slice_whole, Rect.mem_set_unit]
    intro a
    have e := idx_facts14
    match a with
    | ⟨0, _⟩ => show win0_14.index _ 0 * win0_14.size 0 ≤ (i 0 : Nat) ∧ (i 0 : Nat) < win0_14.index _ 0 * win0_14.size 0 + win0_14.xsize (grid0.coords _) 0
                rw [e.1, e.2.1]; omega
    | ⟨1, _⟩ => show win0_14.index _ 1 * win0_14.size 1 ≤ (i 1 : Nat) ∧ (i 1 : Nat) < win0_14.index _ 1 * win0_14.size 1 + win0_14.xsize (grid0.coords _) 1
                rw [e.2.2.1, e.2.2.2]; omega⟩

end Cert.ReferenceIdeal.RefValue

end
-- ==== Proof.Value.ReferenceReads.lean ====
/-
  What the reference's one call finds in its operands, from the arguments.
-/
module

public import proofs.«01_k».proof.Proof.Gen.ReferenceIdeal.Frame
public import Idealize.ShloMosaic.Lib.StableHlo.Run
public import Idealize.ShloMosaic.Lib.Pipeline.FrameSuffix

@[expose] public section

set_option maxRecDepth 16384

noncomputable section

namespace Cert.ReferenceIdeal.Reads

open Idealize.ShloMosaic Idealize.ShloMosaic.TcCoe Idealize.ShloMosaic.StableHlo
open Cert.ReferenceIdeal Cert.ReferenceIdeal.Gen

variable {F : FTy → Type} [FloatOps F]

set_option maxHeartbeats 2000000 in
theorem v0_of (V0 : Valuation τ sig (Elt F)) :
    after (List.flatten [hostOps0]) V0 (Proc.devRef .tc main_v0) = shapeCast S4096x7040 (V0 (Proc.devRef .tc main_arg0)) shapeCasts_S2x2048x7040_S4096x7040 := by
  simp only [hostOps0, List.flatten_cons, List.flatten_nil, List.append_nil, List.cons_append, List.nil_append]
  after_results <;> rfl
theorem v0 (m : (ℓ : Loc nD τ sig) → Buf (Elt F) ℓ) (c : Dev nD) : V m c main_v0 = shapeCast S4096x7040 (m ((c.tc : Thread nD τ).loc main_arg0)) shapeCasts_S2x2048x7040_S4096x7040 :=
  v0_of _

set_option maxHeartbeats 2000000 in
theorem v1_of (V0 : Valuation τ sig (Elt F)) :
    after (List.flatten [hostOps0]) V0 (Proc.devRef .tc main_v1) = shapeCast S4096x2176 (V0 (Proc.devRef .tc main_arg2)) shapeCasts_S2x2048x2176_S4096x2176 := by
  simp only [hostOps0, List.flatten_cons, List.flatten_nil, List.append_nil, List.cons_append, List.nil_append]
  after_results <;> rfl
theorem v1 (m : (ℓ : Loc nD τ sig) → Buf (Elt F) ℓ) (c : Dev nD) : V m c main_v1 = shapeCast S4096x2176 (m ((c.tc : Thread nD τ).loc main_arg2)) shapeCasts_S2x2048x2176_S4096x2176 :=
  v1_of _

set_option maxHeartbeats 2000000 in
theorem v2_of (V0 : Valuation τ sig (Elt F)) :
    after (List.flatten [hostOps0]) V0 (Proc.devRef .tc main_v2) = shapeCast S1x1 (V0 (Proc.devRef .tc main_arg9)) shapeCasts_S_S1x1 := by
  simp only [hostOps0, List.flatten_cons, List.flatten_nil, List.append_nil, List.cons_append, List.nil_append]
  after_results <;> rfl
theorem v2 (m : (ℓ : Loc nD τ sig) → Buf (Elt F) ℓ) (c : Dev nD) : V m c main_v2 = shapeCast S1x1 (m ((c.tc : Thread nD τ).loc main_arg9)) shapeCasts_S_S1x1 :=
  v2_of _

set_option maxHeartbeats 2000000 in
theorem v3_of (V0 : Valuation τ sig (Elt F)) :
    after (List.flatten [hostOps0]) V0 (Proc.devRef .tc main_v3) = shapeCast S1x1 (V0 (Proc.devRef .tc main_arg10)) shapeCasts_S_S1x1 := by
  simp only [hostOps0, List.flatten_cons, List.flatten_nil, List.append_nil, List.cons_append, List.nil_append]
  after_results <;> rfl
theorem v3 (m : (ℓ : Loc nD τ sig) → Buf (Elt F) ℓ) (c : Dev nD) : V m c main_v3 = shapeCast S1x1 (m ((c.tc : Thread nD τ).loc main_arg10)) shapeCasts_S_S1x1 :=
  v3_of _

set_option maxHeartbeats 2000000 in
theorem v4_of (V0 : Valuation τ sig (Elt F)) :
    after (List.flatten [hostOps0]) V0 (Proc.devRef .tc main_v4) = shapeCast S1x1 (V0 (Proc.devRef .tc main_arg11)) shapeCasts_S_S1x1 := by
  simp only [hostOps0, List.flatten_cons, List.flatten_nil, List.append_nil, List.cons_append, List.nil_append]
  after_results <;> rfl
theorem v4 (m : (ℓ : Loc nD τ sig) → Buf (Elt F) ℓ) (c : Dev nD) : V m c main_v4 = shapeCast S1x1 (m ((c.tc : Thread nD τ).loc main_arg11)) shapeCasts_S_S1x1 :=
  v4_of _

set_option maxHeartbeats 2000000 in
theorem v6_of (V0 : Valuation τ sig (Elt F)) :
    after (List.flatten [hostOps0]) V0 (Proc.devRef .tc main_v6) = shapeCast S1x1 (mulf (F := F) (φ := .f32) (V0 (Proc.devRef .tc main_arg6)) (V0 (Proc.devRef .tc main_arg7))) shapeCasts_S_S1x1 := by
  simp only [hostOps0, List.flatten_cons, List.flatten_nil, List.append_nil, List.cons_append, List.nil_append]
  after_results <;> rfl
theorem v6 (m : (ℓ : Loc nD τ sig) → Buf (Elt F) ℓ) (c : Dev nD) : V m c main_v6 = shapeCast S1x1 (mulf (F := F) (φ := .f32) (m ((c.tc : Thread nD τ).loc main_arg6)) (m ((c.tc : Thread nD τ).loc main_arg7))) shapeCasts_S_S1x1 :=
  v6_of _

set_option maxHeartbeats 2000000 in
theorem v8_of (V0 : Valuation τ sig (Elt F)) :
    after (List.flatten [hostOps0]) V0 (Proc.devRef .tc main_v8) = shapeCast S1x1 (mulf (F := F) (φ := .f32) (V0 (Proc.devRef .tc main_arg8)) (V0 (Proc.devRef .tc main_arg7))) shapeCasts_S_S1x1 := by
  simp only [hostOps0, List.flatten_cons, List.flatten_nil, List.append_nil, List.cons_append, List.nil_append]
  after_results <;> rfl
theorem v8 (m : (ℓ : Loc nD τ sig) → Buf (Elt F) ℓ) (c : Dev nD) : V m c main_v8 = shapeCast S1x1 (mulf (F := F) (φ := .f32) (m ((c.tc : Thread nD τ).loc main_arg8)) (m ((c.tc : Thread nD τ).loc main_arg7))) shapeCasts_S_S1x1 :=
  v8_of _

set_option maxHeartbeats 2000000 in
theorem v10_of (V0 : Valuation τ sig (Elt F)) :
    after (List.flatten [hostOps0]) V0 (Proc.devRef .tc main_v10) = shapeCast S1x1 (mulf (F := F) (φ := .f32) (V0 (Proc.devRef .tc main_arg6)) (V0 (Proc.devRef .tc main_arg8))) shapeCasts_S_S1x1 := by
  simp only [hostOps0, List.flatten_cons, List.flatten_nil, List.append_nil, List.cons_append, List.nil_append]
  after_results <;> rfl
theorem v10 (m : (ℓ : Loc nD τ sig) → Buf (Elt F) ℓ) (c : Dev nD) : V m c main_v10 = shapeCast S1x1 (mulf (F := F) (φ := .f32) (m ((c.tc : Thread nD τ).loc main_arg6)) (m ((c.tc : Thread nD τ).loc main_arg8))) shapeCasts_S_S1x1 :=
  v10_of _

end Cert.ReferenceIdeal.Reads

end
-- ==== Proof.Value.HostMath.lean ====
/-
  Small facts of the host's operations: a scalar viewed as a (1, 1) or a one-element array, and three scalars laid side by side.
-/
module

public import proofs.«01_k».proof.Proof.Value.Math

@[expose] public section

set_option maxRecDepth 16384

noncomputable section

namespace Cert.Proof.Math

open Idealize.ShloMosaic Idealize.ShloMosaic.ValueIdx

/-- Widening bf16 to f32 keeps every value. -/
theorem ext_val {s : Shape} (x : FVec Ideal s .bf16) (h) (j : s.Idx) : (extf .f32 x h j : EReal) = x j := rfl

/-- The only index of a scalar. -/
abbrev pt0 : (⟨0, ![]⟩ : Shape).Idx := fun b => b.elim0

theorem scalar_cast {t : Shape} {α : Type} (x : (⟨0, ![]⟩ : Shape).Idx → α) (h : (⟨0, ![]⟩ : Shape).ShapeCasts t) (j : t.Idx) :
    shapeCast t x h j = x pt0 := congrArg x (funext fun b => b.elim0)

theorem scalar_bcast {α : Type} (x : (⟨0, ![]⟩ : Shape).Idx → α) (h) (j : (⟨1, ![1]⟩ : Shape).Idx) :
    broadcastInDim (⟨1, ![1]⟩ : Shape) ![] h x j = x pt0 := congrArg x (funext fun b => b.elim0)

section
variable {α : Type} (a b c : (⟨1, ![1]⟩ : Shape).Idx → α) (h) (hs : (⟨1, ![3]⟩ : Shape).ShapeCasts ⟨2, ![1, 3]⟩)

theorem three_0 (v : α) (ha : ∀ j, a j = v) :
    shapeCast ⟨2, ![1, 3]⟩ (concatenate ⟨1, ![3]⟩ 0 [⟨⟨1, ![1]⟩, a⟩, ⟨⟨1, ![1]⟩, b⟩, ⟨⟨1, ![1]⟩, c⟩] h) hs (ix2 0 0) = v := by
  refine (Idealize.ShloMosaic.shapeCast_apply _ hs (ix2 0 0) (ix1 0) (by decide +kernel)).trans ?_
  refine (concatenate_apply_piece 0 _ h _ 0 (by simp) ⟨1, ![1]⟩ a rfl rfl 0 rfl (ix1 0) ?_ ?_).trans (ha _)
  · intro b hb; fin_cases b; exact absurd rfl hb
  · rfl

theorem three_1 (v : α) (hb : ∀ j, b j = v) :
    shapeCast ⟨2, ![1, 3]⟩ (concatenate ⟨1, ![3]⟩ 0 [⟨⟨1, ![1]⟩, a⟩, ⟨⟨1, ![1]⟩, b⟩, ⟨⟨1, ![1]⟩, c⟩] h) hs (ix2 0 1) = v := by
  refine (Idealize.ShloMosaic.shapeCast_apply _ hs (ix2 0 1) (ix1 1) (by decide +kernel)).trans ?_
  refine (concatenate_apply_piece 0 _ h _ 1 (by simp) ⟨1, ![1]⟩ b rfl rfl 1 rfl (ix1 0) ?_ ?_).trans (hb _)
  · intro b hb; fin_cases b; exact absurd rfl hb
  · rfl

theorem three_2 (v : α) (hc : ∀ j, c j = v) :
    shapeCast ⟨2, ![1, 3]⟩ (concatenate ⟨1, ![3]⟩ 0 [⟨⟨1, ![1]⟩, a⟩, ⟨⟨1, ![1]⟩, b⟩, ⟨⟨1, ![1]⟩, c⟩] h) hs (ix2 0 2) = v := by
  refine (Idealize.ShloMosaic.shapeCast_apply _ hs (ix2 0 2) (ix1 2) (by decide +kernel)).trans ?_
  refine (concatenate_apply_piece 0 _ h _ 2 (by simp) ⟨1, ![1]⟩ c rfl rfl 2 rfl (ix1 0) ?_ ?_).trans (hc _)
  · intro b hb; fin_cases b; exact absurd rfl hb
  · rfl
end

end Cert.Proof.Math

end
-- ==== Proof.Value.Equal.lean ====
/-
  The kernel's nine results and the reference's are the same arrays over the extended reals, from memories that agree on the
  arguments: the codes element by element, the products by their closed forms (rows split in two axes on the kernel's side), the
  histories because the two largest absolute values have the same upper bounds.
-/
module

public import proofs.«01_k».proof.Proof.Value.KernelResult
public import proofs.«01_k».proof.Proof.Value.Reference
public import proofs.«01_k».proof.Proof.Value.ReferenceReads
public import proofs.«01_k».proof.Proof.Value.HostMath

@[expose] public section

set_option maxRecDepth 16384

noncomputable section

namespace Cert.Proof.Alg

open Idealize.ShloMosaic Idealize.ShloMosaic.TcCoe Idealize.SL.Sem
open Idealize.ShloMosaic.Pipeline (Dat)
open Idealize.ShloMosaic.ValueIdx
open Cert.Proof.Math
open Cert.KernelIdeal (S1 S1x1 S1x3 S15 S16 S_ S4096x7040 S7040x2176 S4096x2176 S2x2048x7040 S2x2048x2176 S512x8x2176 S512x8x7040)
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

theorem op_x (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) :
    (Cert.ReferenceIdeal.Gen.V m' c Cert.ReferenceIdeal.main_v0 : Vec Ideal S4096x7040 .bf16) = (Cert.KernelIdeal.Gen.V1 m ρ c Cert.KernelIdeal.main_v0 : Vec Ideal S4096x7040 .bf16) :=
  (Cert.ReferenceIdeal.Reads.v0 m' c).trans ((congrArg (fun z : Vec Ideal S2x2048x7040 .bf16 => shapeCast S4096x7040 z _) h0).trans (Cert.KernelIdeal.Result.V1_v0 m ρ c).symm)
theorem op_sx (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) :
    (Cert.ReferenceIdeal.Gen.V m' c Cert.ReferenceIdeal.main_v2 : Vec Ideal S1x1 .f32) = (Cert.KernelIdeal.Gen.V1 m ρ c Cert.KernelIdeal.main_v1 : Vec Ideal S1x1 .f32) :=
  (Cert.ReferenceIdeal.Reads.v2 m' c).trans ((congrArg (fun z : Vec Ideal S_ .f32 => shapeCast S1x1 z _) h9).trans (Cert.KernelIdeal.Result.V1_v1 m ρ c).symm)
theorem op_w (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) :
    (Cert.ReferenceIdeal.Gen.V m' c Cert.ReferenceIdeal.main_arg1 : Vec Ideal S7040x2176 .f32) = (Cert.KernelIdeal.Gen.V3 m ρ c Cert.KernelIdeal.main_arg1 : Vec Ideal S7040x2176 .f32) :=
  (Cert.ReferenceIdeal.Gen.V_main_arg1 m' c).trans (h1.trans (Cert.KernelIdeal.Result.V3_arg1 m ρ c).symm)
theorem op_sw (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) :
    (Cert.ReferenceIdeal.Gen.V m' c Cert.ReferenceIdeal.main_v3 : Vec Ideal S1x1 .f32) = (Cert.KernelIdeal.Gen.V3 m ρ c Cert.KernelIdeal.main_v3 : Vec Ideal S1x1 .f32) :=
  (Cert.ReferenceIdeal.Reads.v3 m' c).trans ((congrArg (fun z : Vec Ideal S_ .f32 => shapeCast S1x1 z _) h10).trans (Cert.KernelIdeal.Result.V3_v3 m ρ c).symm)
theorem op_dy (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) :
    (Cert.ReferenceIdeal.Gen.V m' c Cert.ReferenceIdeal.main_v1 : Vec Ideal S4096x2176 .bf16) = (Cert.KernelIdeal.Gen.V5 m ρ c Cert.KernelIdeal.main_v5 : Vec Ideal S4096x2176 .bf16) :=
  (Cert.ReferenceIdeal.Reads.v1 m' c).trans ((congrArg (fun z : Vec Ideal S2x2048x2176 .bf16 => shapeCast S4096x2176 z _) h2).trans (Cert.KernelIdeal.Result.V5_v5 m ρ c).symm)
theorem op_sdy (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))) :
    (Cert.ReferenceIdeal.Gen.V m' c Cert.ReferenceIdeal.main_v4 : Vec Ideal S1x1 .f32) = (Cert.KernelIdeal.Gen.V5 m ρ c Cert.KernelIdeal.main_v6 : Vec Ideal S1x1 .f32) :=
  (Cert.ReferenceIdeal.Reads.v4 m' c).trans ((congrArg (fun z : Vec Ideal S_ .f32 => shapeCast S1x1 z _) h11).trans (Cert.KernelIdeal.Result.V5_v6 m ρ c).symm)

/-! ## The codes -/

theorem xq_eq (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) :
    Cert.ReferenceIdeal.RefValue.xq m' c = Cert.KernelIdeal.Region0Value.codes (Cert.KernelIdeal.Gen.V1 m ρ) c :=
  funext fun i => congrArg₂ (quant 0xC3E00000#32 0x43E00000#32) (congrFun (op_x m ρ m' c h0) i) (congrFun (op_sx m ρ m' c h9) Cert.KernelIdeal.Region0Value.one11)
theorem wq_eq (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) :
    Cert.ReferenceIdeal.RefValue.wq m' c = Cert.KernelIdeal.Region1Value.codes (Cert.KernelIdeal.Gen.V3 m ρ) c :=
  funext fun i => congrArg₂ (quant 0xC3E00000#32 0x43E00000#32) (congrFun (op_w m ρ m' c h1) i) (congrFun (op_sw m ρ m' c h10) Cert.KernelIdeal.Region1Value.one11)
theorem dyq_eq (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))) :
    Cert.ReferenceIdeal.RefValue.dyq m' c = Cert.KernelIdeal.Region2Value.codes (Cert.KernelIdeal.Gen.V5 m ρ) c :=
  funext fun i => congrArg₂ (quant 0xC7600000#32 0x47600000#32) (congrFun (op_dy m ρ m' c h2) i) (congrFun (op_sdy m ρ m' c h11) Cert.KernelIdeal.Region2Value.one11)

/-! ## The scale products -/

theorem scale_y (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    (Cert.KernelIdeal.Gen.V7 m ρ c Cert.KernelIdeal.main_v15 : Vec Ideal S1x3 .f32) (ix2 0 0) = (Cert.ReferenceIdeal.Gen.V m' c Cert.ReferenceIdeal.main_v6 : Vec Ideal S1x1 .f32) Cert.ReferenceIdeal.RefValue.one11 := by
  refine (congrFun (Cert.KernelIdeal.Result.V7_v15 m ρ c) (ix2 0 0)).trans ?_
  refine Eq.trans ?_ (congrFun (Cert.ReferenceIdeal.Reads.v6 m' c) Cert.ReferenceIdeal.RefValue.one11).symm
  refine Eq.trans ?_ (scalar_cast _ _ _).symm
  refine three_0 _ _ _ _ _ _ fun j => (scalar_bcast _ _ j).trans ?_
  exact congrArg₂ (fun x y : Vec Ideal S_ .f32 => mulf (F := Ideal) (φ := .f32) x y pt0) h6.symm h7.symm
theorem scale_dx (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    (Cert.KernelIdeal.Gen.V7 m ρ c Cert.KernelIdeal.main_v15 : Vec Ideal S1x3 .f32) (ix2 0 1) = (Cert.ReferenceIdeal.Gen.V m' c Cert.ReferenceIdeal.main_v8 : Vec Ideal S1x1 .f32) Cert.ReferenceIdeal.RefValue.one11 := by
  refine (congrFun (Cert.KernelIdeal.Result.V7_v15 m ρ c) (ix2 0 1)).trans ?_
  refine Eq.trans ?_ (congrFun (Cert.ReferenceIdeal.Reads.v8 m' c) Cert.ReferenceIdeal.RefValue.one11).symm
  refine Eq.trans ?_ (scalar_cast _ _ _).symm
  refine three_1 _ _ _ _ _ _ fun j => (scalar_bcast _ _ j).trans ?_
  exact congrArg₂ (fun x y : Vec Ideal S_ .f32 => mulf (F := Ideal) (φ := .f32) x y pt0) h8.symm h7.symm
theorem scale_dw (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) :
    (Cert.KernelIdeal.Gen.V8 m ρ c Cert.KernelIdeal.main_v15 : Vec Ideal S1x3 .f32) (ix2 0 2) = (Cert.ReferenceIdeal.Gen.V m' c Cert.ReferenceIdeal.main_v10 : Vec Ideal S1x1 .f32) Cert.ReferenceIdeal.RefValue.one11 := by
  refine (congrFun (Cert.KernelIdeal.Result.V8_v15 m ρ c) (ix2 0 2)).trans ?_
  refine Eq.trans ?_ (congrFun (Cert.ReferenceIdeal.Reads.v10 m' c) Cert.ReferenceIdeal.RefValue.one11).symm
  refine Eq.trans ?_ (scalar_cast _ _ _).symm
  refine three_2 _ _ _ _ _ _ fun j => (scalar_bcast _ _ j).trans ?_
  exact congrArg₂ (fun x y : Vec Ideal S_ .f32 => mulf (F := Ideal) (φ := .f32) x y pt0) h6.symm h8.symm

/-! ## The products -/

theorem y2_eq (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    Cert.ReferenceIdeal.RefValue.y2 m' c = Cert.KernelIdeal.Region3Value.y2 (Cert.KernelIdeal.Gen.V7 m ρ) c := by
  have e_xq : Cert.ReferenceIdeal.RefValue.xq m' c = Cert.KernelIdeal.Region3Value.xq (Cert.KernelIdeal.Gen.V7 m ρ) c :=
    (xq_eq m ρ m' c h0 h9).trans (Cert.KernelIdeal.Result.V7_codes0 m ρ c).symm
  have e_wq : Cert.ReferenceIdeal.RefValue.wq m' c = Cert.KernelIdeal.Region3Value.wq (Cert.KernelIdeal.Gen.V7 m ρ) c :=
    (wq_eq m ρ m' c h1 h10).trans (Cert.KernelIdeal.Result.V7_codes1 m ρ c).symm
  funext i
  refine congrArg₂ (fun a b : EReal => a * b) (Finset.sum_congr rfl fun k _ => ?_) (scale_y m ρ m' c h6 h7).symm
  exact congrArg₂ (fun a b : EReal => a * b) (congrFun e_xq (ix2 (i 0) k)) (congrFun e_wq (ix2 k (i 1)))
theorem dx2_eq (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    Cert.ReferenceIdeal.RefValue.dx2 m' c = Cert.KernelIdeal.Region3Value.dx2 (Cert.KernelIdeal.Gen.V7 m ρ) c := by
  have e_dyq : Cert.ReferenceIdeal.RefValue.dyq m' c = Cert.KernelIdeal.Region3Value.dyq (Cert.KernelIdeal.Gen.V7 m ρ) c :=
    (dyq_eq m ρ m' c h2 h11).trans (Cert.KernelIdeal.Result.V7_codes2 m ρ c).symm
  have e_wq : Cert.ReferenceIdeal.RefValue.wq m' c = Cert.KernelIdeal.Region3Value.wq (Cert.KernelIdeal.Gen.V7 m ρ) c :=
    (wq_eq m ρ m' c h1 h10).trans (Cert.KernelIdeal.Result.V7_codes1 m ρ c).symm
  funext i
  refine congrArg₂ (fun a b : EReal => a * b) (Finset.sum_congr rfl fun k _ => ?_) (scale_dx m ρ m' c h8 h7).symm
  exact congrArg₂ (fun a b : EReal => a * b) (congrFun e_dyq (ix2 (i 0) k)) (congrFun e_wq (ix2 (i 1) k))
theorem dw_eq (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))) (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) :
    Cert.ReferenceIdeal.RefValue.dw m' c = Cert.KernelIdeal.Region4Value.dw (Cert.KernelIdeal.Gen.V8 m ρ) c := by
  have e_xq : Cert.ReferenceIdeal.RefValue.xq m' c = Cert.KernelIdeal.Region4Value.xq (Cert.KernelIdeal.Gen.V8 m ρ) c :=
    (xq_eq m ρ m' c h0 h9).trans (Cert.KernelIdeal.Result.V8_codes0 m ρ c).symm
  have e_dyq : Cert.ReferenceIdeal.RefValue.dyq m' c = Cert.KernelIdeal.Region4Value.dyq (Cert.KernelIdeal.Gen.V8 m ρ) c :=
    (dyq_eq m ρ m' c h2 h11).trans (Cert.KernelIdeal.Result.V8_codes2 m ρ c).symm
  funext i
  refine congrArg₂ (fun a b : EReal => a * b) (Finset.sum_congr rfl fun k _ => ?_) (scale_dw m ρ m' c h6 h8).symm
  exact congrArg₂ (fun a b : EReal => a * b) (congrFun e_xq (ix2 k (i 0))) (congrFun e_dyq (ix2 k (i 1)))

/-! ## The largest absolute values -/

theorem amax_x (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (i : S1x1.Idx) (j : S_.Idx) :
    (show EReal from ((Cert.KernelIdeal.Gen.dat0 (Cert.KernelIdeal.Gen.V1 m ρ) c).arrAt 3 Cert.KernelIdeal.cfg0.N : Vec Ideal S1x1 .f32) i)
      = (show EReal from (extf .f32 (Host.reduce (FloatOps.maximumf (F := Ideal) (φ := .bf16)) (Host.absf (F := Ideal) (φ := .bf16) (m' ((c.tc : Thread Cert.ReferenceIdeal.nD Cert.ReferenceIdeal.τ).loc Cert.ReferenceIdeal.main_arg0))) (constant (F := Ideal) S_ .bf16 0xFF80#16) Cert.ReferenceIdeal.Gen.reducesTo_S2x2048x7040_S_d0_1_2 Cert.ReferenceIdeal.Gen.h_S_) Cert.ReferenceIdeal.Gen.bitsLt_bf16_f32 : Vec Ideal S_ .f32) j) := by
  refine eq_of_forall_ge_iff fun u => ?_
  rw [Cert.KernelIdeal.Region0Value.idx11 i]
  refine (Cert.KernelIdeal.Region0Value.final_amax_le (Cert.KernelIdeal.Gen.V1 m ρ) c u).trans ?_
  refine Iff.trans ?_ (congrArg (fun a : EReal => a ≤ u) (ext_val (Host.reduce (FloatOps.maximumf (F := Ideal) (φ := .bf16)) (Host.absf (F := Ideal) (φ := .bf16) (m' ((c.tc : Thread Cert.ReferenceIdeal.nD Cert.ReferenceIdeal.τ).loc Cert.ReferenceIdeal.main_arg0))) (constant (F := Ideal) S_ .bf16 0xFF80#16) Cert.ReferenceIdeal.Gen.reducesTo_S2x2048x7040_S_d0_1_2 Cert.ReferenceIdeal.Gen.h_S_) Cert.ReferenceIdeal.Gen.bitsLt_bf16_f32 j)).symm.to_iff
  refine Iff.trans ?_ (hostReduce_le (φ := .bf16) (Host.absf (F := Ideal) (φ := .bf16) (m' ((c.tc : Thread Cert.ReferenceIdeal.nD Cert.ReferenceIdeal.τ).loc Cert.ReferenceIdeal.main_arg0))) 0xFF80#16 Cert.ReferenceIdeal.Gen.reducesTo_S2x2048x7040_S_d0_1_2 Cert.ReferenceIdeal.Gen.h_S_ negInf_bf16 j u).symm
  rw [h0, Cert.KernelIdeal.Result.V1_v0 m ρ c]
  exact forall_shapeCast (α := EReal) _ _ fun a => FloatOps.absf (F := Ideal) (φ := .bf16) a ≤ u
theorem amax_w (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (i : S1x1.Idx) (j : S_.Idx) :
    (show EReal from ((Cert.KernelIdeal.Gen.dat1 (Cert.KernelIdeal.Gen.V3 m ρ) c).arrAt 3 Cert.KernelIdeal.cfg1.N : Vec Ideal S1x1 .f32) i)
      = (show EReal from (Host.reduce (FloatOps.maximumf (F := Ideal) (φ := .f32)) (Host.absf (F := Ideal) (φ := .f32) (m' ((c.tc : Thread Cert.ReferenceIdeal.nD Cert.ReferenceIdeal.τ).loc Cert.ReferenceIdeal.main_arg1))) (constant (F := Ideal) S_ .f32 0xFF800000#32) Cert.ReferenceIdeal.Gen.reducesTo_S7040x2176_S_d0_1 Cert.ReferenceIdeal.Gen.h_S_ : Vec Ideal S_ .f32) j) := by
  refine eq_of_forall_ge_iff fun u => ?_
  rw [Cert.KernelIdeal.Region1Value.idx11 i]
  refine (Cert.KernelIdeal.Region1Value.final_amax_le (Cert.KernelIdeal.Gen.V3 m ρ) c u).trans ?_
  refine Iff.trans ?_ (hostReduce_le (φ := .f32) (Host.absf (F := Ideal) (φ := .f32) (m' ((c.tc : Thread Cert.ReferenceIdeal.nD Cert.ReferenceIdeal.τ).loc Cert.ReferenceIdeal.main_arg1))) 0xFF800000#32 Cert.ReferenceIdeal.Gen.reducesTo_S7040x2176_S_d0_1 Cert.ReferenceIdeal.Gen.h_S_ negInf_f32 j u).symm
  rw [h1, Cert.KernelIdeal.Result.V3_arg1 m ρ c]
  exact Iff.rfl
theorem amax_dy (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (i : S1x1.Idx) (j : S_.Idx) :
    (show EReal from ((Cert.KernelIdeal.Gen.dat2 (Cert.KernelIdeal.Gen.V5 m ρ) c).arrAt 3 Cert.KernelIdeal.cfg2.N : Vec Ideal S1x1 .f32) i)
      = (show EReal from (extf .f32 (Host.reduce (FloatOps.maximumf (F := Ideal) (φ := .bf16)) (Host.absf (F := Ideal) (φ := .bf16) (m' ((c.tc : Thread Cert.ReferenceIdeal.nD Cert.ReferenceIdeal.τ).loc Cert.ReferenceIdeal.main_arg2))) (constant (F := Ideal) S_ .bf16 0xFF80#16) Cert.ReferenceIdeal.Gen.reducesTo_S2x2048x2176_S_d0_1_2 Cert.ReferenceIdeal.Gen.h_S_) Cert.ReferenceIdeal.Gen.bitsLt_bf16_f32 : Vec Ideal S_ .f32) j) := by
  refine eq_of_forall_ge_iff fun u => ?_
  rw [Cert.KernelIdeal.Region2Value.idx11 i]
  refine (Cert.KernelIdeal.Region2Value.final_amax_le (Cert.KernelIdeal.Gen.V5 m ρ) c u).trans ?_
  refine Iff.trans ?_ (congrArg (fun a : EReal => a ≤ u) (ext_val (Host.reduce (FloatOps.maximumf (F := Ideal) (φ := .bf16)) (Host.absf (F := Ideal) (φ := .bf16) (m' ((c.tc : Thread Cert.ReferenceIdeal.nD Cert.ReferenceIdeal.τ).loc Cert.ReferenceIdeal.main_arg2))) (constant (F := Ideal) S_ .bf16 0xFF80#16) Cert.ReferenceIdeal.Gen.reducesTo_S2x2048x2176_S_d0_1_2 Cert.ReferenceIdeal.Gen.h_S_) Cert.ReferenceIdeal.Gen.bitsLt_bf16_f32 j)).symm.to_iff
  refine Iff.trans ?_ (hostReduce_le (φ := .bf16) (Host.absf (F := Ideal) (φ := .bf16) (m' ((c.tc : Thread Cert.ReferenceIdeal.nD Cert.ReferenceIdeal.τ).loc Cert.ReferenceIdeal.main_arg2))) 0xFF80#16 Cert.ReferenceIdeal.Gen.reducesTo_S2x2048x2176_S_d0_1_2 Cert.ReferenceIdeal.Gen.h_S_ negInf_bf16 j u).symm
  rw [h2, Cert.KernelIdeal.Result.V5_v5 m ρ c]
  exact forall_shapeCast (α := EReal) _ _ fun a => FloatOps.absf (F := Ideal) (φ := .bf16) a ≤ u

end Cert.Proof.Alg

end
-- ==== Proof.Value.Algebraic.lean ====
/-
  The reference's nine results, over the extended reals, are what the kernel's program leaves in its own; and from that the claim
  that the two programs compute the same.
-/
module

public import proofs.«01_k».proof.Defs
public import proofs.«01_k».proof.Proof.Value.Equal

@[expose] public section

set_option maxRecDepth 16384

noncomputable section

namespace Cert.Proof.Alg

open Idealize.ShloMosaic Idealize.ShloMosaic.TcCoe Idealize.SL.Sem
open Idealize.ShloMosaic.ValueIdx
open Cert.Proof.Math
open Cert.KernelIdeal (S1 S1x1 S1x3 S15 S16 S_ S4096x7040 S7040x2176 S4096x2176 S2x2048x7040 S2x2048x2176 S512x8x2176 S512x8x7040)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

theorem rows_y (V : (c : Dev Cert.KernelIdeal.nD) → (b : Ref Cert.KernelIdeal.sig .tc) → Buf (Elt Ideal) ((c : Thread Cert.KernelIdeal.nD Cert.KernelIdeal.τ).loc b)) :
    Cert.KernelIdeal.Region3Value.y3 V c = shapeCast S512x8x2176 (Cert.KernelIdeal.Region3Value.y2 V c) (by decide) :=
  funext fun j => (shapeCast_rows (Cert.KernelIdeal.Region3Value.y2 V c) (by decide) j (Cert.KernelIdeal.Region3Value.row3_lt j)).symm

theorem res_y (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    (shapeCast S2x2048x2176 (Cert.ReferenceIdeal.Value.reg_main_v11_3 m' c) Cert.ReferenceIdeal.Gen.shapeCasts_S4096x2176_S2x2048x2176 : Vec Ideal S2x2048x2176 .bf16) = Cert.KernelIdeal.Gen.W10 m ρ c (Proc.devRef .tc Cert.KernelIdeal.main_v18) := by
  refine Eq.trans ?_ (Cert.KernelIdeal.Result.v18 m ρ c).symm
  rw [rows_y, shapeCast_trans _ _ _ Cert.ReferenceIdeal.Gen.shapeCasts_S4096x2176_S2x2048x2176, ← y2_eq m ρ m' c h0 h9 h1 h10 h6 h7]
  exact congrArg (fun z : Vec Ideal S4096x2176 .bf16 => shapeCast S2x2048x2176 z Cert.ReferenceIdeal.Gen.shapeCasts_S4096x2176_S2x2048x2176) (Cert.ReferenceIdeal.RefValue.final_y2 m' c)

theorem rows_dx (V : (c : Dev Cert.KernelIdeal.nD) → (b : Ref Cert.KernelIdeal.sig .tc) → Buf (Elt Ideal) ((c : Thread Cert.KernelIdeal.nD Cert.KernelIdeal.τ).loc b)) :
    Cert.KernelIdeal.Region3Value.dx3 V c = shapeCast S512x8x7040 (Cert.KernelIdeal.Region3Value.dx2 V c) (by decide) :=
  funext fun j => (shapeCast_rows (Cert.KernelIdeal.Region3Value.dx2 V c) (by decide) j (Cert.KernelIdeal.Region3Value.row3_lt j)).symm

theorem res_dx (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    (shapeCast S2x2048x7040 (Cert.ReferenceIdeal.Value.reg_main_v11_4 m' c) Cert.ReferenceIdeal.Gen.shapeCasts_S4096x7040_S2x2048x7040 : Vec Ideal S2x2048x7040 .bf16) = Cert.KernelIdeal.Gen.W10 m ρ c (Proc.devRef .tc Cert.KernelIdeal.main_v19) := by
  refine Eq.trans ?_ (Cert.KernelIdeal.Result.v19 m ρ c).symm
  rw [rows_dx, shapeCast_trans _ _ _ Cert.ReferenceIdeal.Gen.shapeCasts_S4096x7040_S2x2048x7040, ← dx2_eq m ρ m' c h2 h11 h1 h10 h8 h7]
  exact congrArg (fun z : Vec Ideal S4096x7040 .bf16 => shapeCast S2x2048x7040 z Cert.ReferenceIdeal.Gen.shapeCasts_S4096x7040_S2x2048x7040) (Cert.ReferenceIdeal.RefValue.final_dx2 m' c)

theorem res_dw (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))) (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) : (Cert.ReferenceIdeal.Value.reg_main_v11_5 m' c : Vec Ideal S7040x2176 .f32) = Cert.KernelIdeal.Gen.W10 m ρ c (Proc.devRef .tc Cert.KernelIdeal.main_v17) :=
  (Cert.ReferenceIdeal.RefValue.final_dw m' c).trans ((dw_eq m ρ m' c h0 h9 h2 h11 h6 h8).trans (Cert.KernelIdeal.Result.v17 m ρ c).symm)

theorem res_wq (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) : (Cert.ReferenceIdeal.Value.reg_main_v11_1 m' c : Vec Ideal S7040x2176 .fp8e4m3) = Cert.KernelIdeal.Gen.W10 m ρ c (Proc.devRef .tc Cert.KernelIdeal.main_v4_0) :=
  (Cert.ReferenceIdeal.RefValue.final_wq m' c).trans ((wq_eq m ρ m' c h1 h10).trans (Cert.KernelIdeal.Result.v4_0 m ρ c).symm)

theorem res_xq (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) :
    (shapeCast S2x2048x7040 (Cert.ReferenceIdeal.Value.reg_main_v11_0 m' c) Cert.ReferenceIdeal.Gen.shapeCasts_S4096x7040_S2x2048x7040 : Vec Ideal S2x2048x7040 .fp8e4m3) = Cert.KernelIdeal.Gen.W10 m ρ c (Proc.devRef .tc Cert.KernelIdeal.main_v29) :=
  (congrArg (fun z : Vec Ideal S4096x7040 .fp8e4m3 => shapeCast S2x2048x7040 z Cert.ReferenceIdeal.Gen.shapeCasts_S4096x7040_S2x2048x7040)
    ((Cert.ReferenceIdeal.RefValue.final_xq m' c).trans (xq_eq m ρ m' c h0 h9))).trans (Cert.KernelIdeal.Result.v29 m ρ c).symm

theorem res_dyq (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))) :
    (shapeCast S2x2048x2176 (Cert.ReferenceIdeal.Value.reg_main_v11_2 m' c) Cert.ReferenceIdeal.Gen.shapeCasts_S4096x2176_S2x2048x2176 : Vec Ideal S2x2048x2176 .fp8e5m2) = Cert.KernelIdeal.Gen.W10 m ρ c (Proc.devRef .tc Cert.KernelIdeal.main_v30) :=
  (congrArg (fun z : Vec Ideal S4096x2176 .fp8e5m2 => shapeCast S2x2048x2176 z Cert.ReferenceIdeal.Gen.shapeCasts_S4096x2176_S2x2048x2176)
    ((Cert.ReferenceIdeal.RefValue.final_dyq m' c).trans (dyq_eq m ρ m' c h2 h11))).trans (Cert.KernelIdeal.Result.v30 m ρ c).symm

theorem last_x (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) :
    (broadcastInDim S1 ![] Cert.ReferenceIdeal.Gen.bcast_S_S1 (extf .f32 (Host.reduce (FloatOps.maximumf (F := Ideal) (φ := .bf16)) (Host.absf (F := Ideal) (φ := .bf16) (m' ((c.tc : Thread Cert.ReferenceIdeal.nD Cert.ReferenceIdeal.τ).loc Cert.ReferenceIdeal.main_arg0))) (constant (F := Ideal) S_ .bf16 0xFF80#16) Cert.ReferenceIdeal.Gen.reducesTo_S2x2048x7040_S_d0_1_2 Cert.ReferenceIdeal.Gen.h_S_) Cert.ReferenceIdeal.Gen.bitsLt_bf16_f32) : Vec Ideal S1 .f32)
      = shapeCast S1 ((Cert.KernelIdeal.Gen.dat0 (Cert.KernelIdeal.Gen.V1 m ρ) c).arrAt 3 Cert.KernelIdeal.cfg0.N : Vec Ideal S1x1 .f32) Cert.KernelIdeal.Gen.shapeCasts_S1x1_S1 :=
  funext fun j => (scalar_bcast _ _ j).trans (amax_x m ρ m' c h0 _ _).symm

theorem res_hist_x (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))) :
    (concatenate S16 0 [⟨S15, extractStridedSlice S15 ![1] (m' ((c.tc : Thread Cert.ReferenceIdeal.nD Cert.ReferenceIdeal.τ).loc Cert.ReferenceIdeal.main_arg3)) Cert.ReferenceIdeal.Gen.slices_S16_S15_1⟩, ⟨S1, broadcastInDim S1 ![] Cert.ReferenceIdeal.Gen.bcast_S_S1 (extf .f32 (Host.reduce (FloatOps.maximumf (F := Ideal) (φ := .bf16)) (Host.absf (F := Ideal) (φ := .bf16) (m' ((c.tc : Thread Cert.ReferenceIdeal.nD Cert.ReferenceIdeal.τ).loc Cert.ReferenceIdeal.main_arg0))) (constant (F := Ideal) S_ .bf16 0xFF80#16) Cert.ReferenceIdeal.Gen.reducesTo_S2x2048x7040_S_d0_1_2 Cert.ReferenceIdeal.Gen.h_S_) Cert.ReferenceIdeal.Gen.bitsLt_bf16_f32)⟩]
      Cert.ReferenceIdeal.Gen.concatenates_S15_S1_S16_d0 : Vec Ideal S16 .f32) = Cert.KernelIdeal.Gen.W10 m ρ c (Proc.devRef .tc Cert.KernelIdeal.main_v22) := by
  rw [last_x m ρ m' c h0, h3]
  exact (Cert.KernelIdeal.Result.v22 m ρ c).symm

theorem last_w (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) :
    (broadcastInDim S1 ![] Cert.ReferenceIdeal.Gen.bcast_S_S1 (Host.reduce (FloatOps.maximumf (F := Ideal) (φ := .f32)) (Host.absf (F := Ideal) (φ := .f32) (m' ((c.tc : Thread Cert.ReferenceIdeal.nD Cert.ReferenceIdeal.τ).loc Cert.ReferenceIdeal.main_arg1))) (constant (F := Ideal) S_ .f32 0xFF800000#32) Cert.ReferenceIdeal.Gen.reducesTo_S7040x2176_S_d0_1 Cert.ReferenceIdeal.Gen.h_S_) : Vec Ideal S1 .f32)
      = shapeCast S1 ((Cert.KernelIdeal.Gen.dat1 (Cert.KernelIdeal.Gen.V3 m ρ) c).arrAt 3 Cert.KernelIdeal.cfg1.N : Vec Ideal S1x1 .f32) Cert.KernelIdeal.Gen.shapeCasts_S1x1_S1 :=
  funext fun j => (scalar_bcast _ _ j).trans (amax_w m ρ m' c h1 _ _).symm

theorem res_hist_w (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) :
    (concatenate S16 0 [⟨S15, extractStridedSlice S15 ![1] (m' ((c.tc : Thread Cert.ReferenceIdeal.nD Cert.ReferenceIdeal.τ).loc Cert.ReferenceIdeal.main_arg4)) Cert.ReferenceIdeal.Gen.slices_S16_S15_1⟩, ⟨S1, broadcastInDim S1 ![] Cert.ReferenceIdeal.Gen.bcast_S_S1 (Host.reduce (FloatOps.maximumf (F := Ideal) (φ := .f32)) (Host.absf (F := Ideal) (φ := .f32) (m' ((c.tc : Thread Cert.ReferenceIdeal.nD Cert.ReferenceIdeal.τ).loc Cert.ReferenceIdeal.main_arg1))) (constant (F := Ideal) S_ .f32 0xFF800000#32) Cert.ReferenceIdeal.Gen.reducesTo_S7040x2176_S_d0_1 Cert.ReferenceIdeal.Gen.h_S_)⟩]
      Cert.ReferenceIdeal.Gen.concatenates_S15_S1_S16_d0 : Vec Ideal S16 .f32) = Cert.KernelIdeal.Gen.W10 m ρ c (Proc.devRef .tc Cert.KernelIdeal.main_v25) := by
  rw [last_w m ρ m' c h1, h4]
  exact (Cert.KernelIdeal.Result.v25 m ρ c).symm

theorem last_dy (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) :
    (broadcastInDim S1 ![] Cert.ReferenceIdeal.Gen.bcast_S_S1 (extf .f32 (Host.reduce (FloatOps.maximumf (F := Ideal) (φ := .bf16)) (Host.absf (F := Ideal) (φ := .bf16) (m' ((c.tc : Thread Cert.ReferenceIdeal.nD Cert.ReferenceIdeal.τ).loc Cert.ReferenceIdeal.main_arg2))) (constant (F := Ideal) S_ .bf16 0xFF80#16) Cert.ReferenceIdeal.Gen.reducesTo_S2x2048x2176_S_d0_1_2 Cert.ReferenceIdeal.Gen.h_S_) Cert.ReferenceIdeal.Gen.bitsLt_bf16_f32) : Vec Ideal S1 .f32)
      = shapeCast S1 ((Cert.KernelIdeal.Gen.dat2 (Cert.KernelIdeal.Gen.V5 m ρ) c).arrAt 3 Cert.KernelIdeal.cfg2.N : Vec Ideal S1x1 .f32) Cert.KernelIdeal.Gen.shapeCasts_S1x1_S1 :=
  funext fun j => (scalar_bcast _ _ j).trans (amax_dy m ρ m' c h2 _ _).symm

theorem res_hist_dy (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) :
    (concatenate S16 0 [⟨S15, extractStridedSlice S15 ![1] (m' ((c.tc : Thread Cert.ReferenceIdeal.nD Cert.ReferenceIdeal.τ).loc Cert.ReferenceIdeal.main_arg5)) Cert.ReferenceIdeal.Gen.slices_S16_S15_1⟩, ⟨S1, broadcastInDim S1 ![] Cert.ReferenceIdeal.Gen.bcast_S_S1 (extf .f32 (Host.reduce (FloatOps.maximumf (F := Ideal) (φ := .bf16)) (Host.absf (F := Ideal) (φ := .bf16) (m' ((c.tc : Thread Cert.ReferenceIdeal.nD Cert.ReferenceIdeal.τ).loc Cert.ReferenceIdeal.main_arg2))) (constant (F := Ideal) S_ .bf16 0xFF80#16) Cert.ReferenceIdeal.Gen.reducesTo_S2x2048x2176_S_d0_1_2 Cert.ReferenceIdeal.Gen.h_S_) Cert.ReferenceIdeal.Gen.bitsLt_bf16_f32)⟩]
      Cert.ReferenceIdeal.Gen.concatenates_S15_S1_S16_d0 : Vec Ideal S16 .f32) = Cert.KernelIdeal.Gen.W10 m ρ c (Proc.devRef .tc Cert.KernelIdeal.main_v28) := by
  rw [last_dy m ρ m' c h2, h5]
  exact (Cert.KernelIdeal.Result.v28 m ρ c).symm

/-- Over the extended reals the kernel's program and the reference end with equal results. -/
theorem algebraic : Cert.algebraic_KernelIdeal_ReferenceIdeal := by
  intro m ρ m' ρ' _ hagree
  refine ⟨fun c => Cert.KernelIdeal.Gen.W10 m ρ c (Proc.devRef .tc Cert.KernelIdeal.main_v18), fun c => Cert.KernelIdeal.Gen.W10 m ρ c (Proc.devRef .tc Cert.KernelIdeal.main_v19), fun c => Cert.KernelIdeal.Gen.W10 m ρ c (Proc.devRef .tc Cert.KernelIdeal.main_v17), fun c => Cert.KernelIdeal.Gen.W10 m ρ c (Proc.devRef .tc Cert.KernelIdeal.main_v22), fun c => Cert.KernelIdeal.Gen.W10 m ρ c (Proc.devRef .tc Cert.KernelIdeal.main_v25), fun c => Cert.KernelIdeal.Gen.W10 m ρ c (Proc.devRef .tc Cert.KernelIdeal.main_v28), fun c => Cert.KernelIdeal.Gen.W10 m ρ c (Proc.devRef .tc Cert.KernelIdeal.main_v29), fun c => Cert.KernelIdeal.Gen.W10 m ρ c (Proc.devRef .tc Cert.KernelIdeal.main_v4_0), fun c => Cert.KernelIdeal.Gen.W10 m ρ c (Proc.devRef .tc Cert.KernelIdeal.main_v30), ?_, ?_⟩
  · exact (θ_run Cert.KernelIdeal.defs _ _).mono (fun _ h c => ⟨
      h.1 c _ (Cert.KernelIdeal.Gen.mem_uc Cert.KernelIdeal.main_v18 (by decide)),
      h.1 c _ (Cert.KernelIdeal.Gen.mem_uc Cert.KernelIdeal.main_v19 (by decide)),
      h.1 c _ (Cert.KernelIdeal.Gen.mem_uc Cert.KernelIdeal.main_v17 (by decide)),
      h.1 c _ (Cert.KernelIdeal.Gen.mem_uc Cert.KernelIdeal.main_v22 (by decide)),
      h.1 c _ (Cert.KernelIdeal.Gen.mem_uc Cert.KernelIdeal.main_v25 (by decide)),
      h.1 c _ (Cert.KernelIdeal.Gen.mem_uc Cert.KernelIdeal.main_v28 (by decide)),
      h.1 c _ (Cert.KernelIdeal.Gen.mem_uc Cert.KernelIdeal.main_v29 (by decide)),
      h.1 c _ (Cert.KernelIdeal.Gen.mem_uc Cert.KernelIdeal.main_v4_0 (by decide)),
      h.1 c _ (Cert.KernelIdeal.Gen.mem_uc Cert.KernelIdeal.main_v30 (by decide)),
      (h.1 c _ (Cert.KernelIdeal.Gen.mem_uc Cert.KernelIdeal.main_arg0 (by decide))).trans (Cert.KernelIdeal.Gen.W10_main_arg0 m ρ c),
      (h.1 c _ (Cert.KernelIdeal.Gen.mem_uc Cert.KernelIdeal.main_arg1 (by decide))).trans (Cert.KernelIdeal.Gen.W10_main_arg1 m ρ c),
      (h.1 c _ (Cert.KernelIdeal.Gen.mem_uc Cert.KernelIdeal.main_arg2 (by decide))).trans (Cert.KernelIdeal.Gen.W10_main_arg2 m ρ c),
      (h.1 c _ (Cert.KernelIdeal.Gen.mem_uc Cert.KernelIdeal.main_arg3 (by decide))).trans (Cert.KernelIdeal.Gen.W10_main_arg3 m ρ c),
      (h.1 c _ (Cert.KernelIdeal.Gen.mem_uc Cert.KernelIdeal.main_arg4 (by decide))).trans (Cert.KernelIdeal.Gen.W10_main_arg4 m ρ c),
      (h.1 c _ (Cert.KernelIdeal.Gen.mem_uc Cert.KernelIdeal.main_arg5 (by decide))).trans (Cert.KernelIdeal.Gen.W10_main_arg5 m ρ c),
      (h.1 c _ (Cert.KernelIdeal.Gen.mem_uc Cert.KernelIdeal.main_arg6 (by decide))).trans (Cert.KernelIdeal.Gen.W10_main_arg6 m ρ c),
      (h.1 c _ (Cert.KernelIdeal.Gen.mem_uc Cert.KernelIdeal.main_arg7 (by decide))).trans (Cert.KernelIdeal.Gen.W10_main_arg7 m ρ c),
      (h.1 c _ (Cert.KernelIdeal.Gen.mem_uc Cert.KernelIdeal.main_arg8 (by decide))).trans (Cert.KernelIdeal.Gen.W10_main_arg8 m ρ c),
      (h.1 c _ (Cert.KernelIdeal.Gen.mem_uc Cert.KernelIdeal.main_arg9 (by decide))).trans (Cert.KernelIdeal.Gen.W10_main_arg9 m ρ c),
      (h.1 c _ (Cert.KernelIdeal.Gen.mem_uc Cert.KernelIdeal.main_arg10 (by decide))).trans (Cert.KernelIdeal.Gen.W10_main_arg10 m ρ c),
      (h.1 c _ (Cert.KernelIdeal.Gen.mem_uc Cert.KernelIdeal.main_arg11 (by decide))).trans (Cert.KernelIdeal.Gen.W10_main_arg11 m ρ c)⟩) (Cert.KernelIdeal.Gen.run_all m ρ)
  · refine (θ_run Cert.ReferenceIdeal.defs _ _).mono (fun _ h c => ?_) (Cert.ReferenceIdeal.Value.run m' ρ')
    obtain ⟨h0, h1, h2, h3, h4, h5, h6, h7, h8, h9, h10, h11⟩ := hagree c
    obtain ⟨r0, r1, r2, r3, r4, r5, r6, r7, r8, ra⟩ := h c
    exact ⟨r0.trans (res_y m ρ m' c h0 h9 h1 h10 h6 h7), r1.trans (res_dx m ρ m' c h2 h11 h1 h10 h8 h7), r2.trans (res_dw m ρ m' c h0 h9 h2 h11 h6 h8), r3.trans (res_hist_x m ρ m' c h0 h3), r4.trans (res_hist_w m ρ m' c h1 h4), r5.trans (res_hist_dy m ρ m' c h2 h5), r6.trans (res_xq m ρ m' c h0 h9), r7.trans (res_wq m ρ m' c h1 h10), r8.trans (res_dyq m ρ m' c h2 h11), ra⟩

end Cert.Proof.Alg

end
-- ==== Proof.Value.ScalesEqual.lean ====
/-
  The scales and inverse scales the kernel's program derives from the three histories, and the reference's, are the same words:
  step by step, the same operations on the same arguments.
-/
module

public import proofs.«01_k».proof.Proof.Gen.Scales.Run
public import proofs.«01_k».proof.Proof.Gen.ReferenceScales.Run

@[expose] public section

set_option maxRecDepth 16384

noncomputable section

namespace Cert.Proof.ScalesEqual

open Idealize.ShloMosaic Idealize.ShloMosaic.TcCoe Idealize.ShloMosaic.StableHlo Idealize.SL.Sem

variable {F : FTy → Type} [BitOps F]
  (m : (ℓ : Loc Cert.Scales.nD Cert.Scales.τ Cert.Scales.sig) → Buf (Elt F) ℓ)
  (m' : (ℓ : Loc Cert.ReferenceScales.nD Cert.ReferenceScales.τ Cert.ReferenceScales.sig) → Buf (Elt F) ℓ) (c : Dev Cert.Scales.nD)

theorem e_main_call6_v0 :
    Cert.Scales.Value.res_main_call6_v0 (launchContents m c) = Cert.ReferenceScales.Value.res_main_call2_v0 (launchContents m' c) := by
  unfold Cert.Scales.Value.res_main_call6_v0 Cert.ReferenceScales.Value.res_main_call2_v0
  rfl
theorem e_main_call6_v6 :
    Cert.Scales.Value.res_main_call6_v6 (launchContents m c) = Cert.ReferenceScales.Value.res_main_call2_v6 (launchContents m' c) := by
  unfold Cert.Scales.Value.res_main_call6_v6 Cert.ReferenceScales.Value.res_main_call2_v6
  rw [e_main_call6_v0 m m' c]
theorem e_main_call6_v9 :
    Cert.Scales.Value.res_main_call6_v9 (launchContents m c) = Cert.ReferenceScales.Value.res_main_call2_v9 (launchContents m' c) := by
  unfold Cert.Scales.Value.res_main_call6_v9 Cert.ReferenceScales.Value.res_main_call2_v9
  rw [e_main_call6_v6 m m' c]
theorem e_main_call6_v7 :
    Cert.Scales.Value.res_main_call6_v7 (launchContents m c) = Cert.ReferenceScales.Value.res_main_call2_v7 (launchContents m' c) := by
  unfold Cert.Scales.Value.res_main_call6_v7 Cert.ReferenceScales.Value.res_main_call2_v7
  rw [e_main_call6_v6 m m' c]
theorem e_main_v0 (h : m' ((c.tc : Thread Cert.ReferenceScales.nD Cert.ReferenceScales.τ).loc Cert.ReferenceScales.main_arg0) = m ((c.tc : Thread Cert.Scales.nD Cert.Scales.τ).loc Cert.Scales.main_arg0)) :
    Cert.Scales.Value.res_main_v0 (launchContents m c) = Cert.ReferenceScales.Value.res_main_v0 (launchContents m' c) := by
  unfold Cert.Scales.Value.res_main_v0 Cert.ReferenceScales.Value.res_main_v0
  rw [show launchContents m c (Proc.devRef .tc Cert.Scales.main_arg0) = launchContents m' c (Proc.devRef .tc Cert.ReferenceScales.main_arg0) from h.symm]
theorem e_main_call0_v0 (h : m' ((c.tc : Thread Cert.ReferenceScales.nD Cert.ReferenceScales.τ).loc Cert.ReferenceScales.main_arg0) = m ((c.tc : Thread Cert.Scales.nD Cert.Scales.τ).loc Cert.Scales.main_arg0)) :
    Cert.Scales.Value.res_main_call0_v0 (launchContents m c) = Cert.ReferenceScales.Value.res_main_call0_v0 (launchContents m' c) := by
  unfold Cert.Scales.Value.res_main_call0_v0 Cert.ReferenceScales.Value.res_main_call0_v0
  rw [e_main_v0 m m' c h]
theorem e_main_call0_v6 (h : m' ((c.tc : Thread Cert.ReferenceScales.nD Cert.ReferenceScales.τ).loc Cert.ReferenceScales.main_arg0) = m ((c.tc : Thread Cert.Scales.nD Cert.Scales.τ).loc Cert.Scales.main_arg0)) :
    Cert.Scales.Value.res_main_call0_v6 (launchContents m c) = Cert.ReferenceScales.Value.res_main_call0_v6 (launchContents m' c) := by
  unfold Cert.Scales.Value.res_main_call0_v6 Cert.ReferenceScales.Value.res_main_call0_v6
  rw [e_main_call0_v0 m m' c h]
theorem e_main_call0_v9 (h : m' ((c.tc : Thread Cert.ReferenceScales.nD Cert.ReferenceScales.τ).loc Cert.ReferenceScales.main_arg0) = m ((c.tc : Thread Cert.Scales.nD Cert.Scales.τ).loc Cert.Scales.main_arg0)) :
    Cert.Scales.Value.res_main_call0_v9 (launchContents m c) = Cert.ReferenceScales.Value.res_main_call0_v9 (launchContents m' c) := by
  unfold Cert.Scales.Value.res_main_call0_v9 Cert.ReferenceScales.Value.res_main_call0_v9
  rw [e_main_call0_v6 m m' c h]
theorem e_main_call0_v12 (h : m' ((c.tc : Thread Cert.ReferenceScales.nD Cert.ReferenceScales.τ).loc Cert.ReferenceScales.main_arg0) = m ((c.tc : Thread Cert.Scales.nD Cert.Scales.τ).loc Cert.Scales.main_arg0)) :
    Cert.Scales.Value.res_main_call0_v12 (launchContents m c) = Cert.ReferenceScales.Value.res_main_call0_v12 (launchContents m' c) := by
  unfold Cert.Scales.Value.res_main_call0_v12 Cert.ReferenceScales.Value.res_main_call0_v12
  rw [e_main_call0_v9 m m' c h]
theorem e_main_call0_v11 (h : m' ((c.tc : Thread Cert.ReferenceScales.nD Cert.ReferenceScales.τ).loc Cert.ReferenceScales.main_arg0) = m ((c.tc : Thread Cert.Scales.nD Cert.Scales.τ).loc Cert.Scales.main_arg0)) :
    Cert.Scales.Value.res_main_call0_v11 (launchContents m c) = Cert.ReferenceScales.Value.res_main_call0_v11 (launchContents m' c) := by
  unfold Cert.Scales.Value.res_main_call0_v11 Cert.ReferenceScales.Value.res_main_call0_v11
  rw [e_main_call0_v9 m m' c h]
theorem e_main_v4 (h : m' ((c.tc : Thread Cert.ReferenceScales.nD Cert.ReferenceScales.τ).loc Cert.ReferenceScales.main_arg0) = m ((c.tc : Thread Cert.Scales.nD Cert.Scales.τ).loc Cert.Scales.main_arg0)) :
    Cert.Scales.Value.res_main_v4 (launchContents m c) = Cert.ReferenceScales.Value.res_main_v4 (launchContents m' c) := by
  unfold Cert.Scales.Value.res_main_v4 Cert.ReferenceScales.Value.res_main_v4
  rw [e_main_v0 m m' c h, e_main_call0_v12 m m' c h, e_main_call0_v11 m m' c h, e_main_call0_v9 m m' c h]
theorem e_main_call6_v15 (h : m' ((c.tc : Thread Cert.ReferenceScales.nD Cert.ReferenceScales.τ).loc Cert.ReferenceScales.main_arg0) = m ((c.tc : Thread Cert.Scales.nD Cert.Scales.τ).loc Cert.Scales.main_arg0)) :
    Cert.Scales.Value.res_main_call6_v15 (launchContents m c) = Cert.ReferenceScales.Value.res_main_call2_v15 (launchContents m' c) := by
  unfold Cert.Scales.Value.res_main_call6_v15 Cert.ReferenceScales.Value.res_main_call2_v15
  rw [e_main_call6_v9 m m' c, e_main_v4 m m' c h]
theorem e_main_call7_v0 :
    Cert.Scales.Value.res_main_call7_v0 (launchContents m c) = Cert.ReferenceScales.Value.res_main_call6_v0 (launchContents m' c) := by
  unfold Cert.Scales.Value.res_main_call7_v0 Cert.ReferenceScales.Value.res_main_call6_v0
  rfl
theorem e_main_call7_v6 :
    Cert.Scales.Value.res_main_call7_v6 (launchContents m c) = Cert.ReferenceScales.Value.res_main_call6_v6 (launchContents m' c) := by
  unfold Cert.Scales.Value.res_main_call7_v6 Cert.ReferenceScales.Value.res_main_call6_v6
  rw [e_main_call7_v0 m m' c]
theorem e_main_call7_v9 :
    Cert.Scales.Value.res_main_call7_v9 (launchContents m c) = Cert.ReferenceScales.Value.res_main_call6_v9 (launchContents m' c) := by
  unfold Cert.Scales.Value.res_main_call7_v9 Cert.ReferenceScales.Value.res_main_call6_v9
  rw [e_main_call7_v6 m m' c]
theorem e_main_call7_v7 :
    Cert.Scales.Value.res_main_call7_v7 (launchContents m c) = Cert.ReferenceScales.Value.res_main_call6_v7 (launchContents m' c) := by
  unfold Cert.Scales.Value.res_main_call7_v7 Cert.ReferenceScales.Value.res_main_call6_v7
  rw [e_main_call7_v6 m m' c]
theorem e_main_v5 (h : m' ((c.tc : Thread Cert.ReferenceScales.nD Cert.ReferenceScales.τ).loc Cert.ReferenceScales.main_arg1) = m ((c.tc : Thread Cert.Scales.nD Cert.Scales.τ).loc Cert.Scales.main_arg1)) :
    Cert.Scales.Value.res_main_v5 (launchContents m c) = Cert.ReferenceScales.Value.res_main_v8 (launchContents m' c) := by
  unfold Cert.Scales.Value.res_main_v5 Cert.ReferenceScales.Value.res_main_v8
  rw [show launchContents m c (Proc.devRef .tc Cert.Scales.main_arg1) = launchContents m' c (Proc.devRef .tc Cert.ReferenceScales.main_arg1) from h.symm]
theorem e_main_call2_v0 (h : m' ((c.tc : Thread Cert.ReferenceScales.nD Cert.ReferenceScales.τ).loc Cert.ReferenceScales.main_arg1) = m ((c.tc : Thread Cert.Scales.nD Cert.Scales.τ).loc Cert.Scales.main_arg1)) :
    Cert.Scales.Value.res_main_call2_v0 (launchContents m c) = Cert.ReferenceScales.Value.res_main_call4_v0 (launchContents m' c) := by
  unfold Cert.Scales.Value.res_main_call2_v0 Cert.ReferenceScales.Value.res_main_call4_v0
  rw [e_main_v5 m m' c h]
theorem e_main_call2_v6 (h : m' ((c.tc : Thread Cert.ReferenceScales.nD Cert.ReferenceScales.τ).loc Cert.ReferenceScales.main_arg1) = m ((c.tc : Thread Cert.Scales.nD Cert.Scales.τ).loc Cert.Scales.main_arg1)) :
    Cert.Scales.Value.res_main_call2_v6 (launchContents m c) = Cert.ReferenceScales.Value.res_main_call4_v6 (launchContents m' c) := by
  unfold Cert.Scales.Value.res_main_call2_v6 Cert.ReferenceScales.Value.res_main_call4_v6
  rw [e_main_call2_v0 m m' c h]
theorem e_main_call2_v9 (h : m' ((c.tc : Thread Cert.ReferenceScales.nD Cert.ReferenceScales.τ).loc Cert.ReferenceScales.main_arg1) = m ((c.tc : Thread Cert.Scales.nD Cert.Scales.τ).loc Cert.Scales.main_arg1)) :
    Cert.Scales.Value.res_main_call2_v9 (launchContents m c) = Cert.ReferenceScales.Value.res_main_call4_v9 (launchContents m' c) := by
  unfold Cert.Scales.Value.res_main_call2_v9 Cert.ReferenceScales.Value.res_main_call4_v9
  rw [e_main_call2_v6 m m' c h]
theorem e_main_call2_v12 (h : m' ((c.tc : Thread Cert.ReferenceScales.nD Cert.ReferenceScales.τ).loc Cert.ReferenceScales.main_arg1) = m ((c.tc : Thread Cert.Scales.nD Cert.Scales.τ).loc Cert.Scales.main_arg1)) :
    Cert.Scales.Value.res_main_call2_v12 (launchContents m c) = Cert.ReferenceScales.Value.res_main_call4_v12 (launchContents m' c) := by
  unfold Cert.Scales.Value.res_main_call2_v12 Cert.ReferenceScales.Value.res_main_call4_v12
  rw [e_main_call2_v9 m m' c h]
theorem e_main_call2_v11 (h : m' ((c.tc : Thread Cert.ReferenceScales.nD Cert.ReferenceScales.τ).loc Cert.ReferenceScales.main_arg1) = m ((c.tc : Thread Cert.Scales.nD Cert.Scales.τ).loc Cert.Scales.main_arg1)) :
    Cert.Scales.Value.res_main_call2_v11 (launchContents m c) = Cert.ReferenceScales.Value.res_main_call4_v11 (launchContents m' c) := by
  unfold Cert.Scales.Value.res_main_call2_v11 Cert.ReferenceScales.Value.res_main_call4_v11
  rw [e_main_call2_v9 m m' c h]
theorem e_main_v9 (h : m' ((c.tc : Thread Cert.ReferenceScales.nD Cert.ReferenceScales.τ).loc Cert.ReferenceScales.main_arg1) = m ((c.tc : Thread Cert.Scales.nD Cert.Scales.τ).loc Cert.Scales.main_arg1)) :
    Cert.Scales.Value.res_main_v9 (launchContents m c) = Cert.ReferenceScales.Value.res_main_v12 (launchContents m' c) := by
  unfold Cert.Scales.Value.res_main_v9 Cert.ReferenceScales.Value.res_main_v12
  rw [e_main_v5 m m' c h, e_main_call2_v12 m m' c h, e_main_call2_v11 m m' c h, e_main_call2_v9 m m' c h]
theorem e_main_call7_v15 (h : m' ((c.tc : Thread Cert.ReferenceScales.nD Cert.ReferenceScales.τ).loc Cert.ReferenceScales.main_arg1) = m ((c.tc : Thread Cert.Scales.nD Cert.Scales.τ).loc Cert.Scales.main_arg1)) :
    Cert.Scales.Value.res_main_call7_v15 (launchContents m c) = Cert.ReferenceScales.Value.res_main_call6_v15 (launchContents m' c) := by
  unfold Cert.Scales.Value.res_main_call7_v15 Cert.ReferenceScales.Value.res_main_call6_v15
  rw [e_main_call7_v9 m m' c, e_main_v9 m m' c h]
theorem e_main_call8_v0 :
    Cert.Scales.Value.res_main_call8_v0 (launchContents m c) = Cert.ReferenceScales.Value.res_main_call10_v0 (launchContents m' c) := by
  unfold Cert.Scales.Value.res_main_call8_v0 Cert.ReferenceScales.Value.res_main_call10_v0
  rfl
theorem e_main_call8_v6 :
    Cert.Scales.Value.res_main_call8_v6 (launchContents m c) = Cert.ReferenceScales.Value.res_main_call10_v6 (launchContents m' c) := by
  unfold Cert.Scales.Value.res_main_call8_v6 Cert.ReferenceScales.Value.res_main_call10_v6
  rw [e_main_call8_v0 m m' c]
theorem e_main_call8_v9 :
    Cert.Scales.Value.res_main_call8_v9 (launchContents m c) = Cert.ReferenceScales.Value.res_main_call10_v9 (launchContents m' c) := by
  unfold Cert.Scales.Value.res_main_call8_v9 Cert.ReferenceScales.Value.res_main_call10_v9
  rw [e_main_call8_v6 m m' c]
theorem e_main_call8_v7 :
    Cert.Scales.Value.res_main_call8_v7 (launchContents m c) = Cert.ReferenceScales.Value.res_main_call10_v7 (launchContents m' c) := by
  unfold Cert.Scales.Value.res_main_call8_v7 Cert.ReferenceScales.Value.res_main_call10_v7
  rw [e_main_call8_v6 m m' c]
theorem e_main_v10 (h : m' ((c.tc : Thread Cert.ReferenceScales.nD Cert.ReferenceScales.τ).loc Cert.ReferenceScales.main_arg2) = m ((c.tc : Thread Cert.Scales.nD Cert.Scales.τ).loc Cert.Scales.main_arg2)) :
    Cert.Scales.Value.res_main_v10 (launchContents m c) = Cert.ReferenceScales.Value.res_main_v16 (launchContents m' c) := by
  unfold Cert.Scales.Value.res_main_v10 Cert.ReferenceScales.Value.res_main_v16
  rw [show launchContents m c (Proc.devRef .tc Cert.Scales.main_arg2) = launchContents m' c (Proc.devRef .tc Cert.ReferenceScales.main_arg2) from h.symm]
theorem e_main_call4_v0 (h : m' ((c.tc : Thread Cert.ReferenceScales.nD Cert.ReferenceScales.τ).loc Cert.ReferenceScales.main_arg2) = m ((c.tc : Thread Cert.Scales.nD Cert.Scales.τ).loc Cert.Scales.main_arg2)) :
    Cert.Scales.Value.res_main_call4_v0 (launchContents m c) = Cert.ReferenceScales.Value.res_main_call8_v0 (launchContents m' c) := by
  unfold Cert.Scales.Value.res_main_call4_v0 Cert.ReferenceScales.Value.res_main_call8_v0
  rw [e_main_v10 m m' c h]
theorem e_main_call4_v6 (h : m' ((c.tc : Thread Cert.ReferenceScales.nD Cert.ReferenceScales.τ).loc Cert.ReferenceScales.main_arg2) = m ((c.tc : Thread Cert.Scales.nD Cert.Scales.τ).loc Cert.Scales.main_arg2)) :
    Cert.Scales.Value.res_main_call4_v6 (launchContents m c) = Cert.ReferenceScales.Value.res_main_call8_v6 (launchContents m' c) := by
  unfold Cert.Scales.Value.res_main_call4_v6 Cert.ReferenceScales.Value.res_main_call8_v6
  rw [e_main_call4_v0 m m' c h]
theorem e_main_call4_v9 (h : m' ((c.tc : Thread Cert.ReferenceScales.nD Cert.ReferenceScales.τ).loc Cert.ReferenceScales.main_arg2) = m ((c.tc : Thread Cert.Scales.nD Cert.Scales.τ).loc Cert.Scales.main_arg2)) :
    Cert.Scales.Value.res_main_call4_v9 (launchContents m c) = Cert.ReferenceScales.Value.res_main_call8_v9 (launchContents m' c) := by
  unfold Cert.Scales.Value.res_main_call4_v9 Cert.ReferenceScales.Value.res_main_call8_v9
  rw [e_main_call4_v6 m m' c h]
theorem e_main_call4_v12 (h : m' ((c.tc : Thread Cert.ReferenceScales.nD Cert.ReferenceScales.τ).loc Cert.ReferenceScales.main_arg2) = m ((c.tc : Thread Cert.Scales.nD Cert.Scales.τ).loc Cert.Scales.main_arg2)) :
    Cert.Scales.Value.res_main_call4_v12 (launchContents m c) = Cert.ReferenceScales.Value.res_main_call8_v12 (launchContents m' c) := by
  unfold Cert.Scales.Value.res_main_call4_v12 Cert.ReferenceScales.Value.res_main_call8_v12
  rw [e_main_call4_v9 m m' c h]
theorem e_main_call4_v11 (h : m' ((c.tc : Thread Cert.ReferenceScales.nD Cert.ReferenceScales.τ).loc Cert.ReferenceScales.main_arg2) = m ((c.tc : Thread Cert.Scales.nD Cert.Scales.τ).loc Cert.Scales.main_arg2)) :
    Cert.Scales.Value.res_main_call4_v11 (launchContents m c) = Cert.ReferenceScales.Value.res_main_call8_v11 (launchContents m' c) := by
  unfold Cert.Scales.Value.res_main_call4_v11 Cert.ReferenceScales.Value.res_main_call8_v11
  rw [e_main_call4_v9 m m' c h]
theorem e_main_v14 (h : m' ((c.tc : Thread Cert.ReferenceScales.nD Cert.ReferenceScales.τ).loc Cert.ReferenceScales.main_arg2) = m ((c.tc : Thread Cert.Scales.nD Cert.Scales.τ).loc Cert.Scales.main_arg2)) :
    Cert.Scales.Value.res_main_v14 (launchContents m c) = Cert.ReferenceScales.Value.res_main_v20 (launchContents m' c) := by
  unfold Cert.Scales.Value.res_main_v14 Cert.ReferenceScales.Value.res_main_v20
  rw [e_main_v10 m m' c h, e_main_call4_v12 m m' c h, e_main_call4_v11 m m' c h, e_main_call4_v9 m m' c h]
theorem e_main_call8_v15 (h : m' ((c.tc : Thread Cert.ReferenceScales.nD Cert.ReferenceScales.τ).loc Cert.ReferenceScales.main_arg2) = m ((c.tc : Thread Cert.Scales.nD Cert.Scales.τ).loc Cert.Scales.main_arg2)) :
    Cert.Scales.Value.res_main_call8_v15 (launchContents m c) = Cert.ReferenceScales.Value.res_main_call10_v15 (launchContents m' c) := by
  unfold Cert.Scales.Value.res_main_call8_v15 Cert.ReferenceScales.Value.res_main_call10_v15
  rw [e_main_call8_v9 m m' c, e_main_v14 m m' c h]
theorem e_main_call9_v0 :
    Cert.Scales.Value.res_main_call9_v0 (launchContents m c) = Cert.ReferenceScales.Value.res_main_call3_v0 (launchContents m' c) := by
  unfold Cert.Scales.Value.res_main_call9_v0 Cert.ReferenceScales.Value.res_main_call3_v0
  rfl
theorem e_main_call9_v6 :
    Cert.Scales.Value.res_main_call9_v6 (launchContents m c) = Cert.ReferenceScales.Value.res_main_call3_v6 (launchContents m' c) := by
  unfold Cert.Scales.Value.res_main_call9_v6 Cert.ReferenceScales.Value.res_main_call3_v6
  rw [e_main_call9_v0 m m' c]
theorem e_main_call9_v9 :
    Cert.Scales.Value.res_main_call9_v9 (launchContents m c) = Cert.ReferenceScales.Value.res_main_call3_v9 (launchContents m' c) := by
  unfold Cert.Scales.Value.res_main_call9_v9 Cert.ReferenceScales.Value.res_main_call3_v9
  rw [e_main_call9_v6 m m' c]
theorem e_main_call9_v7 :
    Cert.Scales.Value.res_main_call9_v7 (launchContents m c) = Cert.ReferenceScales.Value.res_main_call3_v7 (launchContents m' c) := by
  unfold Cert.Scales.Value.res_main_call9_v7 Cert.ReferenceScales.Value.res_main_call3_v7
  rw [e_main_call9_v6 m m' c]
theorem e_main_call9_v15 (h : m' ((c.tc : Thread Cert.ReferenceScales.nD Cert.ReferenceScales.τ).loc Cert.ReferenceScales.main_arg0) = m ((c.tc : Thread Cert.Scales.nD Cert.Scales.τ).loc Cert.Scales.main_arg0)) :
    Cert.Scales.Value.res_main_call9_v15 (launchContents m c) = Cert.ReferenceScales.Value.res_main_call3_v15 (launchContents m' c) := by
  unfold Cert.Scales.Value.res_main_call9_v15 Cert.ReferenceScales.Value.res_main_call3_v15
  rw [e_main_call9_v9 m m' c, e_main_v4 m m' c h]
theorem e_main_call10_v0 :
    Cert.Scales.Value.res_main_call10_v0 (launchContents m c) = Cert.ReferenceScales.Value.res_main_call7_v0 (launchContents m' c) := by
  unfold Cert.Scales.Value.res_main_call10_v0 Cert.ReferenceScales.Value.res_main_call7_v0
  rfl
theorem e_main_call10_v6 :
    Cert.Scales.Value.res_main_call10_v6 (launchContents m c) = Cert.ReferenceScales.Value.res_main_call7_v6 (launchContents m' c) := by
  unfold Cert.Scales.Value.res_main_call10_v6 Cert.ReferenceScales.Value.res_main_call7_v6
  rw [e_main_call10_v0 m m' c]
theorem e_main_call10_v9 :
    Cert.Scales.Value.res_main_call10_v9 (launchContents m c) = Cert.ReferenceScales.Value.res_main_call7_v9 (launchContents m' c) := by
  unfold Cert.Scales.Value.res_main_call10_v9 Cert.ReferenceScales.Value.res_main_call7_v9
  rw [e_main_call10_v6 m m' c]
theorem e_main_call10_v7 :
    Cert.Scales.Value.res_main_call10_v7 (launchContents m c) = Cert.ReferenceScales.Value.res_main_call7_v7 (launchContents m' c) := by
  unfold Cert.Scales.Value.res_main_call10_v7 Cert.ReferenceScales.Value.res_main_call7_v7
  rw [e_main_call10_v6 m m' c]
theorem e_main_call10_v15 (h : m' ((c.tc : Thread Cert.ReferenceScales.nD Cert.ReferenceScales.τ).loc Cert.ReferenceScales.main_arg1) = m ((c.tc : Thread Cert.Scales.nD Cert.Scales.τ).loc Cert.Scales.main_arg1)) :
    Cert.Scales.Value.res_main_call10_v15 (launchContents m c) = Cert.ReferenceScales.Value.res_main_call7_v15 (launchContents m' c) := by
  unfold Cert.Scales.Value.res_main_call10_v15 Cert.ReferenceScales.Value.res_main_call7_v15
  rw [e_main_call10_v9 m m' c, e_main_v9 m m' c h]
theorem e_main_call11_v0 :
    Cert.Scales.Value.res_main_call11_v0 (launchContents m c) = Cert.ReferenceScales.Value.res_main_call11_v0 (launchContents m' c) := by
  unfold Cert.Scales.Value.res_main_call11_v0 Cert.ReferenceScales.Value.res_main_call11_v0
  rfl
theorem e_main_call11_v6 :
    Cert.Scales.Value.res_main_call11_v6 (launchContents m c) = Cert.ReferenceScales.Value.res_main_call11_v6 (launchContents m' c) := by
  unfold Cert.Scales.Value.res_main_call11_v6 Cert.ReferenceScales.Value.res_main_call11_v6
  rw [e_main_call11_v0 m m' c]
theorem e_main_call11_v9 :
    Cert.Scales.Value.res_main_call11_v9 (launchContents m c) = Cert.ReferenceScales.Value.res_main_call11_v9 (launchContents m' c) := by
  unfold Cert.Scales.Value.res_main_call11_v9 Cert.ReferenceScales.Value.res_main_call11_v9
  rw [e_main_call11_v6 m m' c]
theorem e_main_call11_v7 :
    Cert.Scales.Value.res_main_call11_v7 (launchContents m c) = Cert.ReferenceScales.Value.res_main_call11_v7 (launchContents m' c) := by
  unfold Cert.Scales.Value.res_main_call11_v7 Cert.ReferenceScales.Value.res_main_call11_v7
  rw [e_main_call11_v6 m m' c]
theorem e_main_call11_v15 (h : m' ((c.tc : Thread Cert.ReferenceScales.nD Cert.ReferenceScales.τ).loc Cert.ReferenceScales.main_arg2) = m ((c.tc : Thread Cert.Scales.nD Cert.Scales.τ).loc Cert.Scales.main_arg2)) :
    Cert.Scales.Value.res_main_call11_v15 (launchContents m c) = Cert.ReferenceScales.Value.res_main_call11_v15 (launchContents m' c) := by
  unfold Cert.Scales.Value.res_main_call11_v15 Cert.ReferenceScales.Value.res_main_call11_v15
  rw [e_main_call11_v9 m m' c, e_main_v14 m m' c h]

end Cert.Proof.ScalesEqual

end
-- ==== Proof.Value.ScalesClaim.lean ====
/-
  The claim that the kernel's scales and inverse scales and the reference's are the same words, from `ScalesEqual`'s steps and the
  two programs' runs; and that the two programs leave their arguments and every semaphore as they were.
-/
module

public import proofs.«01_k».proof.Defs
public import proofs.«01_k».proof.Proof.Value.ScalesEqual

@[expose] public section

set_option maxRecDepth 16384

noncomputable section

namespace Cert.Proof.ScalesEqual

open Idealize.ShloMosaic Idealize.ShloMosaic.TcCoe Idealize.SL.Sem

theorem frame_scales : Cert.quiescent_Scales := fun m ρ _ =>
  (θ_run Cert.Scales.defs _ _).mono (fun r h => ⟨fun c => (h c).2.2.2.2.2.2, sem_eq_zero_of_no_sems (by decide) r.2⟩)
    (Cert.Scales.Value.run (F := Bits) m ρ)

theorem frame_reference : Cert.quiescent_ReferenceScales := fun m ρ _ =>
  (θ_run Cert.ReferenceScales.defs _ _).mono (fun r h => ⟨fun c => (h c).2.2.2.2.2.2, sem_eq_zero_of_no_sems (by decide) r.2⟩)
    (Cert.ReferenceScales.Value.run (F := Bits) m ρ)

theorem bitexact : Cert.bitexact_Scales_ReferenceScales := by
  intro m ρ m' ρ' _ hagree
  refine ⟨_, _, _, _, _, _, Cert.Scales.Value.run (F := Bits) m ρ, ?_⟩
  refine (θ_run Cert.ReferenceScales.defs _ _).mono (fun _ h c => ?_) (Cert.ReferenceScales.Value.run (F := Bits) m' ρ')
  obtain ⟨h0, h1, h2⟩ := hagree c
  obtain ⟨r0, r1, r2, r3, r4, r5, ra⟩ := h c
  exact ⟨r0.trans (by rw [e_main_call6_v9 m m' c, e_main_call6_v6 m m' c, e_main_call6_v7 m m' c, e_main_call6_v15 m m' c h0]),
    r1.trans (by rw [e_main_call7_v9 m m' c, e_main_call7_v6 m m' c, e_main_call7_v7 m m' c, e_main_call7_v15 m m' c h1]),
    r2.trans (by rw [e_main_call8_v9 m m' c, e_main_call8_v6 m m' c, e_main_call8_v7 m m' c, e_main_call8_v15 m m' c h2]),
    r3.trans (by rw [e_main_call9_v9 m m' c, e_main_call9_v6 m m' c, e_main_call9_v7 m m' c, e_main_call9_v15 m m' c h0]),
    r4.trans (by rw [e_main_call10_v9 m m' c, e_main_call10_v6 m m' c, e_main_call10_v7 m m' c, e_main_call10_v15 m m' c h1]),
    r5.trans (by rw [e_main_call11_v9 m m' c, e_main_call11_v6 m m' c, e_main_call11_v7 m m' c, e_main_call11_v15 m m' c h2]), ra⟩

end Cert.Proof.ScalesEqual

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Scales
public import proofs.«01_k».proof.Proof.Gen.Scales.Run
public import proofs.«01_k».proof.Proof.Gen.ReferenceScales
public import proofs.«01_k».proof.Proof.Gen.ReferenceScales.Run
public import proofs.«01_k».proof.Proof.KernelRun.Launch
public import proofs.«01_k».proof.Proof.KernelIdealRun.Launch
public import proofs.«01_k».proof.Proof.Value.Algebraic
public import proofs.«01_k».proof.Proof.Value.ScalesClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Scales.Gen.facts,
    Cert.ReferenceScales.Gen.facts,
    fun m ρ _ => Cert.Kernel.Gen.frame m ρ,
    fun m ρ _ => Cert.KernelIdeal.Gen.frame m ρ,
    fun m ρ _ => Cert.ReferenceIdeal.Gen.frame m ρ,
    ScalesEqual.frame_scales,
    ScalesEqual.frame_reference,
    trivial,
    Alg.algebraic,
    ScalesEqual.bitexact⟩

end Cert.Proof

end
